-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddSample (m : (ℓ : Loc Cert.OddSample.nD Cert.OddSample.τ Cert.OddSample.sig) → Buf (Elt Bits) ℓ) : Prop :=
  True

def Pre_OddSampleIdeal (m : (ℓ : Loc Cert.OddSampleIdeal.nD Cert.OddSampleIdeal.τ Cert.OddSampleIdeal.sig) → Buf (Elt Ideal) ℓ) : Prop :=
  True

def Pre_OddSampleRefIdeal (m : (ℓ : Loc Cert.OddSampleRefIdeal.nD Cert.OddSampleRefIdeal.τ Cert.OddSampleRefIdeal.sig) → Buf (Elt Ideal) ℓ) : Prop :=
  True

def Pre_AttnPrompt (m : (ℓ : Loc Cert.AttnPrompt.nD Cert.AttnPrompt.τ Cert.AttnPrompt.sig) → Buf (Elt Bits) ℓ) : Prop :=
  True

def Pre_AttnPromptIdeal (m : (ℓ : Loc Cert.AttnPromptIdeal.nD Cert.AttnPromptIdeal.τ Cert.AttnPromptIdeal.sig) → Buf (Elt Ideal) ℓ) : Prop :=
  True

def Pre_AttnPromptIdeal_finite_prompt [hPre_finite_prompt : Cert.Pre_finite_prompt.Facts] (m : (ℓ : Loc Cert.AttnPromptIdeal.nD Cert.AttnPromptIdeal.τ Cert.AttnPromptIdeal.sig) → Buf (Elt Ideal) ℓ) : Prop :=
  ∀ c : Dev Cert.AttnPromptIdeal.nD,
    (Cert.Pre_finite_prompt.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3)) (m ((c.tc : Thread Cert.AttnPromptIdeal.nD Cert.AttnPromptIdeal.τ).loc Cert.AttnPromptIdeal.main_arg4)) (m ((c.tc : Thread Cert.AttnPromptIdeal.nD Cert.AttnPromptIdeal.τ).loc Cert.AttnPromptIdeal.main_arg5)) (m ((c.tc : Thread Cert.AttnPromptIdeal.nD Cert.AttnPromptIdeal.τ).loc Cert.AttnPromptIdeal.main_arg6)) (m ((c.tc : Thread Cert.AttnPromptIdeal.nD Cert.AttnPromptIdeal.τ).loc Cert.AttnPromptIdeal.main_arg7)) (m ((c.tc : Thread Cert.AttnPromptIdeal.nD Cert.AttnPromptIdeal.τ).loc Cert.AttnPromptIdeal.main_arg8))) = (fun _ => 1#1)

def Pre_AttnPromptRefIdeal (m : (ℓ : Loc Cert.AttnPromptRefIdeal.nD Cert.AttnPromptRefIdeal.τ Cert.AttnPromptRefIdeal.sig) → Buf (Elt Ideal) ℓ) : Prop :=
  True

def Pre_AttnPromptRefIdeal_finite_prompt [hPre_finite_prompt : Cert.Pre_finite_prompt.Facts] (m : (ℓ : Loc Cert.AttnPromptRefIdeal.nD Cert.AttnPromptRefIdeal.τ Cert.AttnPromptRefIdeal.sig) → Buf (Elt Ideal) ℓ) : Prop :=
  ∀ c : Dev Cert.AttnPromptRefIdeal.nD,
    (Cert.Pre_finite_prompt.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3)) (m ((c.tc : Thread Cert.AttnPromptRefIdeal.nD Cert.AttnPromptRefIdeal.τ).loc Cert.AttnPromptRefIdeal.main_arg4)) (m ((c.tc : Thread Cert.AttnPromptRefIdeal.nD Cert.AttnPromptRefIdeal.τ).loc Cert.AttnPromptRefIdeal.main_arg5)) (m ((c.tc : Thread Cert.AttnPromptRefIdeal.nD Cert.AttnPromptRefIdeal.τ).loc Cert.AttnPromptRefIdeal.main_arg6)) (m ((c.tc : Thread Cert.AttnPromptRefIdeal.nD Cert.AttnPromptRefIdeal.τ).loc Cert.AttnPromptRefIdeal.main_arg7)) (m ((c.tc : Thread Cert.AttnPromptRefIdeal.nD Cert.AttnPromptRefIdeal.τ).loc Cert.AttnPromptRefIdeal.main_arg8))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6)
      ∧ r.2.mem ((c.tc : Thread Cert.OddOut.nD Cert.OddOut.τ).loc Cert.OddOut.main_arg7) = m ((c.tc : Thread Cert.OddOut.nD Cert.OddOut.τ).loc Cert.OddOut.main_arg7)
      ∧ r.2.mem ((c.tc : Thread Cert.OddOut.nD Cert.OddOut.τ).loc Cert.OddOut.main_arg8) = m ((c.tc : Thread Cert.OddOut.nD Cert.OddOut.τ).loc Cert.OddOut.main_arg8)
      ∧ r.2.mem ((c.tc : Thread Cert.OddOut.nD Cert.OddOut.τ).loc Cert.OddOut.main_arg9) = m ((c.tc : Thread Cert.OddOut.nD Cert.OddOut.τ).loc Cert.OddOut.main_arg9)
      ∧ r.2.mem ((c.tc : Thread Cert.OddOut.nD Cert.OddOut.τ).loc Cert.OddOut.main_arg10) = m ((c.tc : Thread Cert.OddOut.nD Cert.OddOut.τ).loc Cert.OddOut.main_arg10)
      ∧ r.2.mem ((c.tc : Thread Cert.OddOut.nD Cert.OddOut.τ).loc Cert.OddOut.main_arg11) = m ((c.tc : Thread Cert.OddOut.nD Cert.OddOut.τ).loc Cert.OddOut.main_arg11))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
      ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8)
      ∧ r.2.mem ((c.tc : Thread Cert.OddOutIdeal.nD Cert.OddOutIdeal.τ).loc Cert.OddOutIdeal.main_arg9) = m ((c.tc : Thread Cert.OddOutIdeal.nD Cert.OddOutIdeal.τ).loc Cert.OddOutIdeal.main_arg9)
      ∧ r.2.mem ((c.tc : Thread Cert.OddOutIdeal.nD Cert.OddOutIdeal.τ).loc Cert.OddOutIdeal.main_arg10) = m ((c.tc : Thread Cert.OddOutIdeal.nD Cert.OddOutIdeal.τ).loc Cert.OddOutIdeal.main_arg10)
      ∧ r.2.mem ((c.tc : Thread Cert.OddOutIdeal.nD Cert.OddOutIdeal.τ).loc Cert.OddOutIdeal.main_arg11) = m ((c.tc : Thread Cert.OddOutIdeal.nD Cert.OddOutIdeal.τ).loc Cert.OddOutIdeal.main_arg11))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6)
      ∧ r.2.mem ((c.tc : Thread Cert.OddOutRefIdeal.nD Cert.OddOutRefIdeal.τ).loc Cert.OddOutRefIdeal.main_arg7) = m ((c.tc : Thread Cert.OddOutRefIdeal.nD Cert.OddOutRefIdeal.τ).loc Cert.OddOutRefIdeal.main_arg7)
      ∧ r.2.mem ((c.tc : Thread Cert.OddOutRefIdeal.nD Cert.OddOutRefIdeal.τ).loc Cert.OddOutRefIdeal.main_arg8) = m ((c.tc : Thread Cert.OddOutRefIdeal.nD Cert.OddOutRefIdeal.τ).loc Cert.OddOutRefIdeal.main_arg8)
      ∧ r.2.mem ((c.tc : Thread Cert.OddOutRefIdeal.nD Cert.OddOutRefIdeal.τ).loc Cert.OddOutRefIdeal.main_arg9) = m ((c.tc : Thread Cert.OddOutRefIdeal.nD Cert.OddOutRefIdeal.τ).loc Cert.OddOutRefIdeal.main_arg9)
      ∧ r.2.mem ((c.tc : Thread Cert.OddOutRefIdeal.nD Cert.OddOutRefIdeal.τ).loc Cert.OddOutRefIdeal.main_arg10) = m ((c.tc : Thread Cert.OddOutRefIdeal.nD Cert.OddOutRefIdeal.τ).loc Cert.OddOutRefIdeal.main_arg10)
      ∧ r.2.mem ((c.tc : Thread Cert.OddOutRefIdeal.nD Cert.OddOutRefIdeal.τ).loc Cert.OddOutRefIdeal.main_arg11) = m ((c.tc : Thread Cert.OddOutRefIdeal.nD Cert.OddOutRefIdeal.τ).loc Cert.OddOutRefIdeal.main_arg11))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8)
      ∧ r.2.mem ((c.tc : Thread Cert.EvenOut.nD Cert.EvenOut.τ).loc Cert.EvenOut.main_arg9) = m ((c.tc : Thread Cert.EvenOut.nD Cert.EvenOut.τ).loc Cert.EvenOut.main_arg9)
      ∧ r.2.mem ((c.tc : Thread Cert.EvenOut.nD Cert.EvenOut.τ).loc Cert.EvenOut.main_arg10) = m ((c.tc : Thread Cert.EvenOut.nD Cert.EvenOut.τ).loc Cert.EvenOut.main_arg10)
      ∧ r.2.mem ((c.tc : Thread Cert.EvenOut.nD Cert.EvenOut.τ).loc Cert.EvenOut.main_arg11) = m ((c.tc : Thread Cert.EvenOut.nD Cert.EvenOut.τ).loc Cert.EvenOut.main_arg11)
      ∧ r.2.mem ((c.tc : Thread Cert.EvenOut.nD Cert.EvenOut.τ).loc Cert.EvenOut.main_arg12) = m ((c.tc : Thread Cert.EvenOut.nD Cert.EvenOut.τ).loc Cert.EvenOut.main_arg12))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
      ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
      ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10)
      ∧ r.2.mem ((c.tc : Thread Cert.EvenOutIdeal.nD Cert.EvenOutIdeal.τ).loc Cert.EvenOutIdeal.main_arg11) = m ((c.tc : Thread Cert.EvenOutIdeal.nD Cert.EvenOutIdeal.τ).loc Cert.EvenOutIdeal.main_arg11)
      ∧ r.2.mem ((c.tc : Thread Cert.EvenOutIdeal.nD Cert.EvenOutIdeal.τ).loc Cert.EvenOutIdeal.main_arg12) = m ((c.tc : Thread Cert.EvenOutIdeal.nD Cert.EvenOutIdeal.τ).loc Cert.EvenOutIdeal.main_arg12))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8)
      ∧ r.2.mem ((c.tc : Thread Cert.EvenOutRefIdeal.nD Cert.EvenOutRefIdeal.τ).loc Cert.EvenOutRefIdeal.main_arg9) = m ((c.tc : Thread Cert.EvenOutRefIdeal.nD Cert.EvenOutRefIdeal.τ).loc Cert.EvenOutRefIdeal.main_arg9)
      ∧ r.2.mem ((c.tc : Thread Cert.EvenOutRefIdeal.nD Cert.EvenOutRefIdeal.τ).loc Cert.EvenOutRefIdeal.main_arg10) = m ((c.tc : Thread Cert.EvenOutRefIdeal.nD Cert.EvenOutRefIdeal.τ).loc Cert.EvenOutRefIdeal.main_arg10)
      ∧ r.2.mem ((c.tc : Thread Cert.EvenOutRefIdeal.nD Cert.EvenOutRefIdeal.τ).loc Cert.EvenOutRefIdeal.main_arg11) = m ((c.tc : Thread Cert.EvenOutRefIdeal.nD Cert.EvenOutRefIdeal.τ).loc Cert.EvenOutRefIdeal.main_arg11)
      ∧ r.2.mem ((c.tc : Thread Cert.EvenOutRefIdeal.nD Cert.EvenOutRefIdeal.τ).loc Cert.EvenOutRefIdeal.main_arg12) = m ((c.tc : Thread Cert.EvenOutRefIdeal.nD Cert.EvenOutRefIdeal.τ).loc Cert.EvenOutRefIdeal.main_arg12))
      ∧ r.2.sem = fun _ => 0)

def quiescent_OddSample [hOddSample : Cert.OddSample.Facts] : Prop :=
  ∀ (m : (ℓ : Loc Cert.OddSample.nD Cert.OddSample.τ Cert.OddSample.sig) → Buf (Elt Bits) ℓ) (g : Dev Cert.OddSample.nD → PrngReg), Pre_OddSample m →
    θ_run (Cert.OddSample.defs (F := Bits)) (onTc (τ := Cert.OddSample.τ) (Cert.OddSample.main (F := Bits))) ⟨m, fun _ => 0, g⟩ (fun r => (∀ c : Dev Cert.OddSample.nD,
      r.2.mem ((c.tc : Thread Cert.OddSample.nD Cert.OddSample.τ).loc Cert.OddSample.main_arg0) = m ((c.tc : Thread Cert.OddSample.nD Cert.OddSample.τ).loc Cert.OddSample.main_arg0)
      ∧ r.2.mem ((c.tc : Thread Cert.OddSample.nD Cert.OddSample.τ).loc Cert.OddSample.main_arg1) = m ((c.tc : Thread Cert.OddSample.nD Cert.OddSample.τ).loc Cert.OddSample.main_arg1)
      ∧ r.2.mem ((c.tc : Thread Cert.OddSample.nD Cert.OddSample.τ).loc Cert.OddSample.main_arg2) = m ((c.tc : Thread Cert.OddSample.nD Cert.OddSample.τ).loc Cert.OddSample.main_arg2)
      ∧ r.2.mem ((c.tc : Thread Cert.OddSample.nD Cert.OddSample.τ).loc Cert.OddSample.main_arg3) = m ((c.tc : Thread Cert.OddSample.nD Cert.OddSample.τ).loc Cert.OddSample.main_arg3)
      ∧ r.2.mem ((c.tc : Thread Cert.OddSample.nD Cert.OddSample.τ).loc Cert.OddSample.main_arg4) = m ((c.tc : Thread Cert.OddSample.nD Cert.OddSample.τ).loc Cert.OddSample.main_arg4)
      ∧ r.2.mem ((c.tc : Thread Cert.OddSample.nD Cert.OddSample.τ).loc Cert.OddSample.main_arg5) = m ((c.tc : Thread Cert.OddSample.nD Cert.OddSample.τ).loc Cert.OddSample.main_arg5)
      ∧ r.2.mem ((c.tc : Thread Cert.OddSample.nD Cert.OddSample.τ).loc Cert.OddSample.main_arg6) = m ((c.tc : Thread Cert.OddSample.nD Cert.OddSample.τ).loc Cert.OddSample.main_arg6)
      ∧ r.2.mem ((c.tc : Thread Cert.OddSample.nD Cert.OddSample.τ).loc Cert.OddSample.main_arg7) = m ((c.tc : Thread Cert.OddSample.nD Cert.OddSample.τ).loc Cert.OddSample.main_arg7)
      ∧ r.2.mem ((c.tc : Thread Cert.OddSample.nD Cert.OddSample.τ).loc Cert.OddSample.main_arg8) = m ((c.tc : Thread Cert.OddSample.nD Cert.OddSample.τ).loc Cert.OddSample.main_arg8)
      ∧ r.2.mem ((c.tc : Thread Cert.OddSample.nD Cert.OddSample.τ).loc Cert.OddSample.main_arg9) = m ((c.tc : Thread Cert.OddSample.nD Cert.OddSample.τ).loc Cert.OddSample.main_arg9)
      ∧ r.2.mem ((c.tc : Thread Cert.OddSample.nD Cert.OddSample.τ).loc Cert.OddSample.main_arg10) = m ((c.tc : Thread Cert.OddSample.nD Cert.OddSample.τ).loc Cert.OddSample.main_arg10)
      ∧ r.2.mem ((c.tc : Thread Cert.OddSample.nD Cert.OddSample.τ).loc Cert.OddSample.main_arg11) = m ((c.tc : Thread Cert.OddSample.nD Cert.OddSample.τ).loc Cert.OddSample.main_arg11))
      ∧ r.2.sem = fun _ => 0)

def quiescent_OddSampleIdeal [hOddSampleIdeal : Cert.OddSampleIdeal.Facts] : Prop :=
  ∀ (m : (ℓ : Loc Cert.OddSampleIdeal.nD Cert.OddSampleIdeal.τ Cert.OddSampleIdeal.sig) → Buf (Elt Ideal) ℓ) (g : Dev Cert.OddSampleIdeal.nD → PrngReg), Pre_OddSampleIdeal m →
    θ_run (Cert.OddSampleIdeal.defs (F := Ideal)) (onTc (τ := Cert.OddSampleIdeal.τ) (Cert.OddSampleIdeal.main (F := Ideal))) ⟨m, fun _ => 0, g⟩ (fun r => (∀ c : Dev Cert.OddSampleIdeal.nD,
      r.2.mem ((c.tc : Thread Cert.OddSampleIdeal.nD Cert.OddSampleIdeal.τ).loc Cert.OddSampleIdeal.main_arg0) = m ((c.tc : Thread Cert.OddSampleIdeal.nD Cert.OddSampleIdeal.τ).loc Cert.OddSampleIdeal.main_arg0)
      ∧ r.2.mem ((c.tc : Thread Cert.OddSampleIdeal.nD Cert.OddSampleIdeal.τ).loc Cert.OddSampleIdeal.main_arg1) = m ((c.tc : Thread Cert.OddSampleIdeal.nD Cert.OddSampleIdeal.τ).loc Cert.OddSampleIdeal.main_arg1)
      ∧ r.2.mem ((c.tc : Thread Cert.OddSampleIdeal.nD Cert.OddSampleIdeal.τ).loc Cert.OddSampleIdeal.main_arg2) = m ((c.tc : Thread Cert.OddSampleIdeal.nD Cert.OddSampleIdeal.τ).loc Cert.OddSampleIdeal.main_arg2)
      ∧ r.2.mem ((c.tc : Thread Cert.OddSampleIdeal.nD Cert.OddSampleIdeal.τ).loc Cert.OddSampleIdeal.main_arg3) = m ((c.tc : Thread Cert.OddSampleIdeal.nD Cert.OddSampleIdeal.τ).loc Cert.OddSampleIdeal.main_arg3)
      ∧ r.2.mem ((c.tc : Thread Cert.OddSampleIdeal.nD Cert.OddSampleIdeal.τ).loc Cert.OddSampleIdeal.main_arg4) = m ((c.tc : Thread Cert.OddSampleIdeal.nD Cert.OddSampleIdeal.τ).loc Cert.OddSampleIdeal.main_arg4)
      ∧ r.2.mem ((c.tc : Thread Cert.OddSampleIdeal.nD Cert.OddSampleIdeal.τ).loc Cert.OddSampleIdeal.main_arg5) = m ((c.tc : Thread Cert.OddSampleIdeal.nD Cert.OddSampleIdeal.τ).loc Cert.OddSampleIdeal.main_arg5)
      ∧ r.2.mem ((c.tc : Thread Cert.OddSampleIdeal.nD Cert.OddSampleIdeal.τ).loc Cert.OddSampleIdeal.main_arg6) = m ((c.tc : Thread Cert.OddSampleIdeal.nD Cert.OddSampleIdeal.τ).loc Cert.OddSampleIdeal.main_arg6)
      ∧ r.2.mem ((c.tc : Thread Cert.OddSampleIdeal.nD Cert.OddSampleIdeal.τ).loc Cert.OddSampleIdeal.main_arg7) = m ((c.tc : Thread Cert.OddSampleIdeal.nD Cert.OddSampleIdeal.τ).loc Cert.OddSampleIdeal.main_arg7)
      ∧ r.2.mem ((c.tc : Thread Cert.OddSampleIdeal.nD Cert.OddSampleIdeal.τ).loc Cert.OddSampleIdeal.main_arg8) = m ((c.tc : Thread Cert.OddSampleIdeal.nD Cert.OddSampleIdeal.τ).loc Cert.OddSampleIdeal.main_arg8)
      ∧ r.2.mem ((c.tc : Thread Cert.OddSampleIdeal.nD Cert.OddSampleIdeal.τ).loc Cert.OddSampleIdeal.main_arg9) = m ((c.tc : Thread Cert.OddSampleIdeal.nD Cert.OddSampleIdeal.τ).loc Cert.OddSampleIdeal.main_arg9)
      ∧ r.2.mem ((c.tc : Thread Cert.OddSampleIdeal.nD Cert.OddSampleIdeal.τ).loc Cert.OddSampleIdeal.main_arg10) = m ((c.tc : Thread Cert.OddSampleIdeal.nD Cert.OddSampleIdeal.τ).loc Cert.OddSampleIdeal.main_arg10)
      ∧ r.2.mem ((c.tc : Thread Cert.OddSampleIdeal.nD Cert.OddSampleIdeal.τ).loc Cert.OddSampleIdeal.main_arg11) = m ((c.tc : Thread Cert.OddSampleIdeal.nD Cert.OddSampleIdeal.τ).loc Cert.OddSampleIdeal.main_arg11))
      ∧ r.2.sem = fun _ => 0)

def quiescent_OddSampleRefIdeal [hOddSampleRefIdeal : Cert.OddSampleRefIdeal.Facts] : Prop :=
  ∀ (m : (ℓ : Loc Cert.OddSampleRefIdeal.nD Cert.OddSampleRefIdeal.τ Cert.OddSampleRefIdeal.sig) → Buf (Elt Ideal) ℓ) (g : Dev Cert.OddSampleRefIdeal.nD → PrngReg), Pre_OddSampleRefIdeal m →
    θ_run (Cert.OddSampleRefIdeal.defs (F := Ideal)) (onTc (τ := Cert.OddSampleRefIdeal.τ) (Cert.OddSampleRefIdeal.main (F := Ideal))) ⟨m, fun _ => 0, g⟩ (fun r => (∀ c : Dev Cert.OddSampleRefIdeal.nD,
      r.2.mem ((c.tc : Thread Cert.OddSampleRefIdeal.nD Cert.OddSampleRefIdeal.τ).loc Cert.OddSampleRefIdeal.main_arg0) = m ((c.tc : Thread Cert.OddSampleRefIdeal.nD Cert.OddSampleRefIdeal.τ).loc Cert.OddSampleRefIdeal.main_arg0)
      ∧ r.2.mem ((c.tc : Thread Cert.OddSampleRefIdeal.nD Cert.OddSampleRefIdeal.τ).loc Cert.OddSampleRefIdeal.main_arg1) = m ((c.tc : Thread Cert.OddSampleRefIdeal.nD Cert.OddSampleRefIdeal.τ).loc Cert.OddSampleRefIdeal.main_arg1)
      ∧ r.2.mem ((c.tc : Thread Cert.OddSampleRefIdeal.nD Cert.OddSampleRefIdeal.τ).loc Cert.OddSampleRefIdeal.main_arg2) = m ((c.tc : Thread Cert.OddSampleRefIdeal.nD Cert.OddSampleRefIdeal.τ).loc Cert.OddSampleRefIdeal.main_arg2)
      ∧ r.2.mem ((c.tc : Thread Cert.OddSampleRefIdeal.nD Cert.OddSampleRefIdeal.τ).loc Cert.OddSampleRefIdeal.main_arg3) = m ((c.tc : Thread Cert.OddSampleRefIdeal.nD Cert.OddSampleRefIdeal.τ).loc Cert.OddSampleRefIdeal.main_arg3)
      ∧ r.2.mem ((c.tc : Thread Cert.OddSampleRefIdeal.nD Cert.OddSampleRefIdeal.τ).loc Cert.OddSampleRefIdeal.main_arg4) = m ((c.tc : Thread Cert.OddSampleRefIdeal.nD Cert.OddSampleRefIdeal.τ).loc Cert.OddSampleRefIdeal.main_arg4)
      ∧ r.2.mem ((c.tc : Thread Cert.OddSampleRefIdeal.nD Cert.OddSampleRefIdeal.τ).loc Cert.OddSampleRefIdeal.main_arg5) = m ((c.tc : Thread Cert.OddSampleRefIdeal.nD Cert.OddSampleRefIdeal.τ).loc Cert.OddSampleRefIdeal.main_arg5)
      ∧ r.2.mem ((c.tc : Thread Cert.OddSampleRefIdeal.nD Cert.OddSampleRefIdeal.τ).loc Cert.OddSampleRefIdeal.main_arg6) = m ((c.tc : Thread Cert.OddSampleRefIdeal.nD Cert.OddSampleRefIdeal.τ).loc Cert.OddSampleRefIdeal.main_arg6)
      ∧ r.2.mem ((c.tc : Thread Cert.OddSampleRefIdeal.nD Cert.OddSampleRefIdeal.τ).loc Cert.OddSampleRefIdeal.main_arg7) = m ((c.tc : Thread Cert.OddSampleRefIdeal.nD Cert.OddSampleRefIdeal.τ).loc Cert.OddSampleRefIdeal.main_arg7)
      ∧ r.2.mem ((c.tc : Thread Cert.OddSampleRefIdeal.nD Cert.OddSampleRefIdeal.τ).loc Cert.OddSampleRefIdeal.main_arg8) = m ((c.tc : Thread Cert.OddSampleRefIdeal.nD Cert.OddSampleRefIdeal.τ).loc Cert.OddSampleRefIdeal.main_arg8)
      ∧ r.2.mem ((c.tc : Thread Cert.OddSampleRefIdeal.nD Cert.OddSampleRefIdeal.τ).loc Cert.OddSampleRefIdeal.main_arg9) = m ((c.tc : Thread Cert.OddSampleRefIdeal.nD Cert.OddSampleRefIdeal.τ).loc Cert.OddSampleRefIdeal.main_arg9)
      ∧ r.2.mem ((c.tc : Thread Cert.OddSampleRefIdeal.nD Cert.OddSampleRefIdeal.τ).loc Cert.OddSampleRefIdeal.main_arg10) = m ((c.tc : Thread Cert.OddSampleRefIdeal.nD Cert.OddSampleRefIdeal.τ).loc Cert.OddSampleRefIdeal.main_arg10)
      ∧ r.2.mem ((c.tc : Thread Cert.OddSampleRefIdeal.nD Cert.OddSampleRefIdeal.τ).loc Cert.OddSampleRefIdeal.main_arg11) = m ((c.tc : Thread Cert.OddSampleRefIdeal.nD Cert.OddSampleRefIdeal.τ).loc Cert.OddSampleRefIdeal.main_arg11))
      ∧ r.2.sem = fun _ => 0)

def quiescent_AttnPrompt [hAttnPrompt : Cert.AttnPrompt.Facts] : Prop :=
  ∀ (m : (ℓ : Loc Cert.AttnPrompt.nD Cert.AttnPrompt.τ Cert.AttnPrompt.sig) → Buf (Elt Bits) ℓ) (g : Dev Cert.AttnPrompt.nD → PrngReg), Pre_AttnPrompt m →
    θ_run (Cert.AttnPrompt.defs (F := Bits)) (onTc (τ := Cert.AttnPrompt.τ) (Cert.AttnPrompt.main (F := Bits))) ⟨m, fun _ => 0, g⟩ (fun r => (∀ c : Dev Cert.AttnPrompt.nD,
      r.2.mem ((c.tc : Thread Cert.AttnPrompt.nD Cert.AttnPrompt.τ).loc Cert.AttnPrompt.main_arg0) = m ((c.tc : Thread Cert.AttnPrompt.nD Cert.AttnPrompt.τ).loc Cert.AttnPrompt.main_arg0)
      ∧ r.2.mem ((c.tc : Thread Cert.AttnPrompt.nD Cert.AttnPrompt.τ).loc Cert.AttnPrompt.main_arg1) = m ((c.tc : Thread Cert.AttnPrompt.nD Cert.AttnPrompt.τ).loc Cert.AttnPrompt.main_arg1)
      ∧ r.2.mem ((c.tc : Thread Cert.AttnPrompt.nD Cert.AttnPrompt.τ).loc Cert.AttnPrompt.main_arg2) = m ((c.tc : Thread Cert.AttnPrompt.nD Cert.AttnPrompt.τ).loc Cert.AttnPrompt.main_arg2)
      ∧ r.2.mem ((c.tc : Thread Cert.AttnPrompt.nD Cert.AttnPrompt.τ).loc Cert.AttnPrompt.main_arg3) = m ((c.tc : Thread Cert.AttnPrompt.nD Cert.AttnPrompt.τ).loc Cert.AttnPrompt.main_arg3)
      ∧ r.2.mem ((c.tc : Thread Cert.AttnPrompt.nD Cert.AttnPrompt.τ).loc Cert.AttnPrompt.main_arg4) = m ((c.tc : Thread Cert.AttnPrompt.nD Cert.AttnPrompt.τ).loc Cert.AttnPrompt.main_arg4)
      ∧ r.2.mem ((c.tc : Thread Cert.AttnPrompt.nD Cert.AttnPrompt.τ).loc Cert.AttnPrompt.main_arg5) = m ((c.tc : Thread Cert.AttnPrompt.nD Cert.AttnPrompt.τ).loc Cert.AttnPrompt.main_arg5)
      ∧ r.2.mem ((c.tc : Thread Cert.AttnPrompt.nD Cert.AttnPrompt.τ).loc Cert.AttnPrompt.main_arg6) = m ((c.tc : Thread Cert.AttnPrompt.nD Cert.AttnPrompt.τ).loc Cert.AttnPrompt.main_arg6)
      ∧ r.2.mem ((c.tc : Thread Cert.AttnPrompt.nD Cert.AttnPrompt.τ).loc Cert.AttnPrompt.main_arg7) = m ((c.tc : Thread Cert.AttnPrompt.nD Cert.AttnPrompt.τ).loc Cert.AttnPrompt.main_arg7)
      ∧ r.2.mem ((c.tc : Thread Cert.AttnPrompt.nD Cert.AttnPrompt.τ).loc Cert.AttnPrompt.main_arg8) = m ((c.tc : Thread Cert.AttnPrompt.nD Cert.AttnPrompt.τ).loc Cert.AttnPrompt.main_arg8))
      ∧ r.2.sem = fun _ => 0)

def quiescent_AttnPromptIdeal [hAttnPromptIdeal : Cert.AttnPromptIdeal.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
      ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4)
      ∧ r.2.mem ((c.tc : Thread Cert.AttnPromptIdeal.nD Cert.AttnPromptIdeal.τ).loc Cert.AttnPromptIdeal.main_arg5) = m ((c.tc : Thread Cert.AttnPromptIdeal.nD Cert.AttnPromptIdeal.τ).loc Cert.AttnPromptIdeal.main_arg5)
      ∧ r.2.mem ((c.tc : Thread Cert.AttnPromptIdeal.nD Cert.AttnPromptIdeal.τ).loc Cert.AttnPromptIdeal.main_arg6) = m ((c.tc : Thread Cert.AttnPromptIdeal.nD Cert.AttnPromptIdeal.τ).loc Cert.AttnPromptIdeal.main_arg6)
      ∧ r.2.mem ((c.tc : Thread Cert.AttnPromptIdeal.nD Cert.AttnPromptIdeal.τ).loc Cert.AttnPromptIdeal.main_arg7) = m ((c.tc : Thread Cert.AttnPromptIdeal.nD Cert.AttnPromptIdeal.τ).loc Cert.AttnPromptIdeal.main_arg7)
      ∧ r.2.mem ((c.tc : Thread Cert.AttnPromptIdeal.nD Cert.AttnPromptIdeal.τ).loc Cert.AttnPromptIdeal.main_arg8) = m ((c.tc : Thread Cert.AttnPromptIdeal.nD Cert.AttnPromptIdeal.τ).loc Cert.AttnPromptIdeal.main_arg8))
      ∧ r.2.sem = fun _ => 0)

def quiescent_AttnPromptIdeal_pre_finite_prompt [hAttnPromptIdeal : Cert.AttnPromptIdeal.Facts] [hPre_finite_prompt : Cert.Pre_finite_prompt.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal_finite_prompt m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
      ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4)
      ∧ r.2.mem ((c.tc : Thread Cert.AttnPromptIdeal.nD Cert.AttnPromptIdeal.τ).loc Cert.AttnPromptIdeal.main_arg5) = m ((c.tc : Thread Cert.AttnPromptIdeal.nD Cert.AttnPromptIdeal.τ).loc Cert.AttnPromptIdeal.main_arg5)
      ∧ r.2.mem ((c.tc : Thread Cert.AttnPromptIdeal.nD Cert.AttnPromptIdeal.τ).loc Cert.AttnPromptIdeal.main_arg6) = m ((c.tc : Thread Cert.AttnPromptIdeal.nD Cert.AttnPromptIdeal.τ).loc Cert.AttnPromptIdeal.main_arg6)
      ∧ r.2.mem ((c.tc : Thread Cert.AttnPromptIdeal.nD Cert.AttnPromptIdeal.τ).loc Cert.AttnPromptIdeal.main_arg7) = m ((c.tc : Thread Cert.AttnPromptIdeal.nD Cert.AttnPromptIdeal.τ).loc Cert.AttnPromptIdeal.main_arg7)
      ∧ r.2.mem ((c.tc : Thread Cert.AttnPromptIdeal.nD Cert.AttnPromptIdeal.τ).loc Cert.AttnPromptIdeal.main_arg8) = m ((c.tc : Thread Cert.AttnPromptIdeal.nD Cert.AttnPromptIdeal.τ).loc Cert.AttnPromptIdeal.main_arg8))
      ∧ r.2.sem = fun _ => 0)

def quiescent_AttnPromptRefIdeal [hAttnPromptRefIdeal : Cert.AttnPromptRefIdeal.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3)
      ∧ r.2.mem ((c.tc : Thread Cert.AttnPromptRefIdeal.nD Cert.AttnPromptRefIdeal.τ).loc Cert.AttnPromptRefIdeal.main_arg4) = m ((c.tc : Thread Cert.AttnPromptRefIdeal.nD Cert.AttnPromptRefIdeal.τ).loc Cert.AttnPromptRefIdeal.main_arg4)
      ∧ r.2.mem ((c.tc : Thread Cert.AttnPromptRefIdeal.nD Cert.AttnPromptRefIdeal.τ).loc Cert.AttnPromptRefIdeal.main_arg5) = m ((c.tc : Thread Cert.AttnPromptRefIdeal.nD Cert.AttnPromptRefIdeal.τ).loc Cert.AttnPromptRefIdeal.main_arg5)
      ∧ r.2.mem ((c.tc : Thread Cert.AttnPromptRefIdeal.nD Cert.AttnPromptRefIdeal.τ).loc Cert.AttnPromptRefIdeal.main_arg6) = m ((c.tc : Thread Cert.AttnPromptRefIdeal.nD Cert.AttnPromptRefIdeal.τ).loc Cert.AttnPromptRefIdeal.main_arg6)
      ∧ r.2.mem ((c.tc : Thread Cert.AttnPromptRefIdeal.nD Cert.AttnPromptRefIdeal.τ).loc Cert.AttnPromptRefIdeal.main_arg7) = m ((c.tc : Thread Cert.AttnPromptRefIdeal.nD Cert.AttnPromptRefIdeal.τ).loc Cert.AttnPromptRefIdeal.main_arg7)
      ∧ r.2.mem ((c.tc : Thread Cert.AttnPromptRefIdeal.nD Cert.AttnPromptRefIdeal.τ).loc Cert.AttnPromptRefIdeal.main_arg8) = m ((c.tc : Thread Cert.AttnPromptRefIdeal.nD Cert.AttnPromptRefIdeal.τ).loc Cert.AttnPromptRefIdeal.main_arg8))
      ∧ r.2.sem = fun _ => 0)

def quiescent_AttnPromptRefIdeal_pre_finite_prompt [hAttnPromptRefIdeal : Cert.AttnPromptRefIdeal.Facts] [hPre_finite_prompt : Cert.Pre_finite_prompt.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal_finite_prompt m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3)
      ∧ r.2.mem ((c.tc : Thread Cert.AttnPromptRefIdeal.nD Cert.AttnPromptRefIdeal.τ).loc Cert.AttnPromptRefIdeal.main_arg4) = m ((c.tc : Thread Cert.AttnPromptRefIdeal.nD Cert.AttnPromptRefIdeal.τ).loc Cert.AttnPromptRefIdeal.main_arg4)
      ∧ r.2.mem ((c.tc : Thread Cert.AttnPromptRefIdeal.nD Cert.AttnPromptRefIdeal.τ).loc Cert.AttnPromptRefIdeal.main_arg5) = m ((c.tc : Thread Cert.AttnPromptRefIdeal.nD Cert.AttnPromptRefIdeal.τ).loc Cert.AttnPromptRefIdeal.main_arg5)
      ∧ r.2.mem ((c.tc : Thread Cert.AttnPromptRefIdeal.nD Cert.AttnPromptRefIdeal.τ).loc Cert.AttnPromptRefIdeal.main_arg6) = m ((c.tc : Thread Cert.AttnPromptRefIdeal.nD Cert.AttnPromptRefIdeal.τ).loc Cert.AttnPromptRefIdeal.main_arg6)
      ∧ r.2.mem ((c.tc : Thread Cert.AttnPromptRefIdeal.nD Cert.AttnPromptRefIdeal.τ).loc Cert.AttnPromptRefIdeal.main_arg7) = m ((c.tc : Thread Cert.AttnPromptRefIdeal.nD Cert.AttnPromptRefIdeal.τ).loc Cert.AttnPromptRefIdeal.main_arg7)
      ∧ r.2.mem ((c.tc : Thread Cert.AttnPromptRefIdeal.nD Cert.AttnPromptRefIdeal.τ).loc Cert.AttnPromptRefIdeal.main_arg8) = m ((c.tc : Thread Cert.AttnPromptRefIdeal.nD Cert.AttnPromptRefIdeal.τ).loc Cert.AttnPromptRefIdeal.main_arg8))
      ∧ r.2.sem = fun _ => 0)

def preserves_Attn_AttnIdeal : Prop :=
  IdealRules.named_const.Statement Cert.AttnIdeal.κ "qscale" .f32 0x3E38AA3B#32 (((1 / 8) * (Real.log 2)⁻¹ : ℝ) : EReal)

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)) →
    ∃ (v0 : (c : Dev Cert.AttnIdeal.nD) → Buf (Elt Ideal) ((c.tc : Thread Cert.AttnIdeal.nD Cert.AttnIdeal.τ).loc Cert.AttnIdeal.main_v16)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v63) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v11_0)) (v1 : (c : Dev Cert.EvenInIdeal.nD) → Buf (Elt Ideal) ((c.tc : Thread Cert.EvenInIdeal.nD Cert.EvenInIdeal.τ).loc Cert.EvenInIdeal.main_v11_1)) (v2 : (c : Dev Cert.EvenInIdeal.nD) → Buf (Elt Ideal) ((c.tc : Thread Cert.EvenInIdeal.nD Cert.EvenInIdeal.τ).loc Cert.EvenInIdeal.main_v11_2)) (v3 : (c : Dev Cert.EvenInIdeal.nD) → Buf (Elt Ideal) ((c.tc : Thread Cert.EvenInIdeal.nD Cert.EvenInIdeal.τ).loc Cert.EvenInIdeal.main_v11_3)) (v4 : (c : Dev Cert.EvenInIdeal.nD) → Buf (Elt Ideal) ((c.tc : Thread Cert.EvenInIdeal.nD Cert.EvenInIdeal.τ).loc Cert.EvenInIdeal.main_v11_4)) (v5 : (c : Dev Cert.EvenInIdeal.nD) → Buf (Elt Ideal) ((c.tc : Thread Cert.EvenInIdeal.nD Cert.EvenInIdeal.τ).loc Cert.EvenInIdeal.main_v11_5)) (v6 : (c : Dev Cert.EvenInIdeal.nD) → Buf (Elt Ideal) ((c.tc : Thread Cert.EvenInIdeal.nD Cert.EvenInIdeal.τ).loc Cert.EvenInIdeal.main_v11_6)) (v7 : (c : Dev Cert.EvenInIdeal.nD) → Buf (Elt Ideal) ((c.tc : Thread Cert.EvenInIdeal.nD Cert.EvenInIdeal.τ).loc Cert.EvenInIdeal.main_v11_7)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v11_0) = v0 c
          ∧ r.2.mem ((c.tc : Thread Cert.EvenInIdeal.nD Cert.EvenInIdeal.τ).loc Cert.EvenInIdeal.main_v11_1) = v1 c
          ∧ r.2.mem ((c.tc : Thread Cert.EvenInIdeal.nD Cert.EvenInIdeal.τ).loc Cert.EvenInIdeal.main_v11_2) = v2 c
          ∧ r.2.mem ((c.tc : Thread Cert.EvenInIdeal.nD Cert.EvenInIdeal.τ).loc Cert.EvenInIdeal.main_v11_3) = v3 c
          ∧ r.2.mem ((c.tc : Thread Cert.EvenInIdeal.nD Cert.EvenInIdeal.τ).loc Cert.EvenInIdeal.main_v11_4) = v4 c
          ∧ r.2.mem ((c.tc : Thread Cert.EvenInIdeal.nD Cert.EvenInIdeal.τ).loc Cert.EvenInIdeal.main_v11_5) = v5 c
          ∧ r.2.mem ((c.tc : Thread Cert.EvenInIdeal.nD Cert.EvenInIdeal.τ).loc Cert.EvenInIdeal.main_v11_6) = v6 c
          ∧ r.2.mem ((c.tc : Thread Cert.EvenInIdeal.nD Cert.EvenInIdeal.τ).loc Cert.EvenInIdeal.main_v11_7) = v7 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v39) = v0 c
          ∧ r.2.mem ((c.tc : Thread Cert.EvenInRefIdeal.nD Cert.EvenInRefIdeal.τ).loc Cert.EvenInRefIdeal.main_v41) = v1 c
          ∧ r.2.mem ((c.tc : Thread Cert.EvenInRefIdeal.nD Cert.EvenInRefIdeal.τ).loc Cert.EvenInRefIdeal.main_v32) = v2 c
          ∧ r.2.mem ((c.tc : Thread Cert.EvenInRefIdeal.nD Cert.EvenInRefIdeal.τ).loc Cert.EvenInRefIdeal.main_v42) = v3 c
          ∧ r.2.mem ((c.tc : Thread Cert.EvenInRefIdeal.nD Cert.EvenInRefIdeal.τ).loc Cert.EvenInRefIdeal.main_v43) = v4 c
          ∧ r.2.mem ((c.tc : Thread Cert.EvenInRefIdeal.nD Cert.EvenInRefIdeal.τ).loc Cert.EvenInRefIdeal.main_v45) = v5 c
          ∧ r.2.mem ((c.tc : Thread Cert.EvenInRefIdeal.nD Cert.EvenInRefIdeal.τ).loc Cert.EvenInRefIdeal.main_v47) = v6 c
          ∧ r.2.mem ((c.tc : Thread Cert.EvenInRefIdeal.nD Cert.EvenInRefIdeal.τ).loc Cert.EvenInRefIdeal.main_v34) = v7 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)
      ∧ m' ((c.tc : Thread Cert.OddOutRefIdeal.nD Cert.OddOutRefIdeal.τ).loc Cert.OddOutRefIdeal.main_arg7) = m ((c.tc : Thread Cert.OddOutIdeal.nD Cert.OddOutIdeal.τ).loc Cert.OddOutIdeal.main_arg7)
      ∧ m' ((c.tc : Thread Cert.OddOutRefIdeal.nD Cert.OddOutRefIdeal.τ).loc Cert.OddOutRefIdeal.main_arg8) = m ((c.tc : Thread Cert.OddOutIdeal.nD Cert.OddOutIdeal.τ).loc Cert.OddOutIdeal.main_arg8)
      ∧ m' ((c.tc : Thread Cert.OddOutRefIdeal.nD Cert.OddOutRefIdeal.τ).loc Cert.OddOutRefIdeal.main_arg9) = m ((c.tc : Thread Cert.OddOutIdeal.nD Cert.OddOutIdeal.τ).loc Cert.OddOutIdeal.main_arg9)
      ∧ m' ((c.tc : Thread Cert.OddOutRefIdeal.nD Cert.OddOutRefIdeal.τ).loc Cert.OddOutRefIdeal.main_arg10) = m ((c.tc : Thread Cert.OddOutIdeal.nD Cert.OddOutIdeal.τ).loc Cert.OddOutIdeal.main_arg10)
      ∧ m' ((c.tc : Thread Cert.OddOutRefIdeal.nD Cert.OddOutRefIdeal.τ).loc Cert.OddOutRefIdeal.main_arg11) = m ((c.tc : Thread Cert.OddOutIdeal.nD Cert.OddOutIdeal.τ).loc Cert.OddOutIdeal.main_arg11)) →
    ∃ (v0 : (c : Dev Cert.OddOutIdeal.nD) → Buf (Elt Ideal) ((c.tc : Thread Cert.OddOutIdeal.nD Cert.OddOutIdeal.τ).loc Cert.OddOutIdeal.main_v12)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v12) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
          ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
          ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8)
          ∧ r.2.mem ((c.tc : Thread Cert.OddOutIdeal.nD Cert.OddOutIdeal.τ).loc Cert.OddOutIdeal.main_arg9) = m ((c.tc : Thread Cert.OddOutIdeal.nD Cert.OddOutIdeal.τ).loc Cert.OddOutIdeal.main_arg9)
          ∧ r.2.mem ((c.tc : Thread Cert.OddOutIdeal.nD Cert.OddOutIdeal.τ).loc Cert.OddOutIdeal.main_arg10) = m ((c.tc : Thread Cert.OddOutIdeal.nD Cert.OddOutIdeal.τ).loc Cert.OddOutIdeal.main_arg10)
          ∧ r.2.mem ((c.tc : Thread Cert.OddOutIdeal.nD Cert.OddOutIdeal.τ).loc Cert.OddOutIdeal.main_arg11) = m ((c.tc : Thread Cert.OddOutIdeal.nD Cert.OddOutIdeal.τ).loc Cert.OddOutIdeal.main_arg11))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v56) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6)
          ∧ r.2.mem ((c.tc : Thread Cert.OddOutRefIdeal.nD Cert.OddOutRefIdeal.τ).loc Cert.OddOutRefIdeal.main_arg7) = m' ((c.tc : Thread Cert.OddOutRefIdeal.nD Cert.OddOutRefIdeal.τ).loc Cert.OddOutRefIdeal.main_arg7)
          ∧ r.2.mem ((c.tc : Thread Cert.OddOutRefIdeal.nD Cert.OddOutRefIdeal.τ).loc Cert.OddOutRefIdeal.main_arg8) = m' ((c.tc : Thread Cert.OddOutRefIdeal.nD Cert.OddOutRefIdeal.τ).loc Cert.OddOutRefIdeal.main_arg8)
          ∧ r.2.mem ((c.tc : Thread Cert.OddOutRefIdeal.nD Cert.OddOutRefIdeal.τ).loc Cert.OddOutRefIdeal.main_arg9) = m' ((c.tc : Thread Cert.OddOutRefIdeal.nD Cert.OddOutRefIdeal.τ).loc Cert.OddOutRefIdeal.main_arg9)
          ∧ r.2.mem ((c.tc : Thread Cert.OddOutRefIdeal.nD Cert.OddOutRefIdeal.τ).loc Cert.OddOutRefIdeal.main_arg10) = m' ((c.tc : Thread Cert.OddOutRefIdeal.nD Cert.OddOutRefIdeal.τ).loc Cert.OddOutRefIdeal.main_arg10)
          ∧ r.2.mem ((c.tc : Thread Cert.OddOutRefIdeal.nD Cert.OddOutRefIdeal.τ).loc Cert.OddOutRefIdeal.main_arg11) = m' ((c.tc : Thread Cert.OddOutRefIdeal.nD Cert.OddOutRefIdeal.τ).loc Cert.OddOutRefIdeal.main_arg11))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)
      ∧ m' ((c.tc : Thread Cert.EvenOutRefIdeal.nD Cert.EvenOutRefIdeal.τ).loc Cert.EvenOutRefIdeal.main_arg9) = m ((c.tc : Thread Cert.EvenOutIdeal.nD Cert.EvenOutIdeal.τ).loc Cert.EvenOutIdeal.main_arg9)
      ∧ m' ((c.tc : Thread Cert.EvenOutRefIdeal.nD Cert.EvenOutRefIdeal.τ).loc Cert.EvenOutRefIdeal.main_arg10) = m ((c.tc : Thread Cert.EvenOutIdeal.nD Cert.EvenOutIdeal.τ).loc Cert.EvenOutIdeal.main_arg10)
      ∧ m' ((c.tc : Thread Cert.EvenOutRefIdeal.nD Cert.EvenOutRefIdeal.τ).loc Cert.EvenOutRefIdeal.main_arg11) = m ((c.tc : Thread Cert.EvenOutIdeal.nD Cert.EvenOutIdeal.τ).loc Cert.EvenOutIdeal.main_arg11)
      ∧ m' ((c.tc : Thread Cert.EvenOutRefIdeal.nD Cert.EvenOutRefIdeal.τ).loc Cert.EvenOutRefIdeal.main_arg12) = m ((c.tc : Thread Cert.EvenOutIdeal.nD Cert.EvenOutIdeal.τ).loc Cert.EvenOutIdeal.main_arg12)) →
    ∃ (v0 : (c : Dev Cert.EvenOutIdeal.nD) → Buf (Elt Ideal) ((c.tc : Thread Cert.EvenOutIdeal.nD Cert.EvenOutIdeal.τ).loc Cert.EvenOutIdeal.main_v23_0)) (v1 : (c : Dev Cert.EvenOutIdeal.nD) → Buf (Elt Ideal) ((c.tc : Thread Cert.EvenOutIdeal.nD Cert.EvenOutIdeal.τ).loc Cert.EvenOutIdeal.main_v23_1)) (v2 : (c : Dev Cert.EvenOutIdeal.nD) → Buf (Elt Ideal) ((c.tc : Thread Cert.EvenOutIdeal.nD Cert.EvenOutIdeal.τ).loc Cert.EvenOutIdeal.main_v23_2)) (v3 : (c : Dev Cert.EvenOutIdeal.nD) → Buf (Elt Ideal) ((c.tc : Thread Cert.EvenOutIdeal.nD Cert.EvenOutIdeal.τ).loc Cert.EvenOutIdeal.main_v23_3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v23_0) = v0 c
          ∧ r.2.mem ((c.tc : Thread Cert.EvenOutIdeal.nD Cert.EvenOutIdeal.τ).loc Cert.EvenOutIdeal.main_v23_1) = v1 c
          ∧ r.2.mem ((c.tc : Thread Cert.EvenOutIdeal.nD Cert.EvenOutIdeal.τ).loc Cert.EvenOutIdeal.main_v23_2) = v2 c
          ∧ r.2.mem ((c.tc : Thread Cert.EvenOutIdeal.nD Cert.EvenOutIdeal.τ).loc Cert.EvenOutIdeal.main_v23_3) = v3 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
          ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
          ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10)
          ∧ r.2.mem ((c.tc : Thread Cert.EvenOutIdeal.nD Cert.EvenOutIdeal.τ).loc Cert.EvenOutIdeal.main_arg11) = m ((c.tc : Thread Cert.EvenOutIdeal.nD Cert.EvenOutIdeal.τ).loc Cert.EvenOutIdeal.main_arg11)
          ∧ r.2.mem ((c.tc : Thread Cert.EvenOutIdeal.nD Cert.EvenOutIdeal.τ).loc Cert.EvenOutIdeal.main_arg12) = m ((c.tc : Thread Cert.EvenOutIdeal.nD Cert.EvenOutIdeal.τ).loc Cert.EvenOutIdeal.main_arg12))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v70) = v0 c
          ∧ r.2.mem ((c.tc : Thread Cert.EvenOutRefIdeal.nD Cert.EvenOutRefIdeal.τ).loc Cert.EvenOutRefIdeal.main_v110) = v1 c
          ∧ r.2.mem ((c.tc : Thread Cert.EvenOutRefIdeal.nD Cert.EvenOutRefIdeal.τ).loc Cert.EvenOutRefIdeal.main_v111) = v2 c
          ∧ r.2.mem ((c.tc : Thread Cert.EvenOutRefIdeal.nD Cert.EvenOutRefIdeal.τ).loc Cert.EvenOutRefIdeal.main_v113) = v3 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8)
          ∧ r.2.mem ((c.tc : Thread Cert.EvenOutRefIdeal.nD Cert.EvenOutRefIdeal.τ).loc Cert.EvenOutRefIdeal.main_arg9) = m' ((c.tc : Thread Cert.EvenOutRefIdeal.nD Cert.EvenOutRefIdeal.τ).loc Cert.EvenOutRefIdeal.main_arg9)
          ∧ r.2.mem ((c.tc : Thread Cert.EvenOutRefIdeal.nD Cert.EvenOutRefIdeal.τ).loc Cert.EvenOutRefIdeal.main_arg10) = m' ((c.tc : Thread Cert.EvenOutRefIdeal.nD Cert.EvenOutRefIdeal.τ).loc Cert.EvenOutRefIdeal.main_arg10)
          ∧ r.2.mem ((c.tc : Thread Cert.EvenOutRefIdeal.nD Cert.EvenOutRefIdeal.τ).loc Cert.EvenOutRefIdeal.main_arg11) = m' ((c.tc : Thread Cert.EvenOutRefIdeal.nD Cert.EvenOutRefIdeal.τ).loc Cert.EvenOutRefIdeal.main_arg11)
          ∧ r.2.mem ((c.tc : Thread Cert.EvenOutRefIdeal.nD Cert.EvenOutRefIdeal.τ).loc Cert.EvenOutRefIdeal.main_arg12) = m' ((c.tc : Thread Cert.EvenOutRefIdeal.nD Cert.EvenOutRefIdeal.τ).loc Cert.EvenOutRefIdeal.main_arg12))

def preserves_OddSample_OddSampleIdeal : Prop :=
  True

def algebraic_OddSampleIdeal_OddSampleRefIdeal [hOddSampleIdeal : Cert.OddSampleIdeal.Facts] [hOddSampleRefIdeal : Cert.OddSampleRefIdeal.Facts] : Prop :=
  ∀ (m : (ℓ : Loc Cert.OddSampleIdeal.nD Cert.OddSampleIdeal.τ Cert.OddSampleIdeal.sig) → Buf (Elt Ideal) ℓ) (g : Dev Cert.OddSampleIdeal.nD → PrngReg)
    (m' : (ℓ : Loc Cert.OddSampleRefIdeal.nD Cert.OddSampleRefIdeal.τ Cert.OddSampleRefIdeal.sig) → Buf (Elt Ideal) ℓ) (g' : Dev Cert.OddSampleRefIdeal.nD → PrngReg), Pre_OddSampleIdeal m →
    (∀ c : Dev Cert.OddSampleIdeal.nD,
      m' ((c.tc : Thread Cert.OddSampleRefIdeal.nD Cert.OddSampleRefIdeal.τ).loc Cert.OddSampleRefIdeal.main_arg0) = m ((c.tc : Thread Cert.OddSampleIdeal.nD Cert.OddSampleIdeal.τ).loc Cert.OddSampleIdeal.main_arg0)
      ∧ m' ((c.tc : Thread Cert.OddSampleRefIdeal.nD Cert.OddSampleRefIdeal.τ).loc Cert.OddSampleRefIdeal.main_arg1) = m ((c.tc : Thread Cert.OddSampleIdeal.nD Cert.OddSampleIdeal.τ).loc Cert.OddSampleIdeal.main_arg1)
      ∧ m' ((c.tc : Thread Cert.OddSampleRefIdeal.nD Cert.OddSampleRefIdeal.τ).loc Cert.OddSampleRefIdeal.main_arg2) = m ((c.tc : Thread Cert.OddSampleIdeal.nD Cert.OddSampleIdeal.τ).loc Cert.OddSampleIdeal.main_arg2)
      ∧ m' ((c.tc : Thread Cert.OddSampleRefIdeal.nD Cert.OddSampleRefIdeal.τ).loc Cert.OddSampleRefIdeal.main_arg3) = m ((c.tc : Thread Cert.OddSampleIdeal.nD Cert.OddSampleIdeal.τ).loc Cert.OddSampleIdeal.main_arg3)
      ∧ m' ((c.tc : Thread Cert.OddSampleRefIdeal.nD Cert.OddSampleRefIdeal.τ).loc Cert.OddSampleRefIdeal.main_arg4) = m ((c.tc : Thread Cert.OddSampleIdeal.nD Cert.OddSampleIdeal.τ).loc Cert.OddSampleIdeal.main_arg4)
      ∧ m' ((c.tc : Thread Cert.OddSampleRefIdeal.nD Cert.OddSampleRefIdeal.τ).loc Cert.OddSampleRefIdeal.main_arg5) = m ((c.tc : Thread Cert.OddSampleIdeal.nD Cert.OddSampleIdeal.τ).loc Cert.OddSampleIdeal.main_arg5)
      ∧ m' ((c.tc : Thread Cert.OddSampleRefIdeal.nD Cert.OddSampleRefIdeal.τ).loc Cert.OddSampleRefIdeal.main_arg6) = m ((c.tc : Thread Cert.OddSampleIdeal.nD Cert.OddSampleIdeal.τ).loc Cert.OddSampleIdeal.main_arg6)
      ∧ m' ((c.tc : Thread Cert.OddSampleRefIdeal.nD Cert.OddSampleRefIdeal.τ).loc Cert.OddSampleRefIdeal.main_arg7) = m ((c.tc : Thread Cert.OddSampleIdeal.nD Cert.OddSampleIdeal.τ).loc Cert.OddSampleIdeal.main_arg7)
      ∧ m' ((c.tc : Thread Cert.OddSampleRefIdeal.nD Cert.OddSampleRefIdeal.τ).loc Cert.OddSampleRefIdeal.main_arg8) = m ((c.tc : Thread Cert.OddSampleIdeal.nD Cert.OddSampleIdeal.τ).loc Cert.OddSampleIdeal.main_arg8)
      ∧ m' ((c.tc : Thread Cert.OddSampleRefIdeal.nD Cert.OddSampleRefIdeal.τ).loc Cert.OddSampleRefIdeal.main_arg9) = m ((c.tc : Thread Cert.OddSampleIdeal.nD Cert.OddSampleIdeal.τ).loc Cert.OddSampleIdeal.main_arg9)
      ∧ m' ((c.tc : Thread Cert.OddSampleRefIdeal.nD Cert.OddSampleRefIdeal.τ).loc Cert.OddSampleRefIdeal.main_arg10) = m ((c.tc : Thread Cert.OddSampleIdeal.nD Cert.OddSampleIdeal.τ).loc Cert.OddSampleIdeal.main_arg10)
      ∧ m' ((c.tc : Thread Cert.OddSampleRefIdeal.nD Cert.OddSampleRefIdeal.τ).loc Cert.OddSampleRefIdeal.main_arg11) = m ((c.tc : Thread Cert.OddSampleIdeal.nD Cert.OddSampleIdeal.τ).loc Cert.OddSampleIdeal.main_arg11)) →
    ∃ (v0 : (c : Dev Cert.OddSampleIdeal.nD) → Buf (Elt Ideal) ((c.tc : Thread Cert.OddSampleIdeal.nD Cert.OddSampleIdeal.τ).loc Cert.OddSampleIdeal.main_v12)),
      θ_run (Cert.OddSampleIdeal.defs (F := Ideal)) (onTc (τ := Cert.OddSampleIdeal.τ) (Cert.OddSampleIdeal.main (F := Ideal))) ⟨m, fun _ => 0, g⟩ (fun r => ∀ c : Dev Cert.OddSampleIdeal.nD,
          r.2.mem ((c.tc : Thread Cert.OddSampleIdeal.nD Cert.OddSampleIdeal.τ).loc Cert.OddSampleIdeal.main_v12) = v0 c
          ∧ r.2.mem ((c.tc : Thread Cert.OddSampleIdeal.nD Cert.OddSampleIdeal.τ).loc Cert.OddSampleIdeal.main_arg0) = m ((c.tc : Thread Cert.OddSampleIdeal.nD Cert.OddSampleIdeal.τ).loc Cert.OddSampleIdeal.main_arg0)
          ∧ r.2.mem ((c.tc : Thread Cert.OddSampleIdeal.nD Cert.OddSampleIdeal.τ).loc Cert.OddSampleIdeal.main_arg1) = m ((c.tc : Thread Cert.OddSampleIdeal.nD Cert.OddSampleIdeal.τ).loc Cert.OddSampleIdeal.main_arg1)
          ∧ r.2.mem ((c.tc : Thread Cert.OddSampleIdeal.nD Cert.OddSampleIdeal.τ).loc Cert.OddSampleIdeal.main_arg2) = m ((c.tc : Thread Cert.OddSampleIdeal.nD Cert.OddSampleIdeal.τ).loc Cert.OddSampleIdeal.main_arg2)
          ∧ r.2.mem ((c.tc : Thread Cert.OddSampleIdeal.nD Cert.OddSampleIdeal.τ).loc Cert.OddSampleIdeal.main_arg3) = m ((c.tc : Thread Cert.OddSampleIdeal.nD Cert.OddSampleIdeal.τ).loc Cert.OddSampleIdeal.main_arg3)
          ∧ r.2.mem ((c.tc : Thread Cert.OddSampleIdeal.nD Cert.OddSampleIdeal.τ).loc Cert.OddSampleIdeal.main_arg4) = m ((c.tc : Thread Cert.OddSampleIdeal.nD Cert.OddSampleIdeal.τ).loc Cert.OddSampleIdeal.main_arg4)
          ∧ r.2.mem ((c.tc : Thread Cert.OddSampleIdeal.nD Cert.OddSampleIdeal.τ).loc Cert.OddSampleIdeal.main_arg5) = m ((c.tc : Thread Cert.OddSampleIdeal.nD Cert.OddSampleIdeal.τ).loc Cert.OddSampleIdeal.main_arg5)
          ∧ r.2.mem ((c.tc : Thread Cert.OddSampleIdeal.nD Cert.OddSampleIdeal.τ).loc Cert.OddSampleIdeal.main_arg6) = m ((c.tc : Thread Cert.OddSampleIdeal.nD Cert.OddSampleIdeal.τ).loc Cert.OddSampleIdeal.main_arg6)
          ∧ r.2.mem ((c.tc : Thread Cert.OddSampleIdeal.nD Cert.OddSampleIdeal.τ).loc Cert.OddSampleIdeal.main_arg7) = m ((c.tc : Thread Cert.OddSampleIdeal.nD Cert.OddSampleIdeal.τ).loc Cert.OddSampleIdeal.main_arg7)
          ∧ r.2.mem ((c.tc : Thread Cert.OddSampleIdeal.nD Cert.OddSampleIdeal.τ).loc Cert.OddSampleIdeal.main_arg8) = m ((c.tc : Thread Cert.OddSampleIdeal.nD Cert.OddSampleIdeal.τ).loc Cert.OddSampleIdeal.main_arg8)
          ∧ r.2.mem ((c.tc : Thread Cert.OddSampleIdeal.nD Cert.OddSampleIdeal.τ).loc Cert.OddSampleIdeal.main_arg9) = m ((c.tc : Thread Cert.OddSampleIdeal.nD Cert.OddSampleIdeal.τ).loc Cert.OddSampleIdeal.main_arg9)
          ∧ r.2.mem ((c.tc : Thread Cert.OddSampleIdeal.nD Cert.OddSampleIdeal.τ).loc Cert.OddSampleIdeal.main_arg10) = m ((c.tc : Thread Cert.OddSampleIdeal.nD Cert.OddSampleIdeal.τ).loc Cert.OddSampleIdeal.main_arg10)
          ∧ r.2.mem ((c.tc : Thread Cert.OddSampleIdeal.nD Cert.OddSampleIdeal.τ).loc Cert.OddSampleIdeal.main_arg11) = m ((c.tc : Thread Cert.OddSampleIdeal.nD Cert.OddSampleIdeal.τ).loc Cert.OddSampleIdeal.main_arg11))
      ∧ θ_run (Cert.OddSampleRefIdeal.defs (F := Ideal)) (onTc (τ := Cert.OddSampleRefIdeal.τ) (Cert.OddSampleRefIdeal.main (F := Ideal))) ⟨m', fun _ => 0, g'⟩ (fun r => ∀ c : Dev Cert.OddSampleRefIdeal.nD,
          r.2.mem ((c.tc : Thread Cert.OddSampleRefIdeal.nD Cert.OddSampleRefIdeal.τ).loc Cert.OddSampleRefIdeal.main_v61) = v0 c
          ∧ r.2.mem ((c.tc : Thread Cert.OddSampleRefIdeal.nD Cert.OddSampleRefIdeal.τ).loc Cert.OddSampleRefIdeal.main_arg0) = m' ((c.tc : Thread Cert.OddSampleRefIdeal.nD Cert.OddSampleRefIdeal.τ).loc Cert.OddSampleRefIdeal.main_arg0)
          ∧ r.2.mem ((c.tc : Thread Cert.OddSampleRefIdeal.nD Cert.OddSampleRefIdeal.τ).loc Cert.OddSampleRefIdeal.main_arg1) = m' ((c.tc : Thread Cert.OddSampleRefIdeal.nD Cert.OddSampleRefIdeal.τ).loc Cert.OddSampleRefIdeal.main_arg1)
          ∧ r.2.mem ((c.tc : Thread Cert.OddSampleRefIdeal.nD Cert.OddSampleRefIdeal.τ).loc Cert.OddSampleRefIdeal.main_arg2) = m' ((c.tc : Thread Cert.OddSampleRefIdeal.nD Cert.OddSampleRefIdeal.τ).loc Cert.OddSampleRefIdeal.main_arg2)
          ∧ r.2.mem ((c.tc : Thread Cert.OddSampleRefIdeal.nD Cert.OddSampleRefIdeal.τ).loc Cert.OddSampleRefIdeal.main_arg3) = m' ((c.tc : Thread Cert.OddSampleRefIdeal.nD Cert.OddSampleRefIdeal.τ).loc Cert.OddSampleRefIdeal.main_arg3)
          ∧ r.2.mem ((c.tc : Thread Cert.OddSampleRefIdeal.nD Cert.OddSampleRefIdeal.τ).loc Cert.OddSampleRefIdeal.main_arg4) = m' ((c.tc : Thread Cert.OddSampleRefIdeal.nD Cert.OddSampleRefIdeal.τ).loc Cert.OddSampleRefIdeal.main_arg4)
          ∧ r.2.mem ((c.tc : Thread Cert.OddSampleRefIdeal.nD Cert.OddSampleRefIdeal.τ).loc Cert.OddSampleRefIdeal.main_arg5) = m' ((c.tc : Thread Cert.OddSampleRefIdeal.nD Cert.OddSampleRefIdeal.τ).loc Cert.OddSampleRefIdeal.main_arg5)
          ∧ r.2.mem ((c.tc : Thread Cert.OddSampleRefIdeal.nD Cert.OddSampleRefIdeal.τ).loc Cert.OddSampleRefIdeal.main_arg6) = m' ((c.tc : Thread Cert.OddSampleRefIdeal.nD Cert.OddSampleRefIdeal.τ).loc Cert.OddSampleRefIdeal.main_arg6)
          ∧ r.2.mem ((c.tc : Thread Cert.OddSampleRefIdeal.nD Cert.OddSampleRefIdeal.τ).loc Cert.OddSampleRefIdeal.main_arg7) = m' ((c.tc : Thread Cert.OddSampleRefIdeal.nD Cert.OddSampleRefIdeal.τ).loc Cert.OddSampleRefIdeal.main_arg7)
          ∧ r.2.mem ((c.tc : Thread Cert.OddSampleRefIdeal.nD Cert.OddSampleRefIdeal.τ).loc Cert.OddSampleRefIdeal.main_arg8) = m' ((c.tc : Thread Cert.OddSampleRefIdeal.nD Cert.OddSampleRefIdeal.τ).loc Cert.OddSampleRefIdeal.main_arg8)
          ∧ r.2.mem ((c.tc : Thread Cert.OddSampleRefIdeal.nD Cert.OddSampleRefIdeal.τ).loc Cert.OddSampleRefIdeal.main_arg9) = m' ((c.tc : Thread Cert.OddSampleRefIdeal.nD Cert.OddSampleRefIdeal.τ).loc Cert.OddSampleRefIdeal.main_arg9)
          ∧ r.2.mem ((c.tc : Thread Cert.OddSampleRefIdeal.nD Cert.OddSampleRefIdeal.τ).loc Cert.OddSampleRefIdeal.main_arg10) = m' ((c.tc : Thread Cert.OddSampleRefIdeal.nD Cert.OddSampleRefIdeal.τ).loc Cert.OddSampleRefIdeal.main_arg10)
          ∧ r.2.mem ((c.tc : Thread Cert.OddSampleRefIdeal.nD Cert.OddSampleRefIdeal.τ).loc Cert.OddSampleRefIdeal.main_arg11) = m' ((c.tc : Thread Cert.OddSampleRefIdeal.nD Cert.OddSampleRefIdeal.τ).loc Cert.OddSampleRefIdeal.main_arg11))

def preserves_AttnPrompt_AttnPromptIdeal : Prop :=
  IdealRules.named_const.Statement Cert.AttnPromptIdeal.κ "qscale" .f32 0x3E38AA3B#32 (((1 / 8) * (Real.log 2)⁻¹ : ℝ) : EReal)

def algebraic_AttnPromptIdeal_AttnPromptRefIdeal_pre_finite_prompt [hAttnPromptIdeal : Cert.AttnPromptIdeal.Facts] [hAttnPromptRefIdeal : Cert.AttnPromptRefIdeal.Facts] [hPre_finite_prompt : Cert.Pre_finite_prompt.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg)
    (m' : (ℓ : Loc Cert.AttnPromptRefIdeal.nD Cert.AttnPromptRefIdeal.τ Cert.AttnPromptRefIdeal.sig) → Buf (Elt Ideal) ℓ) (g' : Dev Cert.AttnPromptRefIdeal.nD → PrngReg), Pre_AttnPromptIdeal_finite_prompt m →
    (∀ c : Dev Cert.AttnPromptIdeal.nD,
      m' ((c.tc : Thread Cert.AttnPromptRefIdeal.nD Cert.AttnPromptRefIdeal.τ).loc Cert.AttnPromptRefIdeal.main_arg0) = m ((c.tc : Thread Cert.AttnPromptIdeal.nD Cert.AttnPromptIdeal.τ).loc Cert.AttnPromptIdeal.main_arg0)
      ∧ m' ((c.tc : Thread Cert.AttnPromptRefIdeal.nD Cert.AttnPromptRefIdeal.τ).loc Cert.AttnPromptRefIdeal.main_arg1) = m ((c.tc : Thread Cert.AttnPromptIdeal.nD Cert.AttnPromptIdeal.τ).loc Cert.AttnPromptIdeal.main_arg1)
      ∧ m' ((c.tc : Thread Cert.AttnPromptRefIdeal.nD Cert.AttnPromptRefIdeal.τ).loc Cert.AttnPromptRefIdeal.main_arg2) = m ((c.tc : Thread Cert.AttnPromptIdeal.nD Cert.AttnPromptIdeal.τ).loc Cert.AttnPromptIdeal.main_arg2)
      ∧ m' ((c.tc : Thread Cert.AttnPromptRefIdeal.nD Cert.AttnPromptRefIdeal.τ).loc Cert.AttnPromptRefIdeal.main_arg3) = m ((c.tc : Thread Cert.AttnPromptIdeal.nD Cert.AttnPromptIdeal.τ).loc Cert.AttnPromptIdeal.main_arg3)
      ∧ m' ((c.tc : Thread Cert.AttnPromptRefIdeal.nD Cert.AttnPromptRefIdeal.τ).loc Cert.AttnPromptRefIdeal.main_arg4) = m ((c.tc : Thread Cert.AttnPromptIdeal.nD Cert.AttnPromptIdeal.τ).loc Cert.AttnPromptIdeal.main_arg4)
      ∧ m' ((c.tc : Thread Cert.AttnPromptRefIdeal.nD Cert.AttnPromptRefIdeal.τ).loc Cert.AttnPromptRefIdeal.main_arg5) = m ((c.tc : Thread Cert.AttnPromptIdeal.nD Cert.AttnPromptIdeal.τ).loc Cert.AttnPromptIdeal.main_arg5)
      ∧ m' ((c.tc : Thread Cert.AttnPromptRefIdeal.nD Cert.AttnPromptRefIdeal.τ).loc Cert.AttnPromptRefIdeal.main_arg6) = m ((c.tc : Thread Cert.AttnPromptIdeal.nD Cert.AttnPromptIdeal.τ).loc Cert.AttnPromptIdeal.main_arg6)
      ∧ m' ((c.tc : Thread Cert.AttnPromptRefIdeal.nD Cert.AttnPromptRefIdeal.τ).loc Cert.AttnPromptRefIdeal.main_arg7) = m ((c.tc : Thread Cert.AttnPromptIdeal.nD Cert.AttnPromptIdeal.τ).loc Cert.AttnPromptIdeal.main_arg7)
      ∧ m' ((c.tc : Thread Cert.AttnPromptRefIdeal.nD Cert.AttnPromptRefIdeal.τ).loc Cert.AttnPromptRefIdeal.main_arg8) = m ((c.tc : Thread Cert.AttnPromptIdeal.nD Cert.AttnPromptIdeal.τ).loc Cert.AttnPromptIdeal.main_arg8)) →
    ∃ (v0 : (c : Dev Cert.AttnPromptIdeal.nD) → Buf (Elt Ideal) ((c.tc : Thread Cert.AttnPromptIdeal.nD Cert.AttnPromptIdeal.τ).loc Cert.AttnPromptIdeal.main_v10)),
      θ_run (Cert.AttnPromptIdeal.defs (F := Ideal)) (onTc (τ := Cert.AttnPromptIdeal.τ) (Cert.AttnPromptIdeal.main (F := Ideal))) ⟨m, fun _ => 0, g⟩ (fun r => ∀ c : Dev Cert.AttnPromptIdeal.nD,
          r.2.mem ((c.tc : Thread Cert.AttnPromptIdeal.nD Cert.AttnPromptIdeal.τ).loc Cert.AttnPromptIdeal.main_v10) = v0 c
          ∧ r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
          ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
          ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
          ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
          ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4)
          ∧ r.2.mem ((c.tc : Thread Cert.AttnPromptIdeal.nD Cert.AttnPromptIdeal.τ).loc Cert.AttnPromptIdeal.main_arg5) = m ((c.tc : Thread Cert.AttnPromptIdeal.nD Cert.AttnPromptIdeal.τ).loc Cert.AttnPromptIdeal.main_arg5)
          ∧ r.2.mem ((c.tc : Thread Cert.AttnPromptIdeal.nD Cert.AttnPromptIdeal.τ).loc Cert.AttnPromptIdeal.main_arg6) = m ((c.tc : Thread Cert.AttnPromptIdeal.nD Cert.AttnPromptIdeal.τ).loc Cert.AttnPromptIdeal.main_arg6)
          ∧ r.2.mem ((c.tc : Thread Cert.AttnPromptIdeal.nD Cert.AttnPromptIdeal.τ).loc Cert.AttnPromptIdeal.main_arg7) = m ((c.tc : Thread Cert.AttnPromptIdeal.nD Cert.AttnPromptIdeal.τ).loc Cert.AttnPromptIdeal.main_arg7)
          ∧ r.2.mem ((c.tc : Thread Cert.AttnPromptIdeal.nD Cert.AttnPromptIdeal.τ).loc Cert.AttnPromptIdeal.main_arg8) = m ((c.tc : Thread Cert.AttnPromptIdeal.nD Cert.AttnPromptIdeal.τ).loc Cert.AttnPromptIdeal.main_arg8))
      ∧ θ_run (Cert.AttnPromptRefIdeal.defs (F := Ideal)) (onTc (τ := Cert.AttnPromptRefIdeal.τ) (Cert.AttnPromptRefIdeal.main (F := Ideal))) ⟨m', fun _ => 0, g'⟩ (fun r => ∀ c : Dev Cert.AttnPromptRefIdeal.nD,
          r.2.mem ((c.tc : Thread Cert.AttnPromptRefIdeal.nD Cert.AttnPromptRefIdeal.τ).loc Cert.AttnPromptRefIdeal.main_v59) = v0 c
          ∧ r.2.mem ((c.tc : Thread Cert.AttnPromptRefIdeal.nD Cert.AttnPromptRefIdeal.τ).loc Cert.AttnPromptRefIdeal.main_arg0) = m' ((c.tc : Thread Cert.AttnPromptRefIdeal.nD Cert.AttnPromptRefIdeal.τ).loc Cert.AttnPromptRefIdeal.main_arg0)
          ∧ r.2.mem ((c.tc : Thread Cert.AttnPromptRefIdeal.nD Cert.AttnPromptRefIdeal.τ).loc Cert.AttnPromptRefIdeal.main_arg1) = m' ((c.tc : Thread Cert.AttnPromptRefIdeal.nD Cert.AttnPromptRefIdeal.τ).loc Cert.AttnPromptRefIdeal.main_arg1)
          ∧ r.2.mem ((c.tc : Thread Cert.AttnPromptRefIdeal.nD Cert.AttnPromptRefIdeal.τ).loc Cert.AttnPromptRefIdeal.main_arg2) = m' ((c.tc : Thread Cert.AttnPromptRefIdeal.nD Cert.AttnPromptRefIdeal.τ).loc Cert.AttnPromptRefIdeal.main_arg2)
          ∧ r.2.mem ((c.tc : Thread Cert.AttnPromptRefIdeal.nD Cert.AttnPromptRefIdeal.τ).loc Cert.AttnPromptRefIdeal.main_arg3) = m' ((c.tc : Thread Cert.AttnPromptRefIdeal.nD Cert.AttnPromptRefIdeal.τ).loc Cert.AttnPromptRefIdeal.main_arg3)
          ∧ r.2.mem ((c.tc : Thread Cert.AttnPromptRefIdeal.nD Cert.AttnPromptRefIdeal.τ).loc Cert.AttnPromptRefIdeal.main_arg4) = m' ((c.tc : Thread Cert.AttnPromptRefIdeal.nD Cert.AttnPromptRefIdeal.τ).loc Cert.AttnPromptRefIdeal.main_arg4)
          ∧ r.2.mem ((c.tc : Thread Cert.AttnPromptRefIdeal.nD Cert.AttnPromptRefIdeal.τ).loc Cert.AttnPromptRefIdeal.main_arg5) = m' ((c.tc : Thread Cert.AttnPromptRefIdeal.nD Cert.AttnPromptRefIdeal.τ).loc Cert.AttnPromptRefIdeal.main_arg5)
          ∧ r.2.mem ((c.tc : Thread Cert.AttnPromptRefIdeal.nD Cert.AttnPromptRefIdeal.τ).loc Cert.AttnPromptRefIdeal.main_arg6) = m' ((c.tc : Thread Cert.AttnPromptRefIdeal.nD Cert.AttnPromptRefIdeal.τ).loc Cert.AttnPromptRefIdeal.main_arg6)
          ∧ r.2.mem ((c.tc : Thread Cert.AttnPromptRefIdeal.nD Cert.AttnPromptRefIdeal.τ).loc Cert.AttnPromptRefIdeal.main_arg7) = m' ((c.tc : Thread Cert.AttnPromptRefIdeal.nD Cert.AttnPromptRefIdeal.τ).loc Cert.AttnPromptRefIdeal.main_arg7)
          ∧ r.2.mem ((c.tc : Thread Cert.AttnPromptRefIdeal.nD Cert.AttnPromptRefIdeal.τ).loc Cert.AttnPromptRefIdeal.main_arg8) = m' ((c.tc : Thread Cert.AttnPromptRefIdeal.nD Cert.AttnPromptRefIdeal.τ).loc Cert.AttnPromptRefIdeal.main_arg8))

def Claim : Prop :=
  ∃ (hAttn : Cert.Attn.Facts) (hAttnIdeal : Cert.AttnIdeal.Facts) (hAttnRefIdeal : Cert.AttnRefIdeal.Facts) (hEvenIn : Cert.EvenIn.Facts) (hEvenInIdeal : Cert.EvenInIdeal.Facts) (hEvenInRefIdeal : Cert.EvenInRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hOddSample : Cert.OddSample.Facts) (hOddSampleIdeal : Cert.OddSampleIdeal.Facts) (hOddSampleRefIdeal : Cert.OddSampleRefIdeal.Facts) (hAttnPrompt : Cert.AttnPrompt.Facts) (hAttnPromptIdeal : Cert.AttnPromptIdeal.Facts) (hAttnPromptRefIdeal : Cert.AttnPromptRefIdeal.Facts) (hPre_finite_inputs : Cert.Pre_finite_inputs.Facts) (hPre_finite_prompt : Cert.Pre_finite_prompt.Facts),
    quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddSample (hOddSample := hOddSample)
    ∧ quiescent_OddSampleIdeal (hOddSampleIdeal := hOddSampleIdeal)
    ∧ quiescent_OddSampleRefIdeal (hOddSampleRefIdeal := hOddSampleRefIdeal)
    ∧ quiescent_AttnPrompt (hAttnPrompt := hAttnPrompt)
    ∧ quiescent_AttnPromptIdeal (hAttnPromptIdeal := hAttnPromptIdeal)
    ∧ quiescent_AttnPromptIdeal_pre_finite_prompt (hAttnPromptIdeal := hAttnPromptIdeal) (hPre_finite_prompt := hPre_finite_prompt)
    ∧ quiescent_AttnPromptRefIdeal (hAttnPromptRefIdeal := hAttnPromptRefIdeal)
    ∧ quiescent_AttnPromptRefIdeal_pre_finite_prompt (hAttnPromptRefIdeal := hAttnPromptRefIdeal) (hPre_finite_prompt := hPre_finite_prompt)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
    ∧ preserves_EvenIn_EvenInIdeal
    ∧ algebraic_EvenInIdeal_EvenInRefIdeal (hEvenInIdeal := hEvenInIdeal) (hEvenInRefIdeal := hEvenInRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddSample_OddSampleIdeal
    ∧ algebraic_OddSampleIdeal_OddSampleRefIdeal (hOddSampleIdeal := hOddSampleIdeal) (hOddSampleRefIdeal := hOddSampleRefIdeal)
    ∧ preserves_AttnPrompt_AttnPromptIdeal
    ∧ algebraic_AttnPromptIdeal_AttnPromptRefIdeal_pre_finite_prompt (hAttnPromptIdeal := hAttnPromptIdeal) (hAttnPromptRefIdeal := hAttnPromptRefIdeal) (hPre_finite_prompt := hPre_finite_prompt)
-- ==== Pre_finite_inputs.lean ====
abbrev S4096x1024 : Shape := ⟨2, ![4096, 1024]⟩
abbrev S4x1x256x8x2x64 : Shape := ⟨6, ![4, 1, 256, 8, 2, 64]⟩
abbrev S4x1x256x8x128 : Shape := ⟨5, ![4, 1, 256, 8, 128]⟩
abbrev S1x64 : Shape := ⟨2, ![1, 64]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1x256x8x2x64 : S_.BroadcastsInDim S4x1x256x8x2x64 (![] : Fin 0 → Fin S4x1x256x8x2x64.rank)
  reducesTo_S4x1x256x8x2x64_S_d0_1_2_3_4_5 : S4x1x256x8x2x64.ReducesTo [0, 1, 2, 3, 4, 5] S_
  bitsLt_bf16_f32 : FTy.bits .bf16 < FTy.bits .f32
  bcast_S_S4x1x256x8x128 : S_.BroadcastsInDim S4x1x256x8x128 (![] : Fin 0 → Fin S4x1x256x8x128.rank)
  reducesTo_S4x1x256x8x128_S_d0_1_2_3_4 : S4x1x256x8x128.ReducesTo [0, 1, 2, 3, 4] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg8 : FVec F S1x64 .f32) (main_arg9 : FVec F S1x64 .f32) (main_v30 : IVec S_ 1) (main_v33 : IVec S1x64 1) (main_c_11 : IVec S_ 1) : IVec S_ 1 :=
  let main_v34 : IVec S_ 1 := (fun x v => Host.reduce IntOp.andi x v reducesTo_S1x64_S_d0_1 h_S_) main_v33 main_c_11
  let main_v35 : IVec S_ 1 := andi main_v30 main_v34
  let main_v36 : FVec F S1x64 .f32 := Host.absf main_arg8
  let main_cst_12 : FVec F S_ .f32 := constant S_ .f32 0x7F800000#32
  let main_v37 : FVec F S1x64 .f32 := broadcastInDim S1x64 ![] bcast_S_S1x64 main_cst_12
  let main_v38 : IVec S1x64 1 := cmpf .olt main_v36 main_v37
  let main_c_13 : IVec S_ 1 := constantI S_ 1 1#1
  let main_v39 : IVec S_ 1 := (fun x v => Host.reduce IntOp.andi x v reducesTo_S1x64_S_d0_1 h_S_) main_v38 main_c_13
  let main_v40 : IVec S_ 1 := andi main_v35 main_v39
  let main_v41 : FVec F S1x64 .f32 := Host.absf main_arg9
  let main_cst_14 : FVec F S_ .f32 := constant S_ .f32 0x7F800000#32
  let main_v42 : FVec F S1x64 .f32 := broadcastInDim S1x64 ![] bcast_S_S1x64 main_cst_14
  let main_v43 : IVec S1x64 1 := cmpf .olt main_v41 main_v42
  let main_c_15 : IVec S_ 1 := constantI S_ 1 1#1
  let main_v44 : IVec S_ 1 := (fun x v => Host.reduce IntOp.andi x v reducesTo_S1x64_S_d0_1 h_S_) main_v43 main_c_15
  let main_v45 : IVec S_ 1 := andi main_v40 main_v44
  main_v45

def fn_part1 {F : FTy → Type} [FloatOps F] (main_arg4 : FVec F S4096x1024 .bf16) (main_arg6 : FVec F S1x64 .f32) (main_arg7 : FVec F S1x64 .f32) (main_arg8 : FVec F S1x64 .f32) (main_arg9 : FVec F S1x64 .f32) (main_v14 : IVec S_ 1) (main_v15 : FVec F S4x1x256x8x128 .f32) (main_v16 : FVec F S4x1x256x8x128 .f32) : IVec S_ 1 :=
  let main_v17 : IVec S4x1x256x8x128 1 := cmpf .olt main_v15 main_v16
  let main_c_5 : IVec S_ 1 := constantI S_ 1 1#1
  let main_v18 : IVec S_ 1 := (fun x v => Host.reduce IntOp.andi x v reducesTo_S4x1x256x8x128_S_d0_1_2_3_4 h_S_) main_v17 main_c_5
  let main_v19 : IVec S_ 1 := andi main_v14 main_v18
  let main_v20 : FVec F S4096x1024 .f32 := (extf .f32 · bitsLt_bf16_f32) main_arg4
  let main_v21 : FVec F S4096x1024 .f32 := Host.absf main_v20
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v19 main_v24
  let main_v26 : FVec F S1x64 .f32 := Host.absf main_arg6
  let main_cst_8 : FVec F S_ .f32 := constant S_ .f32 0x7F800000#32
  let main_v27 : FVec F S1x64 .f32 := broadcastInDim S1x64 ![] bcast_S_S1x64 main_cst_8
  let main_v28 : IVec S1x64 1 := cmpf .olt main_v26 main_v27
  let main_c_9 : IVec S_ 1 := constantI S_ 1 1#1
  let main_v29 : IVec S_ 1 := (fun x v => Host.reduce IntOp.andi x v reducesTo_S1x64_S_d0_1 h_S_) main_v28 main_c_9
  let main_v30 : IVec S_ 1 := andi main_v25 main_v29
  let main_v31 : FVec F S1x64 .f32 := Host.absf main_arg7
  let main_cst_10 : FVec F S_ .f32 := constant S_ .f32 0x7F800000#32
  let main_v32 : FVec F S1x64 .f32 := broadcastInDim S1x64 ![] bcast_S_S1x64 main_cst_10
  let main_v33 : IVec S1x64 1 := cmpf .olt main_v31 main_v32
  let main_c_11 : IVec S_ 1 := constantI S_ 1 1#1
  fn_part2 (F := F) main_arg8 main_arg9 main_v30 main_v33 main_c_11

def fn {F : FTy → Type} [FloatOps F] (main_arg0 : FVec F S4096x1024 .f32) (main_arg1 : FVec F S4x1x256x8x2x64 .f32) (main_arg2 : FVec F S4096x1024 .bf16) (main_arg3 : FVec F S4x1x256x8x128 .f32) (main_arg4 : FVec F S4096x1024 .bf16) (main_arg5 : FVec F S4096x1024 .bf16) (main_arg6 : FVec F S1x64 .f32) (main_arg7 : FVec F S1x64 .f32) (main_arg8 : FVec F S1x64 .f32) (main_arg9 : FVec F S1x64 .f32) (main_arg10 : FVec F S1x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4x1x256x8x2x64 .f32 := Host.absf main_arg1
  let main_cst_0 : FVec F S_ .f32 := constant S_ .f32 0x7F800000#32
  let main_v5 : FVec F S4x1x256x8x2x64 .f32 := broadcastInDim S4x1x256x8x2x64 ![] bcast_S_S4x1x256x8x2x64 main_cst_0
  let main_v6 : IVec S4x1x256x8x2x64 1 := cmpf .olt main_v4 main_v5
  let main_c_1 : IVec S_ 1 := constantI S_ 1 1#1
  let main_v7 : IVec S_ 1 := (fun x v => Host.reduce IntOp.andi x v reducesTo_S4x1x256x8x2x64_S_d0_1_2_3_4_5 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  let main_v15 : FVec F S4x1x256x8x128 .f32 := Host.absf main_arg3
  let main_cst_4 : FVec F S_ .f32 := constant S_ .f32 0x7F800000#32
  let main_v16 : FVec F S4x1x256x8x128 .f32 := broadcastInDim S4x1x256x8x128 ![] bcast_S_S4x1x256x8x128 main_cst_4
  fn_part1 (F := F) main_arg4 main_arg6 main_arg7 main_arg8 main_arg9 main_v14 main_v15 main_v16
-- ==== Pre_finite_prompt.lean ====
abbrev S8192x1024 : Shape := ⟨2, ![8192, 1024]⟩
abbrev S1x64 : Shape := ⟨2, ![1, 64]⟩
abbrev S1x128 : Shape := ⟨2, ![1, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v30 : IVec S_ 1) (main_v33 : IVec S1x64 1) (main_c_11 : IVec S_ 1) : IVec S_ 1 :=
  let main_v34 : IVec S_ 1 := (fun x v => Host.reduce IntOp.andi x v reducesTo_S1x64_S_d0_1 h_S_) main_v33 main_c_11
  let main_v35 : IVec S_ 1 := andi main_v30 main_v34
  main_v35

def fn_part1 {F : FTy → Type} [FloatOps F] (main_arg5 : FVec F S1x64 .f32) (main_arg6 : FVec F S1x64 .f32) (main_arg7 : FVec F S1x64 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S1x64 .f32 := Host.absf main_arg5
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_c_7 : IVec S_ 1 := constantI S_ 1 1#1
  let main_v24 : IVec S_ 1 := (fun x v => Host.reduce IntOp.andi x v reducesTo_S1x64_S_d0_1 h_S_) main_v23 main_c_7
  let main_v25 : IVec S_ 1 := andi main_v20 main_v24
  let main_v26 : FVec F S1x64 .f32 := Host.absf main_arg6
  let main_cst_8 : FVec F S_ .f32 := constant S_ .f32 0x7F800000#32
  let main_v27 : FVec F S1x64 .f32 := broadcastInDim S1x64 ![] bcast_S_S1x64 main_cst_8
  let main_v28 : IVec S1x64 1 := cmpf .olt main_v26 main_v27
  let main_c_9 : IVec S_ 1 := constantI S_ 1 1#1
  let main_v29 : IVec S_ 1 := (fun x v => Host.reduce IntOp.andi x v reducesTo_S1x64_S_d0_1 h_S_) main_v28 main_c_9
  let main_v30 : IVec S_ 1 := andi main_v25 main_v29
  let main_v31 : FVec F S1x64 .f32 := Host.absf main_arg7
  let main_cst_10 : FVec F S_ .f32 := constant S_ .f32 0x7F800000#32
  let main_v32 : FVec F S1x64 .f32 := broadcastInDim S1x64 ![] bcast_S_S1x64 main_cst_10
  let main_v33 : IVec S1x64 1 := cmpf .olt main_v31 main_v32
  let main_c_11 : IVec S_ 1 := constantI S_ 1 1#1
  fn_part2 (F := F) main_v30 main_v33 main_c_11

def fn {F : FTy → Type} [FloatOps F] (main_arg0 : FVec F S8192x1024 .f32) (main_arg1 : FVec F S8192x1024 .bf16) (main_arg2 : FVec F S8192x1024 .bf16) (main_arg3 : FVec F S8192x1024 .bf16) (main_arg4 : FVec F S1x64 .f32) (main_arg5 : FVec F S1x64 .f32) (main_arg6 : FVec F S1x64 .f32) (main_arg7 : FVec F S1x64 .f32) (main_arg8 : FVec F S1x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S8192x1024 .f32 := (extf .f32 · bitsLt_bf16_f32) main_arg2
  let main_v11 : FVec F S8192x1024 .f32 := Host.absf main_v10
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v9 main_v14
  let main_v16 : FVec F S1x64 .f32 := Host.absf main_arg4
  let main_cst_4 : FVec F S_ .f32 := constant S_ .f32 0x7F800000#32
  fn_part1 (F := F) main_arg5 main_arg6 main_arg7 main_v15 main_v16 main_cst_4
-- ==== Attn.lean ====
abbrev S4096x1024 : Shape := ⟨2, ![4096, 1024]⟩
abbrev S4x1x256x8x2x64 : Shape := ⟨6, ![4, 1, 256, 8, 2, 64]⟩
abbrev S4x1x256x8x128 : Shape := ⟨5, ![4, 1, 256, 8, 128]⟩
abbrev S1x64 : Shape := ⟨2, ![1, 64]⟩
abbrev S1x128 : Shape := ⟨2, ![1, 128]⟩
abbrev S64 : Shape := ⟨1, ![64]⟩
abbrev S128 : Shape := ⟨1, ![128]⟩
abbrev S4x256x8x2x64 : Shape := ⟨5, ![4, 256, 8, 2, 64]⟩
abbrev S4x256x1024 : Shape := ⟨3, ![4, 256, 1024]⟩
abbrev S4x256x8x128 : Shape := ⟨4, ![4, 256, 8, 128]⟩
abbrev S512x1024 : Shape := ⟨2, ![512, 1024]⟩
abbrev S1x256x1024 : Shape := ⟨3, ![1, 256, 1024]⟩
abbrev S1024x1024 : Shape := ⟨2, ![1024, 1024]⟩
abbrev S1 : Shape := ⟨1, ![1]⟩
abbrev S1x1 : Shape := ⟨2, ![1, 1]⟩
abbrev S1024x128 : Shape := ⟨2, ![1024, 128]⟩
abbrev S512x128 : Shape := ⟨2, ![512, 128]⟩
abbrev S1x256x128 : Shape := ⟨3, ![1, 256, 128]⟩
abbrev S256x128 : Shape := ⟨2, ![256, 128]⟩
abbrev S1024x256 : Shape := ⟨2, ![1024, 256]⟩
abbrev S1024x1280 : Shape := ⟨2, ![1024, 1280]⟩
abbrev S1024 : Shape := ⟨1, ![1024]⟩
abbrev S1024x1 : Shape := ⟨2, ![1024, 1]⟩
abbrev S256x256 : Shape := ⟨2, ![256, 256]⟩
abbrev S512 : Shape := ⟨1, ![512]⟩
abbrev S512x1 : Shape := ⟨2, ![512, 1]⟩

abbrev nBuf : Space → Nat
  | .hbm => 28
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4x1x256x8x2x64, .f32⟩
  | .hbm, ⟨2, _⟩ => ⟨S4096x1024, .bf16⟩
  | .hbm, ⟨3, _⟩ => ⟨S4x1x256x8x128, .f32⟩
  | .hbm, ⟨4, _⟩ => ⟨S4096x1024, .bf16⟩
  | .hbm, ⟨5, _⟩ => ⟨S4096x1024, .bf16⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S128, .f32⟩
  | .hbm, ⟨20, _⟩ => ⟨S1x128, .f32⟩
  | .hbm, ⟨21, _⟩ => ⟨S4x256x8x2x64, .f32⟩
  | .hbm, ⟨22, _⟩ => ⟨S4x256x1024, .f32⟩
  | .hbm, ⟨23, _⟩ => ⟨S4x256x1024, .bf16⟩
  | .hbm, ⟨24, _⟩ => ⟨S4x256x8x128, .f32⟩
  | .hbm, ⟨25, _⟩ => ⟨S4x256x1024, .f32⟩
  | .hbm, ⟨26, _⟩ => ⟨S4x256x1024, .bf16⟩
  | .hbm, ⟨27, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x128, .f32⟩
  | .local _ .vmem, ⟨17, _⟩ => ⟨S512x1024, .bf16⟩
  | .local _ .vmem, ⟨18, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnIdeal.lean ====
variable {F : FTy → Type} [FloatOps F] [Named F]
def κ : String → Option EReal := fun
  | "qscale" => some (((1 / 8) * (Real.log 2)⁻¹ : ℝ) : EReal)
  | _ => none
-- ==== AttnRefIdeal.lean ====
abbrev S4096x1024 : Shape := ⟨2, ![4096, 1024]⟩
abbrev S4x1x256x8x2x64 : Shape := ⟨6, ![4, 1, 256, 8, 2, 64]⟩
abbrev S4x1x256x8x128 : Shape := ⟨5, ![4, 1, 256, 8, 128]⟩
abbrev S1x64 : Shape := ⟨2, ![1, 64]⟩
abbrev S1x128 : Shape := ⟨2, ![1, 128]⟩
abbrev S4x1024x8x2x64 : Shape := ⟨5, ![4, 1024, 8, 2, 64]⟩
abbrev S4x256x8x2x64 : Shape := ⟨5, ![4, 256, 8, 2, 64]⟩
abbrev S4x1280x8x2x64 : Shape := ⟨5, ![4, 1280, 8, 2, 64]⟩
abbrev S4x256x8x128 : Shape := ⟨4, ![4, 256, 8, 128]⟩
abbrev S4x1024x8x128 : Shape := ⟨4, ![4, 1024, 8, 128]⟩
abbrev S4x1280x8x128 : Shape := ⟨4, ![4, 1280, 8, 128]⟩
abbrev S64 : Shape := ⟨1, ![64]⟩
abbrev S_ : Shape := ⟨0, ![]⟩
abbrev S4x8x2x1024x1280 : Shape := ⟨5, ![4, 8, 2, 1024, 1280]⟩
abbrev S4x8x2x1024 : Shape := ⟨4, ![4, 8, 2, 1024]⟩
abbrev S4x8x2x1024x1 : Shape := ⟨5, ![4, 8, 2, 1024, 1]⟩
abbrev S4x8x1x1024x1280 : Shape := ⟨5, ![4, 8, 1, 1024, 1280]⟩
abbrev S4x8x1024x1280 : Shape := ⟨4, ![4, 8, 1024, 1280]⟩
abbrev S4x8x128x1024 : Shape := ⟨4, ![4, 8, 128, 1024]⟩
abbrev S4x1024x8 : Shape := ⟨3, ![4, 1024, 8]⟩
abbrev S4x1024x8x1 : Shape := ⟨4, ![4, 1024, 8, 1]⟩
abbrev S128 : Shape := ⟨1, ![128]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1x256x8x2x64, .f32⟩
  | .hbm, ⟨2, _⟩ => ⟨S4096x1024, .bf16⟩
  | .hbm, ⟨3, _⟩ => ⟨S4x1x256x8x128, .f32⟩
  | .hbm, ⟨4, _⟩ => ⟨S4096x1024, .bf16⟩
  | .hbm, ⟨5, _⟩ => ⟨S4096x1024, .bf16⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S4x1024x8x2x64, .f32⟩
  | .hbm, ⟨12, _⟩ => ⟨S4x256x8x2x64, .f32⟩
  | .hbm, ⟨13, _⟩ => ⟨S4096x1024, .f32⟩
  | .hbm, ⟨14, _⟩ => ⟨S4x1024x8x2x64, .f32⟩
  | .hbm, ⟨15, _⟩ => ⟨S4x1280x8x2x64, .f32⟩
  | .hbm, ⟨16, _⟩ => ⟨S4x256x8x128, .f32⟩
  | .hbm, ⟨17, _⟩ => ⟨S4096x1024, .f32⟩
  | .hbm, ⟨18, _⟩ => ⟨S4x1024x8x128, .f32⟩
  | .hbm, ⟨19, _⟩ => ⟨S4x1280x8x128, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x8x2x1024x1280, .f32⟩
  | .hbm, ⟨36, _⟩ => ⟨S_, .f32⟩
  | .hbm, ⟨37, _⟩ => ⟨S4x8x2x1024x1280, .f32⟩
  | .hbm, ⟨38, _⟩ => ⟨S4x8x2x1024x1280, .f32⟩
  | .hbm, ⟨39, _⟩ => ⟨S_, .f32⟩
  | .hbm, ⟨40, _⟩ => ⟨S4x8x2x1024, .f32⟩
  | .hbm, ⟨41, _⟩ => ⟨S_, .f32⟩
  | .hbm, ⟨42, _⟩ => ⟨S4x8x2x1024, .f32⟩
  | .hbm, ⟨43, _⟩ => ⟨S4x8x2x1024, .f32⟩
  | .hbm, ⟨44, _⟩ => ⟨S4x8x2x1024x1, .f32⟩
  | .hbm, ⟨45, _⟩ => ⟨S4x8x2x1024x1280, .f32⟩
  | .hbm, ⟨46, _⟩ => ⟨S4x8x2x1024x1280, .f32⟩
  | .hbm, ⟨47, _⟩ => ⟨S4x8x2x1024x1280, .f32⟩
  | .hbm, ⟨48, _⟩ => ⟨S_, .f32⟩
  | .hbm, ⟨49, _⟩ => ⟨S4x8x2x1024, .f32⟩
  | .hbm, ⟨50, _⟩ => ⟨S4x8x2x1024x1, .f32⟩
  | .hbm, ⟨51, _⟩ => ⟨S4x8x2x1024x1280, .f32⟩
  | .hbm, ⟨52, _⟩ => ⟨S4x8x2x1024x1280, .f32⟩
  | .hbm, ⟨53, _⟩ => ⟨S4x8x1x1024x1280, .f32⟩
  | .hbm, ⟨54, _⟩ => ⟨S4x8x1024x1280, .f32⟩
  | .hbm, ⟨55, _⟩ => ⟨S4x8x1x1024x1280, .f32⟩
  | .hbm, ⟨56, _⟩ => ⟨S4x8x1024x1280, .f32⟩
  | .hbm, ⟨57, _⟩ => ⟨S4x8x1024x1280, .f32⟩
  | .hbm, ⟨58, _⟩ => ⟨S4x8x1024x1280, .f32⟩
  | .hbm, ⟨59, _⟩ => ⟨S4x8x1024x1280, .f32⟩
  | .hbm, ⟨60, _⟩ => ⟨S4x8x128x1024, .f32⟩
  | .hbm, ⟨61, _⟩ => ⟨S4x1024x8x128, .f32⟩
  | .hbm, ⟨62, _⟩ => ⟨S4x1024x8x128, .f32⟩
  | .hbm, ⟨63, _⟩ => ⟨S_, .f32⟩
  | .hbm, ⟨64, _⟩ => ⟨S4x1024x8, .f32⟩
  | .hbm, ⟨65, _⟩ => ⟨S4x1024x8x1, .f32⟩
  | .hbm, ⟨66, _⟩ => ⟨S_, .f32⟩
  | .hbm, ⟨67, _⟩ => ⟨S4x1024x8x1, .f32⟩
  | .hbm, ⟨68, _⟩ => ⟨S4x1024x8x1, .f32⟩
  | .hbm, ⟨69, _⟩ => ⟨S_, .f32⟩
  | .hbm, ⟨70, _⟩ => ⟨S4x1024x8x1, .f32⟩
  | .hbm, ⟨71, _⟩ => ⟨S4x1024x8x1, .f32⟩
  | .hbm, ⟨72, _⟩ => ⟨S4x1024x8x1, .f32⟩
  | .hbm, ⟨73, _⟩ => ⟨S4x1024x8x128, .f32⟩
  | .hbm, ⟨74, _⟩ => ⟨S4x1024x8x128, .f32⟩
  | .hbm, ⟨75, _⟩ => ⟨S128, .f32⟩
  | .hbm, ⟨76, _⟩ => ⟨S1x1x1x128, .f32⟩
  | .hbm, ⟨77, _⟩ => ⟨S4x1024x8x128, .f32⟩
  | .hbm, ⟨78, _⟩ => ⟨S4x1024x8x128, .f32⟩
  | .hbm, ⟨79, _⟩ => ⟨S_, .f32⟩
  | .hbm, ⟨80, _⟩ => ⟨S4x1024x8x128, .f32⟩
  | .hbm, ⟨81, _⟩ => ⟨S4x1024x8x128, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== EvenIn.lean ====
abbrev S8192x1024 : Shape := ⟨2, ![8192, 1024]⟩
abbrev S48x1x1024 : Shape := ⟨3, ![48, 1, 1024]⟩
abbrev S1x1024x6144 : Shape := ⟨3, ![1, 1024, 6144]⟩
abbrev S1024x6144 : Shape := ⟨2, ![1024, 6144]⟩
abbrev S256x256 : Shape := ⟨2, ![256, 256]⟩
abbrev S_ : Shape := ⟨0, ![]⟩
abbrev S32x1024x256 : Shape := ⟨3, ![32, 1024, 256]⟩
abbrev S512x1024 : Shape := ⟨2, ![512, 1024]⟩
abbrev S1x1x1024 : Shape := ⟨3, ![1, 1, 1024]⟩
abbrev S2x1024x256 : Shape := ⟨3, ![2, 1024, 256]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 61
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S48x1x1024, .f32⟩
  | .hbm, ⟨2, _⟩ => ⟨S1x1024x6144, .f32⟩
  | .hbm, ⟨3, _⟩ => ⟨S1024x6144, .f32⟩
  | .hbm, ⟨4, _⟩ => ⟨S1024x6144, .bf16⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S_, .i1⟩
  | .hbm, ⟨23, _⟩ => ⟨S256x256, .i1⟩
  | .hbm, ⟨24, _⟩ => ⟨S256x256, .i1⟩
  | .hbm, ⟨25, _⟩ => ⟨S256x256, .i1⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i1⟩
  | .hbm, ⟨40, _⟩ => ⟨S256x256, .i32⟩
  | .hbm, ⟨41, _⟩ => ⟨S256x256, .i32⟩
  | .hbm, ⟨42, _⟩ => ⟨S_, .i32⟩
  | .hbm, ⟨43, _⟩ => ⟨S256x256, .i32⟩
  | .hbm, ⟨44, _⟩ => ⟨S256x256, .i1⟩
  | .hbm, ⟨45, _⟩ => ⟨S256x256, .i1⟩
  | .hbm, ⟨46, _⟩ => ⟨S_, .i32⟩
  | .hbm, ⟨47, _⟩ => ⟨S256x256, .i32⟩
  | .hbm, ⟨48, _⟩ => ⟨S256x256, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .bf16⟩
  | .hbm, ⟨53, _⟩ => ⟨S8192x1024, .bf16⟩
  | .hbm, ⟨54, _⟩ => ⟨S8192x1024, .bf16⟩
  | .hbm, ⟨55, _⟩ => ⟨S8192x1024, .f32⟩
  | .hbm, ⟨56, _⟩ => ⟨S8192x1024, .bf16⟩
  | .hbm, ⟨57, _⟩ => ⟨S8192x1024, .bf16⟩
  | .hbm, ⟨58, _⟩ => ⟨S8192x1024, .bf16⟩
  | .hbm, ⟨59, _⟩ => ⟨S32x1024x256, .f32⟩
  | .hbm, ⟨60, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x6144, .bf16⟩
  | .local _ .vmem, ⟨5, _⟩ => ⟨S256x256, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S2x1024x256, .f32⟩
  | .local _ .vmem, ⟨19, _⟩ => ⟨S2x1024x256, .f32⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11_0 : Ref sig .tc := ⟨.hbm, 53, rfl⟩
abbrev main_v11_1 : Ref sig .tc := ⟨.hbm, 54, rfl⟩
abbrev main_v11_2 : Ref sig .tc := ⟨.hbm, 55, rfl⟩
abbrev main_v11_3 : Ref sig .tc := ⟨.hbm, 56, rfl⟩
abbrev main_v11_4 : Ref sig .tc := ⟨.hbm, 57, rfl⟩
abbrev main_v11_5 : Ref sig .tc := ⟨.hbm, 58, rfl⟩
abbrev main_v11_6 : Ref sig .tc := ⟨.hbm, 59, rfl⟩
abbrev main_v11_7 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== EvenInRefIdeal.lean ====
abbrev S8192x1024 : Shape := ⟨2, ![8192, 1024]⟩
abbrev S48x1x1024 : Shape := ⟨3, ![48, 1, 1024]⟩
abbrev S1x1024x6144 : Shape := ⟨3, ![1, 1024, 6144]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x6144 : Shape := ⟨2, ![1024, 6144]⟩
abbrev S8192x6144 : Shape := ⟨2, ![8192, 6144]⟩
abbrev S32x16x16x1024 : Shape := ⟨4, ![32, 16, 16, 1024]⟩
abbrev S32x256x1024 : Shape := ⟨3, ![32, 256, 1024]⟩
abbrev S32x1024x256 : Shape := ⟨3, ![32, 1024, 256]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S48x1x1024, .f32⟩
  | .hbm, ⟨2, _⟩ => ⟨S1x1024x6144, .f32⟩
  | .hbm, ⟨3, _⟩ => ⟨S1x1x1024, .f32⟩
  | .hbm, ⟨4, _⟩ => ⟨S1x1024, .f32⟩
  | .hbm, ⟨5, _⟩ => ⟨S1x1x1024, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x6144, .f32⟩
  | .hbm, ⟨38, _⟩ => ⟨S8192x6144, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S32x16x16x1024, .f32⟩
  | .hbm, ⟨46, _⟩ => ⟨S32x16x16x1024, .f32⟩
  | .hbm, ⟨47, _⟩ => ⟨S8192x1024, .f32⟩
  | .hbm, ⟨48, _⟩ => ⟨S8192x1024, .bf16⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S8192x1024, .bf16⟩
  | .hbm, ⟨60, _⟩ => ⟨S8192x1024, .bf16⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | .hbm, ⟨71, _⟩ => ⟨S32x256x1024, .f32⟩
  | .hbm, ⟨72, _⟩ => ⟨S32x1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== OddOut.lean ====
abbrev S8192x2048 : Shape := ⟨2, ![8192, 2048]⟩
abbrev S8192x1024 : Shape := ⟨2, ![8192, 1024]⟩
abbrev S48x1x1024 : Shape := ⟨3, ![48, 1, 1024]⟩
abbrev S256x256 : Shape := ⟨2, ![256, 256]⟩
abbrev S1x2048x2048 : Shape := ⟨3, ![1, 2048, 2048]⟩
abbrev S1x2048 : Shape := ⟨2, ![1, 2048]⟩
abbrev S1x2048x1024 : Shape := ⟨3, ![1, 2048, 1024]⟩
abbrev S2x1024 : Shape := ⟨2, ![2, 1024]⟩
abbrev S2048x2048 : Shape := ⟨2, ![2048, 2048]⟩
abbrev S2048 : Shape := ⟨1, ![2048]⟩
abbrev S2048x1024 : Shape := ⟨2, ![2048, 1024]⟩
abbrev S1x1024 : Shape := ⟨2, ![1, 1024]⟩
abbrev S1024 : Shape := ⟨1, ![1024]⟩
abbrev S512x2048 : Shape := ⟨2, ![512, 2048]⟩
abbrev S512x1024 : Shape := ⟨2, ![512, 1024]⟩
abbrev S1x1x1024 : Shape := ⟨3, ![1, 1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 25
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x1024, .f32⟩
  | .hbm, ⟨4, _⟩ => ⟨S48x1x1024, .f32⟩
  | .hbm, ⟨5, _⟩ => ⟨S256x256, .bf16⟩
  | .hbm, ⟨6, _⟩ => ⟨S256x256, .bf16⟩
  | .hbm, ⟨7, _⟩ => ⟨S1x2048x2048, .f32⟩
  | .hbm, ⟨8, _⟩ => ⟨S1x2048, .f32⟩
  | .hbm, ⟨9, _⟩ => ⟨S1x2048x1024, .f32⟩
  | .hbm, ⟨10, _⟩ => ⟨S2x1024, .f32⟩
  | .hbm, ⟨11, _⟩ => ⟨S2x1024, .f32⟩
  | .hbm, ⟨12, _⟩ => ⟨S2048x2048, .f32⟩
  | .hbm, ⟨13, _⟩ => ⟨S2048x2048, .bf16⟩
  | .hbm, ⟨14, _⟩ => ⟨S2048, .f32⟩
  | .hbm, ⟨15, _⟩ => ⟨S2048x1024, .f32⟩
  | .hbm, ⟨16, _⟩ => ⟨S2048x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x2048, .f32⟩
  | .hbm, ⟨22, _⟩ => ⟨S1x1024, .f32⟩
  | .hbm, ⟨23, _⟩ => ⟨S1x1024, .f32⟩
  | .hbm, ⟨24, _⟩ => ⟨S8192x1024, .f32⟩
  | .local _ .vmem, ⟨0, _⟩ => ⟨S256x256, .bf16⟩
  | .local _ .vmem, ⟨1, _⟩ => ⟨S256x256, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S2048x2048, .bf16⟩
  | .local _ .vmem, ⟨12, _⟩ => ⟨S1x2048, .f32⟩
  | .local _ .vmem, ⟨13, _⟩ => ⟨S2048x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let c0_i32 : BitVec 32 := 0#32
  let c0_i32_0 : BitVec 32 := 0#32
  let c0_i32_1 : BitVec 32 := 0#32
  ![c26_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== OddOutRefIdeal.lean ====
abbrev S8192x2048 : Shape := ⟨2, ![8192, 2048]⟩
abbrev S8192x1024 : Shape := ⟨2, ![8192, 1024]⟩
abbrev S48x1x1024 : Shape := ⟨3, ![48, 1, 1024]⟩
abbrev S256x256 : Shape := ⟨2, ![256, 256]⟩
abbrev S1x2048x2048 : Shape := ⟨3, ![1, 2048, 2048]⟩
abbrev S1x2048 : Shape := ⟨2, ![1, 2048]⟩
abbrev S1x2048x1024 : Shape := ⟨3, ![1, 2048, 1024]⟩
abbrev S2x1024 : Shape := ⟨2, ![2, 1024]⟩
abbrev S32x256x2048 : Shape := ⟨3, ![32, 256, 2048]⟩
abbrev S32x2048x256 : Shape := ⟨3, ![32, 2048, 256]⟩
abbrev S2048x2048 : Shape := ⟨2, ![2048, 2048]⟩
abbrev S2048 : Shape := ⟨1, ![2048]⟩
abbrev S1x1x1024 : Shape := ⟨3, ![1, 1, 1024]⟩
abbrev S1x1024 : Shape := ⟨2, ![1, 1024]⟩
abbrev S_ : Shape := ⟨0, ![]⟩
abbrev S2048x1024 : Shape := ⟨2, ![2048, 1024]⟩
abbrev S8192 : Shape := ⟨1, ![8192]⟩
abbrev S8192x1 : Shape := ⟨2, ![8192, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x1024, .f32⟩
  | .hbm, ⟨4, _⟩ => ⟨S48x1x1024, .f32⟩
  | .hbm, ⟨5, _⟩ => ⟨S256x256, .bf16⟩
  | .hbm, ⟨6, _⟩ => ⟨S256x256, .bf16⟩
  | .hbm, ⟨7, _⟩ => ⟨S1x2048x2048, .f32⟩
  | .hbm, ⟨8, _⟩ => ⟨S1x2048, .f32⟩
  | .hbm, ⟨9, _⟩ => ⟨S1x2048x1024, .f32⟩
  | .hbm, ⟨10, _⟩ => ⟨S2x1024, .f32⟩
  | .hbm, ⟨11, _⟩ => ⟨S2x1024, .f32⟩
  | .hbm, ⟨12, _⟩ => ⟨S8192x2048, .f32⟩
  | .hbm, ⟨13, _⟩ => ⟨S32x256x2048, .f32⟩
  | .hbm, ⟨14, _⟩ => ⟨S8192x2048, .f32⟩
  | .hbm, ⟨15, _⟩ => ⟨S32x256x2048, .f32⟩
  | .hbm, ⟨16, _⟩ => ⟨S256x256, .f32⟩
  | .hbm, ⟨17, _⟩ => ⟨S32x2048x256, .f32⟩
  | .hbm, ⟨18, _⟩ => ⟨S32x256x2048, .f32⟩
  | .hbm, ⟨19, _⟩ => ⟨S256x256, .f32⟩
  | .hbm, ⟨20, _⟩ => ⟨S32x2048x256, .f32⟩
  | .hbm, ⟨21, _⟩ => ⟨S32x256x2048, .f32⟩
  | .hbm, ⟨22, _⟩ => ⟨S32x256x2048, .f32⟩
  | .hbm, ⟨23, _⟩ => ⟨S8192x2048, .f32⟩
  | .hbm, ⟨24, _⟩ => ⟨S2048x2048, .f32⟩
  | .hbm, ⟨25, _⟩ => ⟨S8192x2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x1x1024, .f32⟩
  | .hbm, ⟨33, _⟩ => ⟨S1x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S2048x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== EvenOut.lean ====
abbrev S8192x1024 : Shape := ⟨2, ![8192, 1024]⟩
abbrev S48x1x1024 : Shape := ⟨3, ![48, 1, 1024]⟩
abbrev S1x1024x1024 : Shape := ⟨3, ![1, 1024, 1024]⟩
abbrev S1x1024 : Shape := ⟨2, ![1, 1024]⟩
abbrev S1x2048x1024 : Shape := ⟨3, ![1, 2048, 1024]⟩
abbrev S2x1024 : Shape := ⟨2, ![2, 1024]⟩
abbrev S1x1024x4096 : Shape := ⟨3, ![1, 1024, 4096]⟩
abbrev S256x256 : Shape := ⟨2, ![256, 256]⟩
abbrev S1024x1024 : Shape := ⟨2, ![1024, 1024]⟩
abbrev S1024 : Shape := ⟨1, ![1024]⟩
abbrev S2048x1024 : Shape := ⟨2, ![2048, 1024]⟩
abbrev S1024x4096 : Shape := ⟨2, ![1024, 4096]⟩
abbrev S_ : Shape := ⟨0, ![]⟩
abbrev S8192x2048 : Shape := ⟨2, ![8192, 2048]⟩
abbrev S512x1024 : Shape := ⟨2, ![512, 1024]⟩
abbrev S1x1x1024 : Shape := ⟨3, ![1, 1, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 79
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S48x1x1024, .f32⟩
  | .hbm, ⟨5, _⟩ => ⟨S1x1024x1024, .f32⟩
  | .hbm, ⟨6, _⟩ => ⟨S1x1024, .f32⟩
  | .hbm, ⟨7, _⟩ => ⟨S1x2048x1024, .f32⟩
  | .hbm, ⟨8, _⟩ => ⟨S2x1024, .f32⟩
  | .hbm, ⟨9, _⟩ => ⟨S2x1024, .f32⟩
  | .hbm, ⟨10, _⟩ => ⟨S1x1024x4096, .f32⟩
  | .hbm, ⟨11, _⟩ => ⟨S256x256, .bf16⟩
  | .hbm, ⟨12, _⟩ => ⟨S256x256, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S2048x1024, .f32⟩
  | .hbm, ⟨17, _⟩ => ⟨S2048x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1024x4096, .f32⟩
  | .hbm, ⟨23, _⟩ => ⟨S1024x4096, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i1⟩
  | .hbm, ⟨40, _⟩ => ⟨S_, .i32⟩
  | .hbm, ⟨41, _⟩ => ⟨S256x256, .i32⟩
  | .hbm, ⟨42, _⟩ => ⟨S256x256, .i1⟩
  | .hbm, ⟨43, _⟩ => ⟨S_, .i32⟩
  | .hbm, ⟨44, _⟩ => ⟨S_, .i1⟩
  | .hbm, ⟨45, _⟩ => ⟨S256x256, .i1⟩
  | .hbm, ⟨46, _⟩ => ⟨S256x256, .i1⟩
  | .hbm, ⟨47, _⟩ => ⟨S256x256, .i1⟩
  | .hbm, ⟨48, _⟩ => ⟨S256x256, .i32⟩
  | .hbm, ⟨49, _⟩ => ⟨S256x256, .i32⟩
  | .hbm, ⟨50, _⟩ => ⟨S256x256, .i32⟩
  | .hbm, ⟨51, _⟩ => ⟨S_, .i32⟩
  | .hbm, ⟨52, _⟩ => ⟨S256x256, .i32⟩
  | .hbm, ⟨53, _⟩ => ⟨S256x256, .i32⟩
  | .hbm, ⟨54, _⟩ => ⟨S_, .i32⟩
  | .hbm, ⟨55, _⟩ => ⟨S_, .i32⟩
  | .hbm, ⟨56, _⟩ => ⟨S256x256, .i32⟩
  | .hbm, ⟨57, _⟩ => ⟨S256x256, .i32⟩
  | .hbm, ⟨58, _⟩ => ⟨S256x256, .i32⟩
  | .hbm, ⟨59, _⟩ => ⟨S_, .i32⟩
  | .hbm, ⟨60, _⟩ => ⟨S256x256, .i32⟩
  | .hbm, ⟨61, _⟩ => ⟨S256x256, .i1⟩
  | .hbm, ⟨62, _⟩ => ⟨S256x256, .i32⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i1⟩
  | .hbm, ⟨67, _⟩ => ⟨S256x256, .i1⟩
  | .hbm, ⟨68, _⟩ => ⟨S_, .i32⟩
  | .hbm, ⟨69, _⟩ => ⟨S256x256, .i32⟩
  | .hbm, ⟨70, _⟩ => ⟨S256x256, .i32⟩
  | .hbm, ⟨71, _⟩ => ⟨S256x256, .i32⟩
  | .hbm, ⟨72, _⟩ => ⟨S256x256, .i32⟩
  | .hbm, ⟨73, _⟩ => ⟨S256x256, .i1⟩
  | .hbm, ⟨74, _⟩ => ⟨S256x256, .bf16⟩
  | .hbm, ⟨75, _⟩ => ⟨S8192x1024, .f32⟩
  | .hbm, ⟨76, _⟩ => ⟨S8192x2048, .bf16⟩
  | .hbm, ⟨77, _⟩ => ⟨S8192x2048, .bf16⟩
  | .hbm, ⟨78, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1024x1024, .bf16⟩
  | .local _ .vmem, ⟨10, _⟩ => ⟨S1x1024, .f32⟩
  | .local _ .vmem, ⟨11, _⟩ => ⟨S2048x1024, .bf16⟩
  | .local _ .vmem, ⟨12, _⟩ => ⟨S1x1024, .f32⟩
  | .local _ .vmem, ⟨13, _⟩ => ⟨S1x1024, .f32⟩
  | .local _ .vmem, ⟨14, _⟩ => ⟨S256x256, .bf16⟩
  | .local _ .vmem, ⟨15, _⟩ => ⟨S1x1x1024, .f32⟩
  | .local _ .vmem, ⟨16, _⟩ => ⟨S1x1x1024, .f32⟩
  | .local _ .vmem, ⟨17, _⟩ => ⟨S1024x4096, .bf16⟩
  | .local _ .vmem, ⟨18, _⟩ => ⟨S256x256, .bf16⟩
  | .local _ .vmem, ⟨19, _⟩ => ⟨S256x256, .bf16⟩
  | .local _ .vmem, ⟨20, _⟩ => ⟨S512x1024, .f32⟩
  | .local _ .vmem, ⟨21, _⟩ => ⟨S512x1024, .f32⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v16 : Ref sig .tc := ⟨.hbm, 50, rfl⟩
abbrev main_c_0 : Ref sig .tc := ⟨.hbm, 51, rfl⟩
abbrev main_v17 : Ref sig .tc := ⟨.hbm, 52, rfl⟩
abbrev main_v18 : Ref sig .tc := ⟨.hbm, 53, rfl⟩
abbrev main_c_1 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23_0 : Ref sig .tc := ⟨.hbm, 75, rfl⟩
abbrev main_v23_1 : Ref sig .tc := ⟨.hbm, 76, rfl⟩
abbrev main_v23_2 : Ref sig .tc := ⟨.hbm, 77, rfl⟩
abbrev main_v23_3 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c24_i32 : BitVec 32 := 24#32
  let c0_i32 : BitVec 32 := 0#32
  let c0_i32_0 : BitVec 32 := 0#32
  let c0_i32_1 : BitVec 32 := 0#32
  ![c24_i32.toNat, c0_i32.toNat, c0_i32_0.toNat]

def cc0_transform_12 (i : grid0.Coords) : Fin 3 → Nat :=
  let arg0 : BitVec 32 := BitVec.ofNat 32 (i 0).val
  let c25_i32 : BitVec 32 := 25#32
  let c0_i32 : BitVec 32 := 0#32
  let c0_i32_0 : BitVec 32 := 0#32
  let c0_i32_1 : BitVec 32 := 0#32
  ![c25_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== EvenOutRefIdeal.lean ====
abbrev S8192x1024 : Shape := ⟨2, ![8192, 1024]⟩
abbrev S48x1x1024 : Shape := ⟨3, ![48, 1, 1024]⟩
abbrev S1x1024x1024 : Shape := ⟨3, ![1, 1024, 1024]⟩
abbrev S1x1024 : Shape := ⟨2, ![1, 1024]⟩
abbrev S1x2048x1024 : Shape := ⟨3, ![1, 2048, 1024]⟩
abbrev S2x1024 : Shape := ⟨2, ![2, 1024]⟩
abbrev S1x1024x4096 : Shape := ⟨3, ![1, 1024, 4096]⟩
abbrev S256x256 : Shape := ⟨2, ![256, 256]⟩
abbrev S32x16x16x1024 : Shape := ⟨4, ![32, 16, 16, 1024]⟩
abbrev S_ : Shape := ⟨0, ![]⟩
abbrev S1024x1024 : Shape := ⟨2, ![1024, 1024]⟩
abbrev S1024 : Shape := ⟨1, ![1024]⟩
abbrev S8192x2048 : Shape := ⟨2, ![8192, 2048]⟩
abbrev S2048x1024 : Shape := ⟨2, ![2048, 1024]⟩
abbrev S1x1x1024 : Shape := ⟨3, ![1, 1, 1024]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S8192x8x256 : Shape := ⟨3, ![8192, 8, 256]⟩

abbrev nBuf : Space → Nat
  | .hbm => 153
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x1024, .f32⟩
  | 4 => ⟨S48x1x1024, .f32⟩
  | 5 => ⟨S1x1024x1024, .f32⟩
  | 6 => ⟨S1x1024, .f32⟩
  | 7 => ⟨S1x2048x1024, .f32⟩
  | 8 => ⟨S2x1024, .f32⟩
  | 9 => ⟨S2x1024, .f32⟩
  | 10 => ⟨S1x1024x4096, .f32⟩
  | 11 => ⟨S256x256, .bf16⟩
  | 12 => ⟨S256x256, .bf16⟩
  | 13 => ⟨S8192x1024, .f32⟩
  | 14 => ⟨S32x16x16x1024, .f32⟩
  | 15 => ⟨S32x16x16x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S1024x1024, .f32⟩
  | 35 => ⟨S8192x1024, .f32⟩
  | 36 => ⟨S1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x2048, .f32⟩
  | 53 => ⟨S2048x1024, .f32⟩
  | 54 => ⟨S8192x1024, .f32⟩
  | 55 => ⟨S_, .f32⟩
  | 56 => ⟨S8192x1024, .f32⟩
  | 57 => ⟨S8192x1024, .f32⟩
  | 58 => ⟨S1x1x1024, .f32⟩
  | 59 => ⟨S1x1024, .f32⟩
  | 60 => ⟨S8192x1024, .f32⟩
  | 61 => ⟨S8192x1024, .f32⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1024, .f32⟩
  | 85 => ⟨S8192x1024, .f32⟩
  | 86 => ⟨S1x1024, .f32⟩
  | 87 => ⟨S1024, .f32⟩
  | 88 => ⟨S1x1024, .f32⟩
  | 89 => ⟨S8192x1024, .f32⟩
  | 90 => ⟨S8192x1024, .f32⟩
  | 91 => ⟨S1x1024, .f32⟩
  | 92 => ⟨S1024, .f32⟩
  | 93 => ⟨S1x1024, .f32⟩
  | 94 => ⟨S8192x1024, .f32⟩
  | 95 => ⟨S8192x1024, .f32⟩
  | 96 => ⟨S1x1x1024, .f32⟩
  | 97 => ⟨S1x1024, .f32⟩
  | 98 => ⟨S1x1x1024, .f32⟩
  | 99 => ⟨S1x1024, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x1, .f32⟩
  | 121 => ⟨S8192x1024, .f32⟩
  | 122 => ⟨S8192x1024, .f32⟩
  | 123 => ⟨S_, .f32⟩
  | 124 => ⟨S1x1024, .f32⟩
  | 125 => ⟨S1x1024, .f32⟩
  | 126 => ⟨S8192x1024, .f32⟩
  | 127 => ⟨S8192x1024, .f32⟩
  | _ => ⟨S8192x1024, .bf16⟩

abbrev hbmTy0_1 (i : Nat) : BufTy := match i % 128 with
  | 0 => ⟨S8192x1024, .f32⟩
  | 1 => ⟨S8192x1024, .f32⟩
  | 2 => ⟨S1024x4096, .f32⟩
  | 3 => ⟨S8192x4096, .f32⟩
  | 4 => ⟨S8192x2048, .f32⟩
  | 5 => ⟨S8192x2048, .f32⟩
  | 6 => ⟨S8192x8x256, .f32⟩
  | 7 => ⟨S256x256, .f32⟩
  | 8 => ⟨S8192x8x256, .f32⟩
  | 9 => ⟨S8192x2048, .f32⟩
  | 10 => ⟨S256x256, .f32⟩
  | 11 => ⟨S8192x8x256, .f32⟩
  | 12 => ⟨S8192x2048, .f32⟩
  | 13 => ⟨S8192x2048, .bf16⟩
  | 14 => ⟨S8192x2048, .bf16⟩
  | 15 => ⟨S8192x2048, .f32⟩
  | 16 => ⟨S8192x2048, .f32⟩
  | 17 => ⟨S_, .f32⟩
  | 18 => ⟨S8192x2048, .f32⟩
  | 19 => ⟨S8192x2048, .f32⟩
  | 20 => ⟨S_, .f32⟩
  | 21 => ⟨S8192x2048, .f32⟩
  | 22 => ⟨S8192x2048, .f32⟩
  | 23 => ⟨S8192x2048, .f32⟩
  | 24 => ⟨S8192x2048, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_13 : Ref sig .tc := ⟨.hbm, 111, rfl⟩
abbrev main_v84 : Ref sig .tc := ⟨.hbm, 112, rfl⟩
abbrev main_v85 : Ref sig .tc := ⟨.hbm, 113, rfl⟩
abbrev main_cst_14 : Ref sig .tc := ⟨.hbm, 114, rfl⟩
abbrev main_v86 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_call0_v0 : Ref sig .tc := ⟨.hbm, 143, rfl⟩
abbrev main_call0_v1 : Ref sig .tc := ⟨.hbm, 144, rfl⟩
abbrev main_call0_cst : Ref sig .tc := ⟨.hbm, 145, rfl⟩
abbrev main_call0_v2 : Ref sig .tc := ⟨.hbm, 146, rfl⟩
abbrev main_call0_v3 : Ref sig .tc := ⟨.hbm, 147, rfl⟩
abbrev main_call0_cst_0 : Ref sig .tc := ⟨.hbm, 148, rfl⟩
abbrev main_call0_v4 : Ref sig .tc := ⟨.hbm, 149, rfl⟩
abbrev main_call0_v5 : Ref sig .tc := ⟨.hbm, 150, rfl⟩
abbrev main_v112 : Ref sig .tc := ⟨.hbm, 151, rfl⟩
abbrev main_v113 : Ref sig .tc := ⟨.hbm, 152, rfl⟩

abbrev nD : Nat := 1
abbrev τ : Topo := Topo.v7x

variable {F : FTy → Type} [FloatOps F]
-- ==== OddSample.lean ====
abbrev S4096x2048 : Shape := ⟨2, ![4096, 2048]⟩
abbrev S4096x1024 : Shape := ⟨2, ![4096, 1024]⟩
abbrev S48x1x1024 : Shape := ⟨3, ![48, 1, 1024]⟩
abbrev S1024x1024 : Shape := ⟨2, ![1024, 1024]⟩
abbrev S1x2048x2048 : Shape := ⟨3, ![1, 2048, 2048]⟩
abbrev S1x2048 : Shape := ⟨2, ![1, 2048]⟩
abbrev S1x2048x1024 : Shape := ⟨3, ![1, 2048, 1024]⟩
abbrev S2x1024 : Shape := ⟨2, ![2, 1024]⟩
abbrev S2048x2048 : Shape := ⟨2, ![2048, 2048]⟩
abbrev S2048 : Shape := ⟨1, ![2048]⟩
abbrev S2048x1024 : Shape := ⟨2, ![2048, 1024]⟩
abbrev S1x1024 : Shape := ⟨2, ![1, 1024]⟩
abbrev S1024 : Shape := ⟨1, ![1024]⟩
abbrev S512x1024 : Shape := ⟨2, ![512, 1024]⟩
abbrev S1024x2048 : Shape := ⟨2, ![1024, 2048]⟩
abbrev S512x2048 : Shape := ⟨2, ![512, 2048]⟩
abbrev S1x1x1024 : Shape := ⟨3, ![1, 1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 25
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x1024, .f32⟩
  | .hbm, ⟨4, _⟩ => ⟨S48x1x1024, .f32⟩
  | .hbm, ⟨5, _⟩ => ⟨S1024x1024, .bf16⟩
  | .hbm, ⟨6, _⟩ => ⟨S1024x1024, .bf16⟩
  | .hbm, ⟨7, _⟩ => ⟨S1x2048x2048, .f32⟩
  | .hbm, ⟨8, _⟩ => ⟨S1x2048, .f32⟩
  | .hbm, ⟨9, _⟩ => ⟨S1x2048x1024, .f32⟩
  | .hbm, ⟨10, _⟩ => ⟨S2x1024, .f32⟩
  | .hbm, ⟨11, _⟩ => ⟨S2x1024, .f32⟩
  | .hbm, ⟨12, _⟩ => ⟨S2048x2048, .f32⟩
  | .hbm, ⟨13, _⟩ => ⟨S2048x2048, .bf16⟩
  | .hbm, ⟨14, _⟩ => ⟨S2048, .f32⟩
  | .hbm, ⟨15, _⟩ => ⟨S2048x1024, .f32⟩
  | .hbm, ⟨16, _⟩ => ⟨S2048x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x2048, .f32⟩
  | .hbm, ⟨22, _⟩ => ⟨S1x1024, .f32⟩
  | .hbm, ⟨23, _⟩ => ⟨S1x1024, .f32⟩
  | .hbm, ⟨24, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S2048x2048, .bf16⟩
  | .local _ .vmem, ⟨15, _⟩ => ⟨S1x2048, .f32⟩
  | .local _ .vmem, ⟨16, _⟩ => ⟨S2048x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c8_i32 : BitVec 32 := 8#32
  let v1 : BitVec 32 := Scalar.addi c8_i32 v0
  let c3_i32 : BitVec 32 := 3#32
  let v2 : BitVec 32 := Scalar.muli v1 c3_i32
  let c2_i32 : BitVec 32 := 2#32
  let v3 : BitVec 32 := Scalar.addi v2 c2_i32
  let c0_i32 : BitVec 32 := 0#32
  let c0_i32_0 : BitVec 32 := 0#32
  let c0_i32_1 : BitVec 32 := 0#32
  ![v3.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OddSampleRefIdeal.lean ====
abbrev S4096x2048 : Shape := ⟨2, ![4096, 2048]⟩
abbrev S4096x1024 : Shape := ⟨2, ![4096, 1024]⟩
abbrev S48x1x1024 : Shape := ⟨3, ![48, 1, 1024]⟩
abbrev S1024x1024 : Shape := ⟨2, ![1024, 1024]⟩
abbrev S1x2048x2048 : Shape := ⟨3, ![1, 2048, 2048]⟩
abbrev S1x2048 : Shape := ⟨2, ![1, 2048]⟩
abbrev S1x2048x1024 : Shape := ⟨3, ![1, 2048, 1024]⟩
abbrev S2x1024 : Shape := ⟨2, ![2, 1024]⟩
abbrev S4x1024x2048 : Shape := ⟨3, ![4, 1024, 2048]⟩
abbrev S4x2048x1024 : Shape := ⟨3, ![4, 2048, 1024]⟩
abbrev S2048x2048 : Shape := ⟨2, ![2048, 2048]⟩
abbrev S2048 : Shape := ⟨1, ![2048]⟩
abbrev S2x8x3x1024 : Shape := ⟨4, ![2, 8, 3, 1024]⟩
abbrev S1x4x1x1024 : Shape := ⟨4, ![1, 4, 1, 1024]⟩
abbrev S4x1024 : Shape := ⟨2, ![4, 1024]⟩
abbrev S4x1024x1024 : Shape := ⟨3, ![4, 1024, 1024]⟩
abbrev S_ : Shape := ⟨0, ![]⟩
abbrev S4x1x1024 : Shape := ⟨3, ![4, 1, 1024]⟩
abbrev S2048x1024 : Shape := ⟨2, ![2048, 1024]⟩
abbrev S4x1024x1 : Shape := ⟨3, ![4, 1024, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x1024, .f32⟩
  | .hbm, ⟨4, _⟩ => ⟨S48x1x1024, .f32⟩
  | .hbm, ⟨5, _⟩ => ⟨S1024x1024, .bf16⟩
  | .hbm, ⟨6, _⟩ => ⟨S1024x1024, .bf16⟩
  | .hbm, ⟨7, _⟩ => ⟨S1x2048x2048, .f32⟩
  | .hbm, ⟨8, _⟩ => ⟨S1x2048, .f32⟩
  | .hbm, ⟨9, _⟩ => ⟨S1x2048x1024, .f32⟩
  | .hbm, ⟨10, _⟩ => ⟨S2x1024, .f32⟩
  | .hbm, ⟨11, _⟩ => ⟨S2x1024, .f32⟩
  | .hbm, ⟨12, _⟩ => ⟨S4096x2048, .f32⟩
  | .hbm, ⟨13, _⟩ => ⟨S4x1024x2048, .f32⟩
  | .hbm, ⟨14, _⟩ => ⟨S4096x2048, .f32⟩
  | .hbm, ⟨15, _⟩ => ⟨S4x1024x2048, .f32⟩
  | .hbm, ⟨16, _⟩ => ⟨S1024x1024, .f32⟩
  | .hbm, ⟨17, _⟩ => ⟨S4x2048x1024, .f32⟩
  | .hbm, ⟨18, _⟩ => ⟨S4x1024x2048, .f32⟩
  | .hbm, ⟨19, _⟩ => ⟨S1024x1024, .f32⟩
  | .hbm, ⟨20, _⟩ => ⟨S4x2048x1024, .f32⟩
  | .hbm, ⟨21, _⟩ => ⟨S4x1024x2048, .f32⟩
  | .hbm, ⟨22, _⟩ => ⟨S4x1024x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S2x8x3x1024, .f32⟩
  | .hbm, ⟨33, _⟩ => ⟨S1x4x1x1024, .f32⟩
  | .hbm, ⟨34, _⟩ => ⟨S4x1024, .f32⟩
  | .hbm, ⟨35, _⟩ => ⟨S4x1024x1024, .f32⟩
  | .hbm, ⟨36, _⟩ => ⟨S_, .f32⟩
  | .hbm, ⟨37, _⟩ => ⟨S4x1024x1024, .f32⟩
  | .hbm, ⟨38, _⟩ => ⟨S4x1024x1024, .f32⟩
  | .hbm, ⟨39, _⟩ => ⟨S4x1x1024, .f32⟩
  | .hbm, ⟨40, _⟩ => ⟨S2048x1024, .f32⟩
  | .hbm, ⟨41, _⟩ => ⟨S4096x1024, .f32⟩
  | .hbm, ⟨42, _⟩ => ⟨S4x1024x1024, .f32⟩
  | .hbm, ⟨43, _⟩ => ⟨S4x1024x1024, .f32⟩
  | .hbm, ⟨44, _⟩ => ⟨S4x1024x1024, .f32⟩
  | .hbm, ⟨45, _⟩ => ⟨S4x1024x1024, .f32⟩
  | .hbm, ⟨46, _⟩ => ⟨S_, .f32⟩
  | .hbm, ⟨47, _⟩ => ⟨S4x1024, .f32⟩
  | .hbm, ⟨48, _⟩ => ⟨S4x1024x1, .f32⟩
  | .hbm, ⟨49, _⟩ => ⟨S_, .f32⟩
  | .hbm, ⟨50, _⟩ => ⟨S4x1024x1, .f32⟩
  | .hbm, ⟨51, _⟩ => ⟨S4x1024x1, .f32⟩
  | .hbm, ⟨52, _⟩ => ⟨S4x1024x1024, .f32⟩
  | .hbm, ⟨53, _⟩ => ⟨S4x1024x1024, .f32⟩
  | .hbm, ⟨54, _⟩ => ⟨S4x1024x1024, .f32⟩
  | .hbm, ⟨55, _⟩ => ⟨S_, .f32⟩
  | .hbm, ⟨56, _⟩ => ⟨S4x1024, .f32⟩
  | .hbm, ⟨57, _⟩ => ⟨S4x1024x1, .f32⟩
  | .hbm, ⟨58, _⟩ => ⟨S_, .f32⟩
  | .hbm, ⟨59, _⟩ => ⟨S4x1024x1, .f32⟩
  | .hbm, ⟨60, _⟩ => ⟨S4x1024x1, .f32⟩
  | .hbm, ⟨61, _⟩ => ⟨S4x1024x1024, .f32⟩
  | .hbm, ⟨62, _⟩ => ⟨S4x1024x1024, .f32⟩
  | .hbm, ⟨63, _⟩ => ⟨S_, .f32⟩
  | .hbm, ⟨64, _⟩ => ⟨S4x1024x1, .f32⟩
  | .hbm, ⟨65, _⟩ => ⟨S4x1024x1, .f32⟩
  | .hbm, ⟨66, _⟩ => ⟨S4x1024x1, .f32⟩
  | .hbm, ⟨67, _⟩ => ⟨S4x1024x1024, .f32⟩
  | .hbm, ⟨68, _⟩ => ⟨S4x1024x1024, .f32⟩
  | .hbm, ⟨69, _⟩ => ⟨S1x1024, .f32⟩
  | .hbm, ⟨70, _⟩ => ⟨S1024, .f32⟩
  | .hbm, ⟨71, _⟩ => ⟨S1x1x1024, .f32⟩
  | .hbm, ⟨72, _⟩ => ⟨S4x1024x1024, .f32⟩
  | .hbm, ⟨73, _⟩ => ⟨S4x1024x1024, .f32⟩
  | .hbm, ⟨74, _⟩ => ⟨S1x1024, .f32⟩
  | .hbm, ⟨75, _⟩ => ⟨S1024, .f32⟩
  | .hbm, ⟨76, _⟩ => ⟨S1x1x1024, .f32⟩
  | .hbm, ⟨77, _⟩ => ⟨S4x1024x1024, .f32⟩
  | .hbm, ⟨78, _⟩ => ⟨S4x1024x1024, .f32⟩
  | .hbm, ⟨79, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== AttnPrompt.lean ====
abbrev S8192x1024 : Shape := ⟨2, ![8192, 1024]⟩
abbrev S1x64 : Shape := ⟨2, ![1, 64]⟩
abbrev S1x128 : Shape := ⟨2, ![1, 128]⟩
abbrev S64 : Shape := ⟨1, ![64]⟩
abbrev S128 : Shape := ⟨1, ![128]⟩
abbrev S1024x1024 : Shape := ⟨2, ![1024, 1024]⟩
abbrev S1 : Shape := ⟨1, ![1]⟩
abbrev S1x1 : Shape := ⟨2, ![1, 1]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S256 : Shape := ⟨1, ![256]⟩
abbrev S256x1 : Shape := ⟨2, ![256, 1]⟩

abbrev nBuf : Space → Nat
  | .hbm => 20
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S128, .f32⟩
  | .hbm, ⟨18, _⟩ => ⟨S1x128, .f32⟩
  | .hbm, ⟨19, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1024x1024, .bf16⟩
  | .local _ .vmem, ⟨14, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnPromptIdeal.lean ====
variable {F : FTy → Type} [FloatOps F] [Named F]
def κ : String → Option EReal := fun
  | "qscale" => some (((1 / 8) * (Real.log 2)⁻¹ : ℝ) : EReal)
  | _ => none
-- ==== AttnPromptRefIdeal.lean ====
abbrev S8192x1024 : Shape := ⟨2, ![8192, 1024]⟩
abbrev S1x64 : Shape := ⟨2, ![1, 64]⟩
abbrev S1x128 : Shape := ⟨2, ![1, 128]⟩
abbrev S32x256x8x2x64 : Shape := ⟨5, ![32, 256, 8, 2, 64]⟩
abbrev S32x256x8x128 : Shape := ⟨4, ![32, 256, 8, 128]⟩
abbrev S64 : Shape := ⟨1, ![64]⟩
abbrev S_ : Shape := ⟨0, ![]⟩
abbrev S32x8x2x256x256 : Shape := ⟨5, ![32, 8, 2, 256, 256]⟩
abbrev S32x8x2x256 : Shape := ⟨4, ![32, 8, 2, 256]⟩
abbrev S32x8x2x256x1 : Shape := ⟨5, ![32, 8, 2, 256, 1]⟩
abbrev S32x8x1x256x256 : Shape := ⟨5, ![32, 8, 1, 256, 256]⟩
abbrev S32x8x256x256 : Shape := ⟨4, ![32, 8, 256, 256]⟩
abbrev S32x8x128x256 : Shape := ⟨4, ![32, 8, 128, 256]⟩
abbrev S32x256x8 : Shape := ⟨3, ![32, 256, 8]⟩
abbrev S32x256x8x1 : Shape := ⟨4, ![32, 256, 8, 1]⟩
abbrev S128 : Shape := ⟨1, ![128]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S32x256x8x2x64, .f32⟩
  | .hbm, ⟨10, _⟩ => ⟨S8192x1024, .f32⟩
  | .hbm, ⟨11, _⟩ => ⟨S32x256x8x2x64, .f32⟩
  | .hbm, ⟨12, _⟩ => ⟨S8192x1024, .f32⟩
  | .hbm, ⟨13, _⟩ => ⟨S32x256x8x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x8x2x256x256, .f32⟩
  | .hbm, ⟨30, _⟩ => ⟨S_, .f32⟩
  | .hbm, ⟨31, _⟩ => ⟨S32x8x2x256x256, .f32⟩
  | .hbm, ⟨32, _⟩ => ⟨S32x8x2x256x256, .f32⟩
  | .hbm, ⟨33, _⟩ => ⟨S_, .f32⟩
  | .hbm, ⟨34, _⟩ => ⟨S32x8x2x256, .f32⟩
  | .hbm, ⟨35, _⟩ => ⟨S_, .f32⟩
  | .hbm, ⟨36, _⟩ => ⟨S32x8x2x256, .f32⟩
  | .hbm, ⟨37, _⟩ => ⟨S32x8x2x256, .f32⟩
  | .hbm, ⟨38, _⟩ => ⟨S32x8x2x256x1, .f32⟩
  | .hbm, ⟨39, _⟩ => ⟨S32x8x2x256x256, .f32⟩
  | .hbm, ⟨40, _⟩ => ⟨S32x8x2x256x256, .f32⟩
  | .hbm, ⟨41, _⟩ => ⟨S32x8x2x256x256, .f32⟩
  | .hbm, ⟨42, _⟩ => ⟨S_, .f32⟩
  | .hbm, ⟨43, _⟩ => ⟨S32x8x2x256, .f32⟩
  | .hbm, ⟨44, _⟩ => ⟨S32x8x2x256x1, .f32⟩
  | .hbm, ⟨45, _⟩ => ⟨S32x8x2x256x256, .f32⟩
  | .hbm, ⟨46, _⟩ => ⟨S32x8x2x256x256, .f32⟩
  | .hbm, ⟨47, _⟩ => ⟨S32x8x1x256x256, .f32⟩
  | .hbm, ⟨48, _⟩ => ⟨S32x8x256x256, .f32⟩
  | .hbm, ⟨49, _⟩ => ⟨S32x8x1x256x256, .f32⟩
  | .hbm, ⟨50, _⟩ => ⟨S32x8x256x256, .f32⟩
  | .hbm, ⟨51, _⟩ => ⟨S32x8x256x256, .f32⟩
  | .hbm, ⟨52, _⟩ => ⟨S32x8x256x256, .f32⟩
  | .hbm, ⟨53, _⟩ => ⟨S32x8x256x256, .f32⟩
  | .hbm, ⟨54, _⟩ => ⟨S32x8x128x256, .f32⟩
  | .hbm, ⟨55, _⟩ => ⟨S32x256x8x128, .f32⟩
  | .hbm, ⟨56, _⟩ => ⟨S32x256x8x128, .f32⟩
  | .hbm, ⟨57, _⟩ => ⟨S_, .f32⟩
  | .hbm, ⟨58, _⟩ => ⟨S32x256x8, .f32⟩
  | .hbm, ⟨59, _⟩ => ⟨S32x256x8x1, .f32⟩
  | .hbm, ⟨60, _⟩ => ⟨S_, .f32⟩
  | .hbm, ⟨61, _⟩ => ⟨S32x256x8x1, .f32⟩
  | .hbm, ⟨62, _⟩ => ⟨S32x256x8x1, .f32⟩
  | .hbm, ⟨63, _⟩ => ⟨S_, .f32⟩
  | .hbm, ⟨64, _⟩ => ⟨S32x256x8x1, .f32⟩
  | .hbm, ⟨65, _⟩ => ⟨S32x256x8x1, .f32⟩
  | .hbm, ⟨66, _⟩ => ⟨S32x256x8x1, .f32⟩
  | .hbm, ⟨67, _⟩ => ⟨S32x256x8x128, .f32⟩
  | .hbm, ⟨68, _⟩ => ⟨S32x256x8x128, .f32⟩
  | .hbm, ⟨69, _⟩ => ⟨S128, .f32⟩
  | .hbm, ⟨70, _⟩ => ⟨S1x1x1x128, .f32⟩
  | .hbm, ⟨71, _⟩ => ⟨S32x256x8x128, .f32⟩
  | .hbm, ⟨72, _⟩ => ⟨S32x256x8x128, .f32⟩
  | .hbm, ⟨73, _⟩ => ⟨S_, .f32⟩
  | .hbm, ⟨74, _⟩ => ⟨S32x256x8x128, .f32⟩
  | .hbm, ⟨75, _⟩ => ⟨S32x256x8x128, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.AttnMath.lean ====
module

public import Idealize.ShloMosaic.Lib.Pointwise

@[expose] public section

noncomputable section

/-! # Averages weighted by exponentials, over the extended reals

A softmax average does not depend on the number its exponents are shifted by. Both programs' arithmetic on finite
inputs is brought to the real number `expAvg`. -/

namespace Cert.AttnMath

open Idealize.ShloMosaic

/-- A sum of reals read in the extended reals is the real sum. -/
theorem coe_sum {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- The largest of finitely many reals, folded from minus infinity, is a real. -/
theorem fold_max_real {n : ℕ} (f : Fin (n + 1) → ℝ) :
    ∃ M : ℝ, Finset.univ.fold max (⊥ : EReal) (fun k => (f k : EReal)) = M := by
  classical
  have key : ∀ s : Finset (Fin (n + 1)), s.fold max (⊥ : EReal) (fun k => (f k : EReal)) ≠ ⊤ := by
    intro s
    induction s using Finset.induction_on with
    | empty => simp
    | insert a s ha ih =>
      rw [Finset.fold_insert ha]
      rcases max_choice (f a : EReal) (s.fold max (⊥ : EReal) fun k => (f k : EReal)) with h | h <;> rw [h]
      · exact EReal.coe_ne_top _
      · exact ih
  have hbot : Finset.univ.fold max (⊥ : EReal) (fun k => (f k : EReal)) ≠ ⊥ := by
    intro h
    have := (Finset.le_fold_max (s := (Finset.univ : Finset (Fin (n + 1)))) (b := (⊥ : EReal)) (f := fun k => (f k : EReal)) (f 0 : EReal)).2
      (.inr ⟨0, Finset.mem_univ _, le_rfl⟩)
    rw [h] at this
    exact absurd (le_bot_iff.1 this) (EReal.coe_ne_bot _)
  exact ⟨_, (EReal.coe_toReal (key _) hbot).symm⟩

/-- The average of `v` weighted by the exponentials of `s`. -/
def expAvg {n : ℕ} (s v : Fin n → ℝ) : ℝ := (∑ j, Real.exp (s j) * v j) / ∑ j, Real.exp (s j)

/-- The weights' sum is positive. -/
theorem sum_exp_pos {n : ℕ} (s : Fin (n + 1) → ℝ) : 0 < ∑ j, Real.exp (s j) :=
  Finset.sum_pos (fun j _ => Real.exp_pos _) Finset.univ_nonempty

/-- Shifting every exponent changes no average. -/
theorem expAvg_shift {n : ℕ} (s v : Fin (n + 1) → ℝ) (M : ℝ) :
    (∑ j, Real.exp (s j - M) * v j) / ∑ j, Real.exp (s j - M) = expAvg s v := by
  have h : ∀ j, Real.exp (s j - M) = Real.exp (-M) * Real.exp (s j) := fun j => by rw [← Real.exp_add]; ring_nf
  simp only [h, mul_assoc, ← Finset.mul_sum]
  exact mul_div_mul_left _ _ (Real.exp_pos _).ne'

/-- Two to the power of a number over the logarithm of two is its exponential. -/
theorem exp2_scaled (x : ℝ) : Ideal.exp2 ((x / Real.log 2 : ℝ) : EReal) = (Real.exp x : EReal) := by
  have h2 : Real.log 2 ≠ 0 := (Real.log_pos one_lt_two).ne'
  rw [Ideal.exp2_coe]
  congr 1
  show (2 : ℝ) ^ (x / Real.log 2) = _
  rw [Real.rpow_def_of_pos two_pos, mul_div_cancel₀ _ h2]

/-- Multiplying a sum of weighted values by the reciprocal of the weights' sum, the weights powers of two, is the
    exponential average. -/
theorem kernel_avg {n : ℕ} (s v : Fin (n + 1) → ℝ) (M : ℝ) (e : Fin (n + 1) → EReal)
    (he : ∀ j, e j = Ideal.exp2 (((s j / Real.log 2 : ℝ) : EReal) - (M : EReal))) :
    (∑ j, e j * (v j : EReal)) * Ideal.div 1 (∑ j, e j) = (expAvg s v : EReal) := by
  have hl : Real.log 2 ≠ 0 := (Real.log_pos one_lt_two).ne'
  have he' : ∀ j, e j = ((Real.exp (s j - M * Real.log 2) : ℝ) : EReal) := fun j => by
    rw [he j, ← EReal.coe_sub, ← exp2_scaled]
    congr 2
    field_simp
  simp only [he', ← EReal.coe_mul, coe_sum]
  rw [Ideal.div_coe (sum_exp_pos _).ne', one_mul, ← EReal.coe_mul, ← expAvg_shift s v (M * Real.log 2), mul_one_div]

/-- So it is when both sums are cut in two pieces. -/
theorem kernel_avg_cut (s v : Fin 1280 → ℝ) (M : ℝ) (e : Fin 1280 → EReal)
    (he : ∀ j, e j = Ideal.exp2 (((s j / Real.log 2 : ℝ) : EReal) - (M : EReal))) :
    ((∑ k : Fin 256, e ⟨k, by omega⟩ * (v ⟨k, by omega⟩ : EReal)) + ∑ k : Fin 1024, e ⟨256 + k, by omega⟩ * (v ⟨256 + k, by omega⟩ : EReal))
      * Ideal.div 1 ((∑ k : Fin 256, e ⟨k, by omega⟩) + ∑ k : Fin 1024, e ⟨256 + k, by omega⟩) = (expAvg s v : EReal) := by
  have split : ∀ f : Fin 1280 → EReal, (∑ k : Fin 256, f ⟨k, by omega⟩) + ∑ k : Fin 1024, f ⟨256 + k, by omega⟩ = ∑ j, f j :=
    fun f => (Fin.sum_univ_add (a := 256) (b := 1024) f).symm
  rw [split fun j => e j * (v j : EReal), split e]
  exact kernel_avg s v M e he

/-- A difference of two softmaxes, weighted by `lam`, averaging `v`. -/
theorem ref_avg {n : ℕ} (s0 s1 v : Fin (n + 1) → ℝ) (M0 M1 lam : ℝ) (e0 e1 : Fin (n + 1) → EReal)
    (h0 : ∀ j, e0 j = Ideal.exp ((s0 j : EReal) - (M0 : EReal))) (h1 : ∀ j, e1 j = Ideal.exp ((s1 j : EReal) - (M1 : EReal))) :
    ∑ j, (v j : EReal) * (Ideal.div (e0 j) (∑ i, e0 i) - (lam : EReal) * Ideal.div (e1 j) (∑ i, e1 i))
      = ((expAvg s0 v - lam * expAvg s1 v : ℝ) : EReal) := by
  have h0' : ∀ j, e0 j = ((Real.exp (s0 j - M0) : ℝ) : EReal) := fun j => by rw [h0 j, ← EReal.coe_sub, Ideal.exp_coe]
  have h1' : ∀ j, e1 j = ((Real.exp (s1 j - M1) : ℝ) : EReal) := fun j => by rw [h1 j, ← EReal.coe_sub, Ideal.exp_coe]
  simp only [h0', h1', coe_sum]
  simp only [Ideal.div_coe (sum_exp_pos _).ne', ← EReal.coe_mul, ← EReal.coe_sub, coe_sum]
  rw [← expAvg_shift s0 v M0, ← expAvg_shift s1 v M1]
  congr 1
  simp only [mul_sub, Finset.sum_sub_distrib, Finset.sum_div, Finset.mul_sum]
  congr 1 <;> refine Finset.sum_congr rfl fun j _ => ?_ <;> ring

/-- A contraction over 128 lanes whose upper half is zero is the contraction over the lower half. -/
theorem sum_low (f : Fin 128 → EReal) (g : Fin 64 → ℝ) (h0 : ∀ d : Fin 64, f ⟨d, by omega⟩ = g d)
    (h1 : ∀ d : Fin 64, f ⟨64 + d, by omega⟩ = 0) : ∑ d, f d = ((∑ d, g d : ℝ) : EReal) := by
  rw [show ∑ d, f d = (∑ d : Fin 64, f ⟨d, by omega⟩) + ∑ d : Fin 64, f ⟨64 + d, by omega⟩ from Fin.sum_univ_add (a := 64) (b := 64) f]
  simp only [h0, h1, Finset.sum_const_zero, add_zero, coe_sum]

/-- A contraction over 128 lanes whose lower half is zero is the contraction over the upper half. -/
theorem sum_high (f : Fin 128 → EReal) (g : Fin 64 → ℝ) (h0 : ∀ d : Fin 64, f ⟨d, by omega⟩ = 0)
    (h1 : ∀ d : Fin 64, f ⟨64 + d, by omega⟩ = g d) : ∑ d, f d = ((∑ d, g d : ℝ) : EReal) := by
  rw [show ∑ d, f d = (∑ d : Fin 64, f ⟨d, by omega⟩) + ∑ d : Fin 64, f ⟨64 + d, by omega⟩ from Fin.sum_univ_add (a := 64) (b := 64) f]
  simp only [h0, h1, Finset.sum_const_zero, zero_add, coe_sum]

/-- The score of a query row against a key in one map, on real tiles: the contraction over that map's 64 lanes, an eighth of it. -/
def score (a : Fin 128 → ℝ) (b : Fin 128 → ℝ) (o : ℕ) (ho : o ≤ 64) : ℝ := (∑ d : Fin 64, a ⟨o + d, by omega⟩ * b ⟨o + d, by omega⟩) * (1 / 8)

/-- The differential average of real values: the first map's exponential average less `lr` times the second's. -/
def diffAvg {n : ℕ} (qr : Fin 128 → ℝ) (kr vr : Fin n → Fin 128 → ℝ) (lr : ℝ) (l : Fin 128) : ℝ :=
  expAvg (fun j => score qr (kr j) 0 (by omega)) (fun j => vr j l) - lr * expAvg (fun j => score qr (kr j) 64 le_rfl) (fun j => vr j l)

/-- A head's row normalised by its root mean square, with gain and gate, at lane `l`. -/
def normed (o : Fin 128 → EReal) (g s : EReal) (l : Fin 128) : EReal :=
  o l * Ideal.rsqrt (Ideal.div (∑ x, o x * o x) (Ideal.ofBits .f32 0x43000000#32) + Ideal.ofBits .f32 0x3727C5AC#32) * g
    * Ideal.ofBits .f32 0x3F4CCCCD#32 * s

/-- The second map's weight from its four vectors. -/
def lamOf (a b c d : Fin 64 → EReal) : EReal :=
  Ideal.exp (∑ x, a x * b x) - Ideal.exp (∑ x, c x * d x) + Ideal.ofBits .f32 0x3E4CCCCD#32

/-- Four real vectors give a real weight. -/
theorem lamOf_real (a b c d : Fin 64 → ℝ) : ∃ lr : ℝ, lamOf (fun x => a x) (fun x => b x) (fun x => c x) (fun x => d x) = lr := by
  obtain ⟨t, ht⟩ : ∃ t : ℝ, Ideal.ofBits .f32 0x3E4CCCCD#32 = t := ⟨13421773 * ((2 : ℝ) ^ 26)⁻¹, by
    simp [Ideal.ofBits, Ideal.ieee]⟩
  refine ⟨Real.exp (∑ x, a x * b x) - Real.exp (∑ x, c x * d x) + t, ?_⟩
  simp only [lamOf, ← EReal.coe_mul, coe_sum, Ideal.exp_coe, ht, ← EReal.coe_sub, ← EReal.coe_add]

/-- The largest score's starting value is minus infinity. -/
theorem neg_inf : Ideal.ofBits .f32 0xFF800000#32 = (⊥ : EReal) := by
  simp [Ideal.ofBits, Ideal.ieee]

/-- The reference's scale is an eighth. -/
theorem eighth : Ideal.ofBits .f32 0x3E000000#32 = ((1 / 8 : ℝ) : EReal) := by
  simp [Ideal.ofBits, Ideal.ieee, -EReal.coe_mul]; norm_num

/-- Lane `d` is below lane 64 or not, as the printed comparison has it. -/
theorem lane_lt : ∀ d : Fin 128, IntOp.cmpi CmpIPredicate.slt (BitVec.ofNat 32 d.val) 64#32 = if d.val < 64 then 1#1 else 0#1 := by
  decide

section
variable {n0 n1 n2 n3 n4 : ℕ}

/-- The largest along the last of five axes, at an index. -/
theorem reduce_max_last (s : FVec Ideal ⟨5, ![n0, n1, n2, n3, n4]⟩ .f32) (init : EReal)
    (hr : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce (FloatOps.maximumf (F := Ideal) (φ := .f32)) s (fun _ : (⟨0, ![]⟩ : Shape).Idx => init) hr hu (ix4 a b c d) = Finset.univ.fold max init fun k => s (ix5 a b c d k) := by
  pointwise

end

end Cert.AttnMath

end
-- ==== Proof.RefStages.lean ====
/-
  The reference's differential attention, stage by stage, and each stage read at an index.
-/
module

public import proofs.«01_k».proof.Proof.AttnMath
public import proofs.«01_k».proof.Proof.Gen.AttnRefIdeal.Run
public import Idealize.ShloMosaic.Lib.Pointwise

@[expose] public section

set_option maxRecDepth 16384

noncomputable section

namespace Cert.AttnRef

open Cert.AttnRefIdeal Cert.AttnRefIdeal.Gen Idealize.ShloMosaic Idealize.ShloMosaic.TcCoe Idealize.SL.Sem Idealize.ShloMosaic.StableHlo

/-- The scaled scores of every head and map against cached and new keys. -/
def scores (a0 : FVec Ideal S4096x1024 .f32) (a1 : FVec Ideal S4x1x256x8x2x64 .f32) (a2 : FVec Ideal S4096x1024 .bf16) : FVec Ideal S4x8x2x1024x1280 .f32 :=
  (mulf (Host.dotGeneral dot_S4x1024x8x2x64_S4x1280x8x2x64_S4x8x2x1024x1280_4_4_1_1_023_023 none (shapeCast _ a0 shapeCasts_S4096x1024_S4x1024x8x2x64) (concatenate S4x1280x8x2x64 1 [⟨S4x256x8x2x64, (shapeCast _ a1 shapeCasts_S4x1x256x8x2x64_S4x256x8x2x64)⟩, ⟨S4x1024x8x2x64, (shapeCast _ (extf .f32 a2 bitsLt_bf16_f32) shapeCasts_S4096x1024_S4x1024x8x2x64)⟩] concatenates_S4x256x8x2x64_S4x1024x8x2x64_S4x1280x8x2x64_d1)) (broadcastInDim S4x8x2x1024x1280 ![] bcast_S_S4x8x2x1024x1280 (constant S_ .f32 0x3E000000#32)))

/-- Each row's largest score. -/
def rowMax (s : FVec Ideal S4x8x2x1024x1280 .f32) : FVec Ideal S4x8x2x1024 .f32 :=
  Host.reduce FloatOps.maximumf s (constant S_ .f32 0xFF800000#32) reducesTo_S4x8x2x1024x1280_S4x8x2x1024_d4 h_S_

/-- Exponentials of the scores less their row's largest. -/
def weights (s : FVec Ideal S4x8x2x1024x1280 .f32) (t : FVec Ideal S4x8x2x1024 .f32) : FVec Ideal S4x8x2x1024x1280 .f32 :=
  (Host.exp (subf s (broadcastInDim S4x8x2x1024x1280 ![0, 1, 2, 3, 4] bcast_S4x8x2x1024x1_S4x8x2x1024x1280_0_1_2_3_4 (broadcastInDim S4x8x2x1024x1 ![0, 1, 2, 3] bcast_S4x8x2x1024_S4x8x2x1024x1_0_1_2_3 (maximumf (broadcastInDim S4x8x2x1024 ![] bcast_S_S4x8x2x1024 (constant S_ .f32 0xFF800000#32)) t)))))

/-- Each row's weights over their sum. -/
def probs (e : FVec Ideal S4x8x2x1024x1280 .f32) : FVec Ideal S4x8x2x1024x1280 .f32 :=
  Host.divf e (broadcastInDim S4x8x2x1024x1280 ![0, 1, 2, 3, 4] bcast_S4x8x2x1024x1_S4x8x2x1024x1280_0_1_2_3_4 (broadcastInDim S4x8x2x1024x1 ![0, 1, 2, 3] bcast_S4x8x2x1024_S4x8x2x1024x1_0_1_2_3 (Host.reduceAdd e (constant S_ .f32 0x00000000#32) reducesTo_S4x8x2x1024x1280_S4x8x2x1024_d4 h_S_)))

/-- The second map's weight `lam`. -/
def lam (a6 a7 a8 a9 : FVec Ideal S1x64 .f32) : FVec Ideal S_ .f32 :=
  (addf (subf (Host.exp (Host.reduceAdd (mulf (shapeCast _ a6 shapeCasts_S1x64_S64) (shapeCast _ a7 shapeCasts_S1x64_S64)) (constant S_ .f32 0x00000000#32) reducesTo_S64_S_d0 h_S_)) (Host.exp (Host.reduceAdd (mulf (shapeCast _ a8 shapeCasts_S1x64_S64) (shapeCast _ a9 shapeCasts_S1x64_S64)) (constant S_ .f32 0x00000000#32) reducesTo_S64_S_d0 h_S_))) (constant S_ .f32 0x3E4CCCCD#32))

/-- The values averaged with the first map's probabilities less `lam` times the second's. -/
def avg (l : FVec Ideal S_ .f32) (p : FVec Ideal S4x8x2x1024x1280 .f32) (a3 : FVec Ideal S4x1x256x8x128 .f32) (a4 : FVec Ideal S4096x1024 .bf16) : FVec Ideal S4x1024x8x128 .f32 :=
  (transpose S4x1024x8x128 [0, 3, 1, 2] (Host.dotGeneral dot_S4x1280x8x128_S4x8x1024x1280_S4x8x128x1024_1_3_3_2_02_01 none (concatenate S4x1280x8x128 1 [⟨S4x256x8x128, (shapeCast _ a3 shapeCasts_S4x1x256x8x128_S4x256x8x128)⟩, ⟨S4x1024x8x128, (shapeCast _ (extf .f32 a4 bitsLt_bf16_f32) shapeCasts_S4096x1024_S4x1024x8x128)⟩] concatenates_S4x256x8x128_S4x1024x8x128_S4x1280x8x128_d1) (subf (shapeCast _ (extractStridedSlice S4x8x1x1024x1280 ![0, 0, 0, 0, 0] p slices_S4x8x2x1024x1280_S4x8x1x1024x1280_0_0_0_0_0) shapeCasts_S4x8x1x1024x1280_S4x8x1024x1280) (mulf (broadcastInDim S4x8x1024x1280 ![] bcast_S_S4x8x1024x1280 l) (shapeCast _ (extractStridedSlice S4x8x1x1024x1280 ![0, 0, 1, 0, 0] p slices_S4x8x2x1024x1280_S4x8x1x1024x1280_0_0_1_0_0) shapeCasts_S4x8x1x1024x1280_S4x8x1024x1280)))) transposes_S4x8x128x1024_S4x1024x8x128_0_3_1_2)

/-- The head-wise normalisation, gain and gate. -/
def finish (o : FVec Ideal S4x1024x8x128 .f32) (a10 : FVec Ideal S1x128 .f32) (a5 : FVec Ideal S4096x1024 .bf16) : FVec Ideal S4096x1024 .bf16 :=
  truncf .bf16 (mulf (shapeCast _ (mulf (mulf (mulf o (broadcastInDim S4x1024x8x128 ![0, 1, 2, 3] bcast_S4x1024x8x1_S4x1024x8x128_0_1_2_3 (Host.rsqrt (addf (Host.divf (broadcastInDim S4x1024x8x1 ![0, 1, 2] bcast_S4x1024x8_S4x1024x8x1_0_1_2 (Host.reduceAdd (mulf o o) (constant S_ .f32 0x00000000#32) reducesTo_S4x1024x8x128_S4x1024x8_d3 h_S_)) (broadcastInDim S4x1024x8x1 ![] bcast_S_S4x1024x8x1 (constant S_ .f32 0x43000000#32))) (broadcastInDim S4x1024x8x1 ![] bcast_S_S4x1024x8x1 (constant S_ .f32 0x3727C5AC#32)))))) (broadcastInDim S4x1024x8x128 ![0, 1, 2, 3] bcast_S1x1x1x128_S4x1024x8x128_0_1_2_3 (broadcastInDim S1x1x1x128 ![3] bcast_S128_S1x1x1x128_3 (shapeCast _ a10 shapeCasts_S1x128_S128)))) (broadcastInDim S4x1024x8x128 ![] bcast_S_S4x1024x8x128 (constant S_ .f32 0x3F4CCCCD#32))) shapeCasts_S4x1024x8x128_S4096x1024) (extf .f32 a5 bitsLt_bf16_f32)) bitsLt_bf16_f32

/-- The reference's attention of given inputs: its stages composed. -/
def attn (a0 : FVec Ideal S4096x1024 .f32) (a1 : FVec Ideal S4x1x256x8x2x64 .f32) (a2 : FVec Ideal S4096x1024 .bf16)
    (a3 : FVec Ideal S4x1x256x8x128 .f32) (a4 a5 : FVec Ideal S4096x1024 .bf16) (a6 a7 a8 a9 : FVec Ideal S1x64 .f32) (a10 : FVec Ideal S1x128 .f32) :
    FVec Ideal S4096x1024 .bf16 :=
  finish (avg (lam a6 a7 a8 a9) (probs (weights (scores a0 a1 a2) (rowMax (scores a0 a1 a2)))) a3 a4) a10 a5

/-- The reference's result is its stages composed. -/
theorem result_eq (m : (ℓ : Loc nD τ sig) → Buf (Elt Ideal) ℓ) (c : Dev nD) :
    Value.res_out0 (F := Ideal) m c
      = attn (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  unfold Value.res_out0 Value.res_main_v63 attn finish avg lam probs weights rowMax scores
  rfl

/-! ## The stages at an index -/

/-- A row's largest score, folded from minus infinity. -/
theorem rowMax_at (s : FVec Ideal S4x8x2x1024x1280 .f32) (b : Fin 4) (h : Fin 8) (p : Fin 2) (r : Fin 1024) :
    rowMax s (ix4 b h p r) = Finset.univ.fold max (Ideal.ofBits .f32 0xFF800000#32) fun k => s (ix5 b h p r k) :=
  AttnMath.reduce_max_last s _ _ _ b h p r

/-- A score is an eighth of the contraction of a query row with a cached or new key row. -/
theorem scores_at (a0 : FVec Ideal S4096x1024 .f32) (a1 : FVec Ideal S4x1x256x8x2x64 .f32) (a2 : FVec Ideal S4096x1024 .bf16) (b : Fin 4) (h : Fin 8) (p : Fin 2) (r : Fin 1024) (j : Fin 1280) :
    scores a0 a1 a2 (ix5 b h p r j) = (∑ x : Fin 64, a0 (ix2 ⟨b * 1024 + r, by omega⟩ ⟨h * 128 + p * 64 + x, by omega⟩) *
      if hj : j.val < 256 then a1 (ix6 b 0 ⟨j, hj⟩ h p x) else a2 (ix2 ⟨b * 1024 + (j - 256), by omega⟩ ⟨h * 128 + p * 64 + x, by omega⟩))
      * Ideal.ofBits .f32 0x3E000000#32 := by
  pointwise [scores]

/-- A weight is the exponential of a score less its row's largest. -/
theorem weights_at (s : FVec Ideal S4x8x2x1024x1280 .f32) (t : FVec Ideal S4x8x2x1024 .f32) (b : Fin 4) (h : Fin 8) (p : Fin 2) (r : Fin 1024) (j : Fin 1280) :
    weights s t (ix5 b h p r j) = Ideal.exp (s (ix5 b h p r j) - max (Ideal.ofBits .f32 0xFF800000#32) (t (ix4 b h p r))) := by
  pointwise [weights]

/-- A probability is a weight over its row's sum. -/
theorem probs_at (e : FVec Ideal S4x8x2x1024x1280 .f32) (b : Fin 4) (h : Fin 8) (p : Fin 2) (r : Fin 1024) (j : Fin 1280) :
    probs e (ix5 b h p r j) = Ideal.div (e (ix5 b h p r j)) (∑ k, e (ix5 b h p r k)) := by
  pointwise [probs]

/-- The second map's weight. -/
theorem lam_at (a6 a7 a8 a9 : FVec Ideal S1x64 .f32) (j : S_.Idx) : lam a6 a7 a8 a9 j
    = Ideal.exp (∑ x : Fin 64, a6 (ix2 0 x) * a7 (ix2 0 x)) - Ideal.exp (∑ x : Fin 64, a8 (ix2 0 x) * a9 (ix2 0 x)) + Ideal.ofBits .f32 0x3E4CCCCD#32 := by
  pointwise [lam]

/-- An averaged value: over cached then new positions, the value times the difference of the maps' probabilities. -/
theorem avg_at (l : FVec Ideal S_ .f32) (p : FVec Ideal S4x8x2x1024x1280 .f32) (a3 : FVec Ideal S4x1x256x8x128 .f32) (a4 : FVec Ideal S4096x1024 .bf16)
    (b : Fin 4) (h : Fin 8) (r : Fin 1024) (d : Fin 128) : avg l p a3 a4 (ix4 b r h d)
    = (∑ x : Fin 256, a3 (ix5 b 0 x h d) * (p (ix5 b h 0 r ⟨x, by omega⟩) - l ix0 * p (ix5 b h 1 r ⟨x, by omega⟩)))
      + ∑ x : Fin 1024, a4 (ix2 ⟨b * 1024 + x, by omega⟩ ⟨h * 128 + d, by omega⟩) * (p (ix5 b h 0 r ⟨256 + x, by omega⟩) - l ix0 * p (ix5 b h 1 r ⟨256 + x, by omega⟩)) := by
  pointwise [avg]

/-- The result's element from the averages of its head and row. -/
theorem finish_at (o : FVec Ideal S4x1024x8x128 .f32) (a10 : FVec Ideal S1x128 .f32) (a5 : FVec Ideal S4096x1024 .bf16) (b : Fin 4) (r : Fin 1024) (h : Fin 8) (d : Fin 128) :
    finish o a10 a5 (ix2 ⟨b * 1024 + r, by omega⟩ ⟨h * 128 + d, by omega⟩)
    = o (ix4 b r h d) * Ideal.rsqrt (Ideal.div (∑ x, o (ix4 b r h x) * o (ix4 b r h x)) (Ideal.ofBits .f32 0x43000000#32)
      + Ideal.ofBits .f32 0x3727C5AC#32) * a10 (ix2 0 d) * Ideal.ofBits .f32 0x3F4CCCCD#32 * a5 (ix2 ⟨b * 1024 + r, by omega⟩ ⟨h * 128 + d, by omega⟩) := by
  pointwise [finish]

end Cert.AttnRef

end
-- ==== Proof.RefAt.lean ====
/-
  The reference at an element, on finite inputs: the normalised differential average of its head's rows.
-/
module

public import proofs.«01_k».proof.Proof.RefStages

@[expose] public section

set_option maxRecDepth 16384

noncomputable section

namespace Cert.AttnRef

open Cert.AttnRefIdeal Cert.AttnRefIdeal.Gen Idealize.ShloMosaic Idealize.ShloMosaic.TcCoe Idealize.SL.Sem

section Finite

variable (a0 : FVec Ideal S4096x1024 .f32) (a1 : FVec Ideal S4x1x256x8x2x64 .f32) (a2 : FVec Ideal S4096x1024 .bf16)
  (a3 : FVec Ideal S4x1x256x8x128 .f32) (a4 a5 : FVec Ideal S4096x1024 .bf16) (a6 a7 a8 a9 : FVec Ideal S1x64 .f32) (a10 : FVec Ideal S1x128 .f32)
  (b : Fin 4) (h : Fin 8) (r : Fin 1024) (qr : Fin 128 → ℝ) (kr vr : Fin 1280 → Fin 128 → ℝ) (lr : ℝ)

/-- A real score. -/
theorem score_real (hq : ∀ d : Fin 128, a0 (ix2 ⟨b * 1024 + r, by omega⟩ ⟨h * 128 + d, by omega⟩) = qr d)
    (hkc : ∀ (j : Fin 256) (p : Fin 2) (d : Fin 64), a1 (ix6 b 0 j h p d) = kr ⟨j, by omega⟩ ⟨p * 64 + d, by omega⟩)
    (hkn : ∀ (j : Fin 1024) (d : Fin 128), a2 (ix2 ⟨b * 1024 + j, by omega⟩ ⟨h * 128 + d, by omega⟩) = kr ⟨256 + j, by omega⟩ d)
    (p : Fin 2) (j : Fin 1280) :
    scores a0 a1 a2 (ix5 b h p r j) = (AttnMath.score qr (kr j) (p * 64) (by omega) : EReal) := by
  rw [scores_at, AttnMath.eighth]
  have hk : ∀ x : Fin 64, (if hj : j.val < 256 then a1 (ix6 b 0 ⟨j, hj⟩ h p x) else a2 (ix2 ⟨b * 1024 + (j - 256), by omega⟩ ⟨h * 128 + p * 64 + x, by omega⟩))
      = (kr j ⟨p * 64 + x, by omega⟩ : EReal) := fun x => by
    by_cases hj : j.val < 256
    · rw [dif_pos hj]; exact hkc _ _ _
    · rw [dif_neg hj]
      have e1 : (⟨256 + (j.val - 256), by omega⟩ : Fin 1280) = j := Fin.ext (by show 256 + (j.val - 256) = j.val; omega)
      have e2 : (⟨h * 128 + p * 64 + x, by omega⟩ : Fin 1024) = ⟨h * 128 + (p * 64 + x), by omega⟩ := Fin.ext (Nat.add_assoc _ _ _)
      rw [e2]
      exact (hkn ⟨j - 256, by omega⟩ ⟨p * 64 + x, by omega⟩).trans (congrArg (fun i => ((kr i ⟨p * 64 + x, by omega⟩ : ℝ) : EReal)) e1)
  have hq' : ∀ x : Fin 64, a0 (ix2 ⟨b * 1024 + r, by omega⟩ ⟨h * 128 + p * 64 + x, by omega⟩) = (qr ⟨p * 64 + x, by omega⟩ : EReal) := fun x => by
    have e2 : (⟨h * 128 + p * 64 + x, by omega⟩ : Fin 1024) = ⟨h * 128 + (p * 64 + x), by omega⟩ := Fin.ext (Nat.add_assoc _ _ _)
    rw [e2]
    exact hq ⟨p * 64 + x, by omega⟩
  rw [Finset.sum_congr rfl fun x _ => by rw [hk x, hq' x, ← EReal.coe_mul], AttnMath.coe_sum, ← EReal.coe_mul]
  rfl

/-- Real scores' weights: exponentials of the scores less one real number. -/
theorem weight_real (s : FVec Ideal S4x8x2x1024x1280 .f32) (p : Fin 2) (f : Fin 1280 → ℝ) (hs : ∀ j, s (ix5 b h p r j) = f j) :
    ∃ M : ℝ, ∀ j, weights s (rowMax s) (ix5 b h p r j) = Ideal.exp ((f j : EReal) - (M : EReal)) := by
  obtain ⟨M, hM⟩ := AttnMath.fold_max_real (n := 1279) f
  refine ⟨M, fun j => ?_⟩
  rw [weights_at, rowMax_at, AttnMath.neg_inf, max_eq_right bot_le, hs, ← hM]
  simp only [hs]

/-- The average at an element, on finite inputs. -/
theorem avg_real (hq : ∀ d : Fin 128, a0 (ix2 ⟨b * 1024 + r, by omega⟩ ⟨h * 128 + d, by omega⟩) = qr d)
    (hkc : ∀ (j : Fin 256) (p : Fin 2) (d : Fin 64), a1 (ix6 b 0 j h p d) = kr ⟨j, by omega⟩ ⟨p * 64 + d, by omega⟩)
    (hkn : ∀ (j : Fin 1024) (d : Fin 128), a2 (ix2 ⟨b * 1024 + j, by omega⟩ ⟨h * 128 + d, by omega⟩) = kr ⟨256 + j, by omega⟩ d)
    (hvc : ∀ (j : Fin 256) (d : Fin 128), a3 (ix5 b 0 j h d) = vr ⟨j, by omega⟩ d)
    (hvn : ∀ (j : Fin 1024) (d : Fin 128), a4 (ix2 ⟨b * 1024 + j, by omega⟩ ⟨h * 128 + d, by omega⟩) = vr ⟨256 + j, by omega⟩ d)
    (hl : AttnMath.lamOf (fun x => a6 (ix2 0 x)) (fun x => a7 (ix2 0 x)) (fun x => a8 (ix2 0 x)) (fun x => a9 (ix2 0 x)) = lr) (d : Fin 128) :
    avg (lam a6 a7 a8 a9) (probs (weights (scores a0 a1 a2) (rowMax (scores a0 a1 a2)))) a3 a4 (ix4 b r h d)
      = (AttnMath.diffAvg qr kr vr lr d : EReal) := by
  obtain ⟨M0, h0⟩ := weight_real b h r (scores a0 a1 a2) 0 _ fun j => score_real a0 a1 a2 b h r qr kr hq hkc hkn 0 j
  obtain ⟨M1, h1⟩ := weight_real b h r (scores a0 a1 a2) 1 _ fun j => score_real a0 a1 a2 b h r qr kr hq hkc hkn 1 j
  have hlam : lam a6 a7 a8 a9 ix0 = (lr : EReal) := (lam_at a6 a7 a8 a9 ix0).trans hl
  have e := AttnMath.ref_avg _ _ (fun j => vr j d) M0 M1 lr _ _ h0 h1
  rw [show AttnMath.diffAvg qr kr vr lr d = _ from rfl]
  refine Eq.trans ?_ e
  rw [avg_at, hlam]
  simp only [hvc, hvn, probs_at]
  exact (Fin.sum_univ_add (M := EReal) (a := 256) (b := 1024) fun j : Fin 1280 => (vr j d : EReal)
    * (Ideal.div (weights (scores a0 a1 a2) (rowMax (scores a0 a1 a2)) (ix5 b h 0 r j)) (∑ k, weights (scores a0 a1 a2) (rowMax (scores a0 a1 a2)) (ix5 b h 0 r k))
      - (lr : EReal) * Ideal.div (weights (scores a0 a1 a2) (rowMax (scores a0 a1 a2)) (ix5 b h 1 r j)) (∑ k, weights (scores a0 a1 a2) (rowMax (scores a0 a1 a2)) (ix5 b h 1 r k)))).symm

/-- The reference at an element, on finite inputs. -/
theorem attn_at (hq : ∀ d : Fin 128, a0 (ix2 ⟨b * 1024 + r, by omega⟩ ⟨h * 128 + d, by omega⟩) = qr d)
    (hkc : ∀ (j : Fin 256) (p : Fin 2) (d : Fin 64), a1 (ix6 b 0 j h p d) = kr ⟨j, by omega⟩ ⟨p * 64 + d, by omega⟩)
    (hkn : ∀ (j : Fin 1024) (d : Fin 128), a2 (ix2 ⟨b * 1024 + j, by omega⟩ ⟨h * 128 + d, by omega⟩) = kr ⟨256 + j, by omega⟩ d)
    (hvc : ∀ (j : Fin 256) (d : Fin 128), a3 (ix5 b 0 j h d) = vr ⟨j, by omega⟩ d)
    (hvn : ∀ (j : Fin 1024) (d : Fin 128), a4 (ix2 ⟨b * 1024 + j, by omega⟩ ⟨h * 128 + d, by omega⟩) = vr ⟨256 + j, by omega⟩ d)
    (hl : AttnMath.lamOf (fun x => a6 (ix2 0 x)) (fun x => a7 (ix2 0 x)) (fun x => a8 (ix2 0 x)) (fun x => a9 (ix2 0 x)) = lr) (d : Fin 128) :
    attn a0 a1 a2 a3 a4 a5 a6 a7 a8 a9 a10 (ix2 ⟨b * 1024 + r, by omega⟩ ⟨h * 128 + d, by omega⟩)
      = AttnMath.normed (fun x => AttnMath.diffAvg qr kr vr lr x) (a10 (ix2 0 d)) (a5 (ix2 ⟨b * 1024 + r, by omega⟩ ⟨h * 128 + d, by omega⟩)) d := by
  unfold attn
  rw [finish_at]
  simp only [avg_real a0 a1 a2 a3 a4 a6 a7 a8 a9 b h r qr kr vr lr hq hkc hkn hvc hvn hl]
  rfl

end Finite

end Cert.AttnRef

end
-- ==== Proof.AttnHead.lean ====
module

public import proofs.«01_k».proof.Proof.Gen.AttnIdeal.Frame
public import Idealize.ShloMosaic.Lib.Pointwise

@[expose] public section

set_option maxRecDepth 16384

noncomputable section

/-! # One head of the attention body as one function of its tiles

The printed body cuts each of its eight heads into values at different places. Here a head is written once, in five
steps, and every printed head is shown to be it. -/

namespace Cert.AttnHead

open Cert.AttnIdeal Cert.AttnIdeal.Gen Idealize.ShloMosaic Idealize.ShloMosaic.TcCoe Idealize.SL.Sem

/-- The two maps' scaled queries, one above the other, each padded by zeros in the other map's lanes. -/
def stackQ (q : FVec Ideal S512x128 .f32) : FVec Ideal S1024x128 .bf16 :=
  have qs : FVec Ideal S512x128 .bf16 := truncf .bf16 (mulf q
    (broadcast S512x128 (Named.named (F := Ideal) (φ := .f32) κ "qscale" 0x3E38AA3B#32))) bitsLt_bf16_f32
  have low : IVec S512x128 1 := broadcastTo S512x128 (shapeCast S1x128 k0_pay2 shapeCasts_S1x128_S1x128) broadcasts_S1x128_S512x128
  have z : FVec Ideal S512x128 .bf16 := broadcast S512x128 (Scalar.ofBits .bf16 0x0000#16)
  concatenate S1024x128 0 [⟨S512x128, select low qs z⟩, ⟨S512x128, select low z qs⟩] concatenates_S512x128_S512x128_S1024x128_d0

/-- The scores of every query of both maps against the cached keys, then the new ones. -/
def scores (q : FVec Ideal S1024x128 .bf16) (kn : FVec Ideal S1024x128 .bf16) (kc : FVec Ideal S1x256x128 .bf16) : FVec Ideal S1024x1280 .f32 :=
  concatenate S1024x1280 1
    [⟨S1024x256, matmul dot_S1024x128_S256x128_S1024x256_1_1_0_0_n_n none q (shapeCast S256x128 kc shapeCasts_S1x256x128_S256x128)
        (constant S1024x256 .f32 0x00000000#32)⟩,
     ⟨S1024x1024, matmul dot_S1024x128_S1024x128_S1024x1024_1_1_0_0_n_n none q kn (constant S1024x1024 .f32 0x00000000#32)⟩]
    concatenates_S1024x256_S1024x1024_S1024x1280_d1

/-- The unnormalised weights: two to the power of each score less its row's largest. -/
def weights (s : FVec Ideal S1024x1280 .f32) : FVec Ideal S1024x1280 .bf16 :=
  truncf .bf16 (exp2 (subf s (broadcastTo S1024x1280
    (shapeCast S1024x1 (multiReduction .maximumf [1] S1024 s 0xFF800000#32 reduces_S1024x1280_S1024 (.inl rfl) rfl)
      shapeCasts_S1024_S1024x1) broadcasts_S1024x1_S1024x1280))) bitsLt_bf16_f32

/-- The weighted values beside the weights' sums, from the values with columns of ones beside them. -/
def sums (e : FVec Ideal S1024x1280 .bf16) (vn : FVec Ideal S1024x128 .bf16) (vc : FVec Ideal S1x256x128 .bf16) : FVec Ideal S1024x256 .f32 :=
  addf
    (matmul dot_S1024x256_S256x256_S1024x256_1_0_0_1_n_n none (extractStridedSlice S1024x256 ![0, 0] e slices_S1024x1280_o0_0_S1024x256)
      (concatenate S256x256 1 [⟨S256x128, shapeCast S256x128 vc shapeCasts_S1x256x128_S256x128⟩,
        ⟨S256x128, extractStridedSlice S256x128 ![0, 0] (k0_pay3 (F := Ideal)) slices_S1024x128_o0_0_S256x128⟩] concatenates_S256x128_S256x128_S256x256_d1)
      (constant S1024x256 .f32 0x00000000#32))
    (matmul dot_S1024x1024_S1024x256_S1024x256_1_0_0_1_n_n none (extractStridedSlice S1024x1024 ![0, 256] e slices_S1024x1280_o0_256_S1024x1024)
      (concatenate S1024x256 1 [⟨S1024x128, vn⟩, ⟨S1024x128, k0_pay3 (F := Ideal)⟩] concatenates_S1024x128_S1024x128_S1024x256_d1)
      (constant S1024x256 .f32 0x00000000#32))

/-- The first map's average less `lam` times the second's. -/
def differ (lam : FVec Ideal S1x1 .f32) (oa : FVec Ideal S1024x256 .f32) : FVec Ideal S512x128 .f32 :=
  have on : FVec Ideal S1024x128 .f32 := mulf (extractStridedSlice S1024x128 ![0, 0] oa slices_S1024x256_o0_0_S1024x128)
    (divf (broadcast S1024x128 (Scalar.ofBits .f32 0x3F800000#32)) (extractStridedSlice S1024x128 ![0, 128] oa slices_S1024x256_o0_128_S1024x128))
  subf (extractStridedSlice S512x128 ![0, 0] on slices_S1024x128_o0_0_S512x128)
    (mulf (broadcastTo S512x128 lam broadcasts_S1x1_S512x128) (extractStridedSlice S512x128 ![512, 0] on slices_S1024x128_o512_0_S512x128))

/-- The root-mean-square normalisation, its gain, the constant factor and the gate. -/
def finish (o : FVec Ideal S512x128 .f32) (g : FVec Ideal S1x128 .f32) (sz : FVec Ideal S512x128 .bf16) : FVec Ideal S512x128 .bf16 :=
  have ms : FVec Ideal S512x1 .f32 := divf (shapeCast S512x1 (multiReduction .add [1] S512 (mulf o o) 0x00000000#32 reduces_S512x128_S512 (.inl rfl) rfl)
    shapeCasts_S512_S512x1) (broadcast S512x1 (Scalar.ofBits .f32 0x43000000#32))
  have r : FVec Ideal S512x1 .f32 := rsqrt (addf ms (broadcast S512x1 (Scalar.ofBits .f32 0x3727C5AC#32)))
  truncf .bf16 (mulf (mulf (mulf (mulf o (broadcastTo S512x128 r broadcasts_S512x1_S512x128))
    (broadcastTo S512x128 (shapeCast S1x128 g shapeCasts_S1x128_S1x128) broadcasts_S1x128_S512x128))
    (broadcast S512x128 (Scalar.ofBits .f32 0x3F4CCCCD#32))) (extf .f32 sz bitsLt_bf16_f32)) bitsLt_bf16_f32

/-- A head's differential average, before the normalisation. -/
def avg (lam : FVec Ideal S1x1 .f32) (q : FVec Ideal S512x128 .f32) (kn : FVec Ideal S1024x128 .bf16) (kc : FVec Ideal S1x256x128 .bf16)
    (vn : FVec Ideal S1024x128 .bf16) (vc : FVec Ideal S1x256x128 .bf16) : FVec Ideal S512x128 .f32 :=
  differ lam (sums (weights (scores (stackQ q) kn kc)) vn vc)

/-- A whole head. -/
def head (lam : FVec Ideal S1x1 .f32) (q : FVec Ideal S512x128 .f32) (kn : FVec Ideal S1024x128 .bf16) (kc : FVec Ideal S1x256x128 .bf16)
    (vn : FVec Ideal S1024x128 .bf16) (vc : FVec Ideal S1x256x128 .bf16) (g : FVec Ideal S1x128 .f32) (sz : FVec Ideal S512x128 .bf16) : FVec Ideal S512x128 .bf16 :=
  finish (avg lam q kn kc vn vc) g sz

section
variable (lam : FVec Ideal S1x1 .f32) (q : FVec Ideal S512x128 .f32) (kn : FVec Ideal S1024x128 .bf16) (kc : FVec Ideal S1x256x128 .bf16)
  (vn : FVec Ideal S1024x128 .bf16) (vc : FVec Ideal S1x256x128 .bf16) (g : FVec Ideal S1x128 .f32) (sz : FVec Ideal S512x128 .bf16)

/-- The printed head 0 is `head`. -/
theorem head0 : k0_pay6 (k0_pay5 lam (k0_pay3 (F := Ideal)) (k0_pay4 q) kn (constant S1024x1024 .f32 0x00000000#32) kc vn vc) g sz
    = head lam q kn kc vn vc g sz := rfl
/-- The printed head 1 is `head`. -/
theorem head1 : k0_pay9 lam (k0_pay3 (F := Ideal)) (k0_pay7 k0_pay2 q kn kc) (k0_pay8 (k0_pay3 (F := Ideal)) vn) vc g sz
    = head lam q kn kc vn vc g sz := rfl
/-- The printed head 2 is `head`. -/
theorem head2 : k0_pay13 lam (k0_pay11 k0_pay2 (k0_pay3 (F := Ideal)) q (Named.named (F := Ideal) (φ := .f32) κ "qscale" 0x3E38AA3B#32) kn kc vn vc)
    (k0_pay12 k0_pay2 (k0_pay3 (F := Ideal)) q (Named.named (F := Ideal) (φ := .f32) κ "qscale" 0x3E38AA3B#32) kn kc vn vc) g sz
    = head lam q kn kc vn vc g sz := rfl
/-- The printed head 3 is `head`. -/
theorem head3 : k0_pay18 (k0_pay16 lam (k0_pay3 (F := Ideal)) (k0_pay14 k0_pay2 q) (k0_pay15 k0_pay2 q kn) kc vn vc) (k0_pay17 g) sz
    = head lam q kn kc vn vc g sz := rfl
/-- The printed head 4 is `head`. -/
theorem head4 : k0_pay21 lam (k0_pay3 (F := Ideal)) (k0_pay19 k0_pay2 q kn kc) (k0_pay20 (k0_pay3 (F := Ideal)) vn) vc g sz
    = head lam q kn kc vn vc g sz := rfl
/-- The printed head 5 is `head`. -/
theorem head5 : k0_pay24 (k0_pay23 lam k0_pay2 (k0_pay3 (F := Ideal)) (k0_pay22 q) kn kc vn vc) g sz
    = head lam q kn kc vn vc g sz := rfl
/-- The printed head 6 is `head`. -/
theorem head6 : k0_pay30 (k0_pay28 lam (k0_pay3 (F := Ideal)) (k0_pay25 k0_pay2 q) (k0_pay26 k0_pay2 q kn) (k0_pay27 kc) vn vc g)
    (k0_pay29 (F := Ideal)) sz = head lam q kn kc vn vc g sz := rfl
/-- The printed head 7 is `head`. -/
theorem head7 : k0_pay34 lam (k0_pay31 k0_pay2 q kn kc) (k0_pay32 (k0_pay3 (F := Ideal)) vn) (k0_pay33 (k0_pay3 (F := Ideal)) vc) g sz
    = head lam q kn kc vn vc g sz := rfl
end

end Cert.AttnHead

end
-- ==== Proof.HeadAt.lean ====
module

public import proofs.«01_k».proof.Proof.AttnHead
public import proofs.«01_k».proof.Proof.AttnMath

@[expose] public section

set_option maxRecDepth 16384

noncomputable section

/-! # A head read at an element, on finite tiles -/

namespace Cert.AttnHead

open Cert.AttnIdeal Cert.AttnIdeal.Gen Idealize.ShloMosaic Idealize.ShloMosaic.TcCoe Idealize.SL.Sem

/-- The named scale is an eighth over the logarithm of two. -/
theorem scale_eq : Named.named (F := Ideal) (φ := .f32) κ "qscale" 0x3E38AA3B#32 = (((1 / 8) * (Real.log 2)⁻¹ : ℝ) : EReal) := rfl

/-- Upper rows of the stack: the scaled query in the first map's lanes, zero in the others. -/
theorem stack_lo (q : FVec Ideal S512x128 .f32) (r : Fin 512) (d : Fin 128) :
    stackQ q (ix2 ⟨r, by omega⟩ d) = if d.val < 64 then q (ix2 r d) * (((1 / 8) * (Real.log 2)⁻¹ : ℝ) : EReal) else 0 := by
  pointwise [stackQ, k0_pay2]
  rw [AttnMath.lane_lt, scale_eq]
  by_cases h : d.val < 64
  · rw [if_pos h, if_pos h]; rfl
  · rw [if_neg h, if_neg h]; rfl

/-- Lower rows of the stack: the scaled query in the second map's lanes, zero in the others. -/
theorem stack_hi (q : FVec Ideal S512x128 .f32) (r : Fin 512) (d : Fin 128) :
    stackQ q (ix2 ⟨512 + r, by omega⟩ d) = if d.val < 64 then 0 else q (ix2 r d) * (((1 / 8) * (Real.log 2)⁻¹ : ℝ) : EReal) := by
  pointwise [stackQ, k0_pay2]
  rw [AttnMath.lane_lt, scale_eq]
  by_cases h : d.val < 64
  · rw [if_pos h, if_pos h]; rfl
  · rw [if_neg h, if_neg h]; rfl

section Finite

variable (q : FVec Ideal S512x128 .f32) (kn : FVec Ideal S1024x128 .bf16) (kc : FVec Ideal S1x256x128 .bf16)
  (vn : FVec Ideal S1024x128 .bf16) (vc : FVec Ideal S1x256x128 .bf16) (lam : FVec Ideal S1x1 .f32)
  (qr : Fin 512 → Fin 128 → ℝ) (kr vr : Fin 1280 → Fin 128 → ℝ) (lr : ℝ)

/-- The scores of the first map's rows. -/
theorem scores_lo (hq : ∀ r d, q (ix2 r d) = qr r d) (hkc : ∀ (j : Fin 256) d, kc (ix3 0 j d) = kr ⟨j, by omega⟩ d)
    (hkn : ∀ (j : Fin 1024) d, kn (ix2 j d) = kr ⟨256 + j, by omega⟩ d) (r : Fin 512) (j : Fin 1280) :
    scores (stackQ q) kn kc (ix2 ⟨r, by omega⟩ j) = ((AttnMath.score (qr r) (kr j) 0 (by omega) / Real.log 2 : ℝ) : EReal) := by
  have hs : ∀ K : Fin 128 → EReal, (∀ d, K d = kr j d) → ∑ d, stackQ q (ix2 ⟨r, by omega⟩ d) * K d
      = ((AttnMath.score (qr r) (kr j) 0 (by omega) / Real.log 2 : ℝ) : EReal) := fun K hK => by
    rw [AttnMath.sum_low _ (fun d => qr r ⟨d, by omega⟩ * ((1 / 8) * (Real.log 2)⁻¹) * kr j ⟨d, by omega⟩)
      (fun d => by rw [stack_lo, if_pos d.isLt, hq, hK, ← EReal.coe_mul, ← EReal.coe_mul])
      (fun d => by rw [stack_lo, if_neg (by simp), zero_mul])]
    simp only [AttnMath.score, Nat.zero_add, Finset.sum_mul, Finset.sum_div]
    congr 1; refine Finset.sum_congr rfl fun d _ => ?_; ring
  pointwise [scores]
  by_cases h : j.val < 256
  · rw [dif_pos h]; exact hs _ fun d => hkc _ d
  · rw [dif_neg h]; exact hs _ fun d => (hkn ⟨j - 256, by omega⟩ d).trans
      (congrArg (fun i => ((kr i d : ℝ) : EReal)) (Fin.ext (show 256 + (j.val - 256) = j.val by omega)))

/-- The scores of the second map's rows. -/
theorem scores_hi (hq : ∀ r d, q (ix2 r d) = qr r d) (hkc : ∀ (j : Fin 256) d, kc (ix3 0 j d) = kr ⟨j, by omega⟩ d)
    (hkn : ∀ (j : Fin 1024) d, kn (ix2 j d) = kr ⟨256 + j, by omega⟩ d) (r : Fin 512) (j : Fin 1280) :
    scores (stackQ q) kn kc (ix2 ⟨512 + r, by omega⟩ j) = ((AttnMath.score (qr r) (kr j) 64 le_rfl / Real.log 2 : ℝ) : EReal) := by
  have hs : ∀ K : Fin 128 → EReal, (∀ d, K d = kr j d) → ∑ d, stackQ q (ix2 ⟨512 + r, by omega⟩ d) * K d
      = ((AttnMath.score (qr r) (kr j) 64 le_rfl / Real.log 2 : ℝ) : EReal) := fun K hK => by
    rw [AttnMath.sum_high _ (fun d => qr r ⟨64 + d, by omega⟩ * ((1 / 8) * (Real.log 2)⁻¹) * kr j ⟨64 + d, by omega⟩)
      (fun d => by rw [stack_hi, if_pos d.isLt, zero_mul])
      (fun d => by rw [stack_hi, if_neg (by simp), hq, hK, ← EReal.coe_mul, ← EReal.coe_mul])]
    simp only [AttnMath.score, Finset.sum_mul, Finset.sum_div]
    congr 1; refine Finset.sum_congr rfl fun d _ => ?_; ring
  pointwise [scores]
  by_cases h : j.val < 256
  · rw [dif_pos h]; exact hs _ fun d => hkc _ d
  · rw [dif_neg h]; exact hs _ fun d => (hkn ⟨j - 256, by omega⟩ d).trans
      (congrArg (fun i => ((kr i d : ℝ) : EReal)) (Fin.ext (show 256 + (j.val - 256) = j.val by omega)))

/-- A row whose scores are real numbers over the logarithm of two yields the exponential average of the values. -/
theorem row_avg (S : FVec Ideal S1024x1280 .f32) (r : Fin 1024) (s : Fin 1280 → ℝ)
    (hS : ∀ j, S (ix2 r j) = ((s j / Real.log 2 : ℝ) : EReal)) (hvc : ∀ (j : Fin 256) d, vc (ix3 0 j d) = vr ⟨j, by omega⟩ d)
    (hvn : ∀ (j : Fin 1024) d, vn (ix2 j d) = vr ⟨256 + j, by omega⟩ d) (l : Fin 128) :
    sums (weights S) vn vc (ix2 r ⟨l, by omega⟩) * Ideal.div 1 (sums (weights S) vn vc (ix2 r ⟨128 + l, by omega⟩))
      = (AttnMath.expAvg s (fun j => vr j l) : EReal) := by
  obtain ⟨M, hM⟩ := AttnMath.fold_max_real (n := 1279) fun j => s j / Real.log 2
  have hw : ∀ j, weights S (ix2 r j) = Ideal.exp2 (((s j / Real.log 2 : ℝ) : EReal) - (M : EReal)) := fun j => by
    pointwise [weights]
    rw [AttnMath.neg_inf, ← hM]
    simp only [hS]
    rfl
  pointwise [sums, k0_pay3]
  simp only [hvc, hvn]
  exact AttnMath.kernel_avg_cut s (fun j => vr j l) M (fun j => weights S (ix2 r j)) hw

/-- A head's differential average on finite tiles: the first map's exponential average less `lr` times the second's. -/
theorem avg_at (hq : ∀ r d, q (ix2 r d) = qr r d) (hkc : ∀ (j : Fin 256) d, kc (ix3 0 j d) = kr ⟨j, by omega⟩ d)
    (hkn : ∀ (j : Fin 1024) d, kn (ix2 j d) = kr ⟨256 + j, by omega⟩ d) (hvc : ∀ (j : Fin 256) d, vc (ix3 0 j d) = vr ⟨j, by omega⟩ d)
    (hvn : ∀ (j : Fin 1024) d, vn (ix2 j d) = vr ⟨256 + j, by omega⟩ d) (hl : lam (ix2 0 0) = lr) (r : Fin 512) (l : Fin 128) :
    avg lam q kn kc vn vc (ix2 r l) = (AttnMath.diffAvg (qr r) kr vr lr l : EReal) := by
  unfold AttnMath.diffAvg
  pointwise [avg, differ]
  rw [row_avg vn vc vr _ _ _ (fun j => scores_lo q kn kc qr kr hq hkc hkn r j) hvc hvn l,
    row_avg vn vc vr _ _ _ (fun j => scores_hi q kn kc qr kr hq hkc hkn r j) hvc hvn l, hl, ← EReal.coe_mul, ← EReal.coe_sub]

end Finite

/-- The normalisation, gain and gate read at an element. -/
theorem finish_at (o : FVec Ideal S512x128 .f32) (g : FVec Ideal S1x128 .f32) (sz : FVec Ideal S512x128 .bf16) (r : Fin 512) (l : Fin 128) :
    finish o g sz (ix2 r l) = AttnMath.normed (fun x => o (ix2 r x)) (g (ix2 0 l)) (sz (ix2 r l)) l := by
  unfold AttnMath.normed
  pointwise [finish]

/-- The weight's scalar from the four vectors' tiles. -/
theorem lam_at (v : FVec Ideal S1x64 .f32) (v2 : FVec Ideal S1x64 .f32) (v3 : FVec Ideal S1x64 .f32) (v4 : FVec Ideal S1x64 .f32) :
    k0_pay1 (F := Ideal) v v2 v3 v4 (ix2 0 0)
      = AttnMath.lamOf (fun x => v (ix2 0 x)) (fun x => v2 (ix2 0 x)) (fun x => v3 (ix2 0 x)) (fun x => v4 (ix2 0 x)) := by
  unfold AttnMath.lamOf
  pointwise [k0_pay1]

/-- A head at an element, on finite tiles. -/
theorem head_at (q : FVec Ideal S512x128 .f32) (kn : FVec Ideal S1024x128 .bf16) (kc : FVec Ideal S1x256x128 .bf16)
    (vn : FVec Ideal S1024x128 .bf16) (vc : FVec Ideal S1x256x128 .bf16) (lam : FVec Ideal S1x1 .f32) (g : FVec Ideal S1x128 .f32)
    (sz : FVec Ideal S512x128 .bf16) (qr : Fin 512 → Fin 128 → ℝ) (kr vr : Fin 1280 → Fin 128 → ℝ) (lr : ℝ)
    (hq : ∀ r d, q (ix2 r d) = qr r d) (hkc : ∀ (j : Fin 256) d, kc (ix3 0 j d) = kr ⟨j, by omega⟩ d)
    (hkn : ∀ (j : Fin 1024) d, kn (ix2 j d) = kr ⟨256 + j, by omega⟩ d) (hvc : ∀ (j : Fin 256) d, vc (ix3 0 j d) = vr ⟨j, by omega⟩ d)
    (hvn : ∀ (j : Fin 1024) d, vn (ix2 j d) = vr ⟨256 + j, by omega⟩ d) (hl : lam (ix2 0 0) = lr) (r : Fin 512) (l : Fin 128) :
    head lam q kn kc vn vc g sz (ix2 r l)
      = AttnMath.normed (fun x => AttnMath.diffAvg (qr r) kr vr lr x) (g (ix2 0 l)) (sz (ix2 r l)) l := by
  unfold head
  rw [finish_at]
  simp only [avg_at q kn kc vn vc lam qr kr vr lr hq hkc hkn hvc hvn hl]

end Cert.AttnHead

end
-- ==== Proof.Core.lean ====
/-
  A head's tile over blocks of the arrays is the reference's element, on finite inputs.
-/
module

public import proofs.«01_k».proof.Proof.RefAt
public import proofs.«01_k».proof.Proof.HeadAt

@[expose] public section

set_option maxRecDepth 16384

noncomputable section

namespace Cert.AttnCore

open Cert.AttnRefIdeal Idealize.ShloMosaic Idealize.ShloMosaic.TcCoe Idealize.SL.Sem

/-- Every element is a real number. -/
def Finite {ι : Type} (a : ι → EReal) : Prop := ∀ i, ∃ x : ℝ, a i = x

section

variable (a0 : FVec Ideal S4096x1024 .f32) (a1 : FVec Ideal S4x1x256x8x2x64 .f32) (a2 : FVec Ideal S4096x1024 .bf16)
  (a3 : FVec Ideal S4x1x256x8x128 .f32) (a4 a5 : FVec Ideal S4096x1024 .bf16) (a6 a7 a8 a9 : FVec Ideal S1x64 .f32) (a10 : FVec Ideal S1x128 .f32)

/-- The head's tile at point `t` (batch `t / 2`, half `t % 2` of its rows) and head `h`, its operands being the blocks
    of the arrays that the kernel stages there: each element is the reference's. -/
theorem core (f0 : Finite a0) (f1 : Finite a1) (f2 : Finite a2) (f3 : Finite a3) (f4 : Finite a4)
    (f6 : Finite a6) (f7 : Finite a7) (f8 : Finite a8) (f9 : Finite a9) (t : Fin 8) (h : Fin 8)
    (q : FVec Ideal Cert.AttnIdeal.S512x128 .f32) (kn : FVec Ideal Cert.AttnIdeal.S1024x128 .bf16) (kc : FVec Ideal Cert.AttnIdeal.S1x256x128 .bf16)
    (vn : FVec Ideal Cert.AttnIdeal.S1024x128 .bf16) (vc : FVec Ideal Cert.AttnIdeal.S1x256x128 .bf16) (lam : FVec Ideal Cert.AttnIdeal.S1x1 .f32)
    (g : FVec Ideal S1x128 .f32) (sz : FVec Ideal Cert.AttnIdeal.S512x128 .bf16)
    (hq : ∀ (r : Fin 512) (d : Fin 128), q (ix2 r d) = a0 (ix2 ⟨t * 512 + r, by omega⟩ ⟨h * 128 + d, by omega⟩))
    (hkc : ∀ (j : Fin 256) (d : Fin 128), kc (ix3 0 j d) = a1 (ix6 ⟨t / 2, by omega⟩ 0 j h ⟨d / 64, by omega⟩ ⟨d % 64, by omega⟩))
    (hkn : ∀ (j : Fin 1024) (d : Fin 128), kn (ix2 j d) = a2 (ix2 ⟨t / 2 * 1024 + j, by omega⟩ ⟨h * 128 + d, by omega⟩))
    (hvc : ∀ (j : Fin 256) (d : Fin 128), vc (ix3 0 j d) = a3 (ix5 ⟨t / 2, by omega⟩ 0 j h d))
    (hvn : ∀ (j : Fin 1024) (d : Fin 128), vn (ix2 j d) = a4 (ix2 ⟨t / 2 * 1024 + j, by omega⟩ ⟨h * 128 + d, by omega⟩))
    (hl : lam (ix2 0 0) = AttnMath.lamOf (fun x => a6 (ix2 0 x)) (fun x => a7 (ix2 0 x)) (fun x => a8 (ix2 0 x)) (fun x => a9 (ix2 0 x)))
    (hg : ∀ d : Fin 128, g (ix2 0 d) = a10 (ix2 0 d))
    (hs : ∀ (r : Fin 512) (d : Fin 128), sz (ix2 r d) = a5 (ix2 ⟨t * 512 + r, by omega⟩ ⟨h * 128 + d, by omega⟩))
    (r : Fin 512) (d : Fin 128) :
    AttnHead.head lam q kn kc vn vc g sz (ix2 r d)
      = AttnRef.attn a0 a1 a2 a3 a4 a5 a6 a7 a8 a9 a10 (ix2 ⟨t * 512 + r, by omega⟩ ⟨h * 128 + d, by omega⟩) := by
  choose r0 e0 using f0
  choose r1 e1 using f1
  choose r2 e2 using f2
  choose r3 e3 using f3
  choose r4 e4 using f4
  choose r6 e6 using f6
  choose r7 e7 using f7
  choose r8 e8 using f8
  choose r9 e9 using f9
  obtain ⟨lr, hlr⟩ := AttnMath.lamOf_real (fun x => r6 (ix2 0 x)) (fun x => r7 (ix2 0 x)) (fun x => r8 (ix2 0 x)) (fun x => r9 (ix2 0 x))
  have hlr' : AttnMath.lamOf (fun x => a6 (ix2 0 x)) (fun x => a7 (ix2 0 x)) (fun x => a8 (ix2 0 x)) (fun x => a9 (ix2 0 x)) = (lr : EReal) := by
    simp only [e6, e7, e8, e9]; exact hlr
  let kr : Fin 1280 → Fin 128 → ℝ := fun j d => if hj : j.val < 256 then r1 (ix6 ⟨t / 2, by omega⟩ 0 ⟨j, hj⟩ h ⟨d / 64, by omega⟩ ⟨d % 64, by omega⟩)
    else r2 (ix2 ⟨t / 2 * 1024 + (j - 256), by omega⟩ ⟨h * 128 + d, by omega⟩)
  let vr : Fin 1280 → Fin 128 → ℝ := fun j d => if hj : j.val < 256 then r3 (ix5 ⟨t / 2, by omega⟩ 0 ⟨j, hj⟩ h d)
    else r4 (ix2 ⟨t / 2 * 1024 + (j - 256), by omega⟩ ⟨h * 128 + d, by omega⟩)
  have klo : ∀ (j : Fin 256) (d : Fin 128), kr ⟨j, by omega⟩ d = r1 (ix6 ⟨t / 2, by omega⟩ 0 j h ⟨d / 64, by omega⟩ ⟨d % 64, by omega⟩) :=
    fun j d => dif_pos j.isLt
  have vlo : ∀ (j : Fin 256) (d : Fin 128), vr ⟨j, by omega⟩ d = r3 (ix5 ⟨t / 2, by omega⟩ 0 j h d) :=
    fun j d => dif_pos j.isLt
  have khi : ∀ (j : Fin 1024) (d : Fin 128), kr ⟨256 + j, by omega⟩ d = r2 (ix2 ⟨t / 2 * 1024 + j, by omega⟩ ⟨h * 128 + d, by omega⟩) :=
    fun j d => (dif_neg (by simp)).trans (congrArg (fun i => r2 (ix2 i ⟨h * 128 + d, by omega⟩)) (Fin.ext (by show t.val / 2 * 1024 + (256 + j.val - 256) = t.val / 2 * 1024 + j.val; omega)))
  have vhi : ∀ (j : Fin 1024) (d : Fin 128), vr ⟨256 + j, by omega⟩ d = r4 (ix2 ⟨t / 2 * 1024 + j, by omega⟩ ⟨h * 128 + d, by omega⟩) :=
    fun j d => (dif_neg (by simp)).trans (congrArg (fun i => r4 (ix2 i ⟨h * 128 + d, by omega⟩)) (Fin.ext (by show t.val / 2 * 1024 + (256 + j.val - 256) = t.val / 2 * 1024 + j.val; omega)))
  have hrow : (⟨t * 512 + r, by omega⟩ : Fin 4096) = ⟨t / 2 * 1024 + (t % 2 * 512 + r), by omega⟩ :=
    Fin.ext (by show t.val * 512 + r.val = t.val / 2 * 1024 + (t.val % 2 * 512 + r.val); omega)
  rw [AttnHead.head_at q kn kc vn vc lam g sz (fun r d => r0 (ix2 ⟨t * 512 + r, by omega⟩ ⟨h * 128 + d, by omega⟩)) kr vr lr
    (fun r d => (hq r d).trans (e0 _)) (fun j d => by rw [hkc, e1, klo]) (fun j d => by rw [hkn, e2, khi]) (fun j d => by rw [hvc, e3, vlo])
    (fun j d => by rw [hvn, e4, vhi]) (hl.trans hlr') r d, hg, hs, hrow]
  refine (AttnRef.attn_at a0 a1 a2 a3 a4 a5 a6 a7 a8 a9 a10 ⟨t / 2, by omega⟩ h ⟨t % 2 * 512 + r, by omega⟩
    (fun d => r0 (ix2 ⟨t / 2 * 1024 + (t % 2 * 512 + r), by omega⟩ ⟨h * 128 + d, by omega⟩)) kr vr lr
    (fun d => e0 _) (fun j p d => ?_) (fun j d => by rw [e2, khi]) (fun j d => by rw [e3, vlo]) (fun j d => by rw [e4, vhi]) hlr' d).symm
  rw [e1, klo]
  have h1 : (⟨(p.val * 64 + d.val) / 64, by omega⟩ : Fin 2) = p := Fin.ext (by show (p.val * 64 + d.val) / 64 = p.val; omega)
  have h2 : (⟨(p.val * 64 + d.val) % 64, by omega⟩ : Fin 64) = d := Fin.ext (by show (p.val * 64 + d.val) % 64 = d.val; omega)
  simp only [h1, h2]

end

end Cert.AttnCore

end
-- ==== Proof.Reads.lean ====
module

public import proofs.«01_k».proof.Proof.Core
public import proofs.«01_k».proof.Proof.Gen.AttnIdeal.Value
public import Idealize.ShloMosaic.Lib.Pipeline.ValueKit

@[expose] public section

set_option maxRecDepth 16384

noncomputable section

/-! # The attention kernel's output array -/

namespace Cert.AttnIdeal.Whole

open Cert.AttnIdeal Cert.AttnIdeal.Gen Idealize.ShloMosaic Idealize.ShloMosaic.TcCoe Idealize.SL.Sem

variable (m : (ℓ : Loc nD τ sig) → Buf (Elt Ideal) ℓ)

/-- Block indices at point `t`. -/
theorem idx : ∀ t : Fin cfg0.N, win0_0.index t = ![t.val, 0] ∧ win0_1.index t = ![t.val / 2, 0, 0] ∧ win0_2.index t = ![t.val / 2, 0]
    ∧ win0_3.index t = ![t.val / 2, 0, 0] ∧ win0_4.index t = ![t.val / 2, 0] ∧ win0_5.index t = ![t.val, 0]
    ∧ win0_6.index t = ![0, 0] ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- The reference's attention of the kernel's arguments. -/
abbrev ref (c : Dev nD) : FVec Ideal S4096x1024 .bf16 :=
  AttnRef.attn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The staged weight vectors and gains are the arguments, reshaped there and back. -/
theorem V1 (c : Dev nD) (x : Fin 64) : V m c main_v1 (ix2 0 x) = m ((c.tc : Thread nD τ).loc main_arg6) (ix2 0 x) := by
  entry_read; pointwise
/-- The second vector. -/
theorem V3 (c : Dev nD) (x : Fin 64) : V m c main_v3 (ix2 0 x) = m ((c.tc : Thread nD τ).loc main_arg7) (ix2 0 x) := by
  entry_read; pointwise
/-- The third vector. -/
theorem V5 (c : Dev nD) (x : Fin 64) : V m c main_v5 (ix2 0 x) = m ((c.tc : Thread nD τ).loc main_arg8) (ix2 0 x) := by
  entry_read; pointwise
/-- The fourth vector. -/
theorem V7 (c : Dev nD) (x : Fin 64) : V m c main_v7 (ix2 0 x) = m ((c.tc : Thread nD τ).loc main_arg9) (ix2 0 x) := by
  entry_read; pointwise
/-- The gains. -/
theorem V9 (c : Dev nD) (d : Fin 128) : V m c main_v9 (ix2 0 d) = m ((c.tc : Thread nD τ).loc main_arg10) (ix2 0 d) := by
  entry_read; pointwise
/-- The cached keys, heads and maps in one column axis. -/
theorem V12 (c : Dev nD) (b : Fin 4) (j : Fin 256) (h : Fin 8) (d : Fin 128) : V m c main_v12 (ix3 b j ⟨h * 128 + d, by omega⟩)
    = m ((c.tc : Thread nD τ).loc main_arg1) (ix6 b 0 j h ⟨d / 64, by omega⟩ ⟨d % 64, by omega⟩) := by
  have h1 : ((h : ℕ) * 128 + d) / 64 % 2 = d / 64 := by omega
  have h2 : ((h : ℕ) * 128 + d) % 64 = d % 64 := by omega
  entry_read; pointwise
  exact congrArg₂ (fun x y => m ((c.tc : Thread nD τ).loc main_arg1) (ix6 b 0 j h x y)) (Fin.ext h1) (Fin.ext h2)
/-- The cached values, heads in one column axis. -/
theorem V15 (c : Dev nD) (b : Fin 4) (j : Fin 256) (h : Fin 8) (d : Fin 128) : V m c main_v15 (ix3 b j ⟨h * 128 + d, by omega⟩)
    = m ((c.tc : Thread nD τ).loc main_arg3) (ix5 b 0 j h d) := by
  entry_read; pointwise

/-- The queries' block. -/
theorem blk0 (c : Dev nD) (t : Fin cfg0.N) (r : Fin 512) (d : Fin 1024) : iblk m c 0 t (ix2 r d)
    = m ((c.tc : Thread nD τ).loc main_arg0) (ix2 ⟨t * 512 + r, by have := t.isLt; have : cfg0.N = 8 := rfl; omega⟩ d) := by
  blk_point [iblk, V, idx t]
/-- The cached keys' block. -/
theorem blk1 (c : Dev nD) (t : Fin cfg0.N) (j : Fin 256) (d : Fin 1024) : iblk m c 1 t (ix3 0 j d)
    = V m c main_v12 (ix3 ⟨t / 2, by have := t.isLt; have : cfg0.N = 8 := rfl; omega⟩ j d) := by
  blk_point [iblk, idx t]
/-- The new keys' block. -/
theorem blk2 (c : Dev nD) (t : Fin cfg0.N) (r : Fin 1024) (d : Fin 1024) : iblk m c 2 t (ix2 r d)
    = m ((c.tc : Thread nD τ).loc main_arg2) (ix2 ⟨t / 2 * 1024 + r, by have := t.isLt; have : cfg0.N = 8 := rfl; omega⟩ d) := by
  blk_point [iblk, V, idx t]
/-- The cached values' block. -/
theorem blk3 (c : Dev nD) (t : Fin cfg0.N) (j : Fin 256) (d : Fin 1024) : iblk m c 3 t (ix3 0 j d)
    = V m c main_v15 (ix3 ⟨t / 2, by have := t.isLt; have : cfg0.N = 8 := rfl; omega⟩ j d) := by
  blk_point [iblk, idx t]
/-- The new values' block. -/
theorem blk4 (c : Dev nD) (t : Fin cfg0.N) (r : Fin 1024) (d : Fin 1024) : iblk m c 4 t (ix2 r d)
    = m ((c.tc : Thread nD τ).loc main_arg4) (ix2 ⟨t / 2 * 1024 + r, by have := t.isLt; have : cfg0.N = 8 := rfl; omega⟩ d) := by
  blk_point [iblk, V, idx t]
/-- The gates' block. -/
theorem blk5 (c : Dev nD) (t : Fin cfg0.N) (r : Fin 512) (d : Fin 1024) : iblk m c 5 t (ix2 r d)
    = m ((c.tc : Thread nD τ).loc main_arg5) (ix2 ⟨t * 512 + r, by have := t.isLt; have : cfg0.N = 8 := rfl; omega⟩ d) := by
  blk_point [iblk, V, idx t]
/-- The first weight vector's block. -/
theorem blk6 (c : Dev nD) (t : Fin cfg0.N) (x : Fin 64) : iblk m c 6 t (ix2 0 x) = V m c main_v1 (ix2 0 x) := by
  blk_point [iblk, idx t]
/-- The second weight vector's block. -/
theorem blk7 (c : Dev nD) (t : Fin cfg0.N) (x : Fin 64) : iblk m c 7 t (ix2 0 x) = V m c main_v3 (ix2 0 x) := by
  blk_point [iblk, idx t]
/-- The third weight vector's block. -/
theorem blk8 (c : Dev nD) (t : Fin cfg0.N) (x : Fin 64) : iblk m c 8 t (ix2 0 x) = V m c main_v5 (ix2 0 x) := by
  blk_point [iblk, idx t]
/-- The fourth weight vector's block. -/
theorem blk9 (c : Dev nD) (t : Fin cfg0.N) (x : Fin 64) : iblk m c 9 t (ix2 0 x) = V m c main_v7 (ix2 0 x) := by
  blk_point [iblk, idx t]
/-- The gains' block. -/
theorem blk10 (c : Dev nD) (t : Fin cfg0.N) (d : Fin 128) : iblk m c 10 t (ix2 0 d) = V m c main_v9 (ix2 0 d) := by
  blk_point [iblk, idx t]

/-- A whole weight vector, loaded. -/
theorem ld0 (a : Vec Ideal S1x64 .f32) (x : Fin 64) : View.ld a r0_0 (ix2 0 x) = a (ix2 0 x) := by
  refine congrArg a (?_ : r0_0.emb (ix2 0 x) = ix2 0 x)
  blk_ext []

/-- The weight's scalar over the staged vectors. -/
theorem lam_block (c : Dev nD) (t : Fin cfg0.N) :
    k0_pay1 (F := Ideal) (View.ld (iblk m c 6 t) r0_0) (View.ld (iblk m c 7 t) r0_0) (View.ld (iblk m c 8 t) r0_0) (View.ld (iblk m c 9 t) r0_0) (ix2 0 0)
      = AttnMath.lamOf (fun x => m ((c.tc : Thread nD τ).loc main_arg6) (ix2 0 x)) (fun x => m ((c.tc : Thread nD τ).loc main_arg7) (ix2 0 x))
        (fun x => m ((c.tc : Thread nD τ).loc main_arg8) (ix2 0 x)) (fun x => m ((c.tc : Thread nD τ).loc main_arg9) (ix2 0 x)) := by
  refine (AttnHead.lam_at _ _ _ _).trans ?_
  have e6 := funext fun x => (ld0 (iblk m c 6 t) x).trans ((blk6 m c t x).trans (V1 m c x))
  have e7 := funext fun x => (ld0 (iblk m c 7 t) x).trans ((blk7 m c t x).trans (V3 m c x))
  have e8 := funext fun x => (ld0 (iblk m c 8 t) x).trans ((blk8 m c t x).trans (V5 m c x))
  have e9 := funext fun x => (ld0 (iblk m c 9 t) x).trans ((blk9 m c t x).trans (V7 m c x))
  exact congr (congr (congr (congrArg AttnMath.lamOf e6) e7) e8) e9

end Cert.AttnIdeal.Whole

end
-- ==== Proof.Point.lean ====
module

public import proofs.«01_k».proof.Proof.Reads
public import proofs.«01_k».proof.Proof.Gen.AttnIdeal.Value
public import Idealize.ShloMosaic.Lib.Pipeline.ValueKit

@[expose] public section

set_option maxRecDepth 16384

noncomputable section

/-! # The attention kernel's output array -/

namespace Cert.AttnIdeal.Whole

open Cert.AttnIdeal Cert.AttnIdeal.Gen Idealize.ShloMosaic Idealize.ShloMosaic.TcCoe Idealize.SL.Sem

variable (m : (ℓ : Loc nD τ sig) → Buf (Elt Ideal) ℓ)

open AttnCore in
/-- One head's tiles being the columns of that head in the point's blocks, its result is the reference's there. -/
theorem blocks_core (c : Dev nD)
    (f0 : Finite (m ((c.tc : Thread nD τ).loc main_arg0))) (f1 : Finite (m ((c.tc : Thread nD τ).loc main_arg1))) (f2 : Finite (m ((c.tc : Thread nD τ).loc main_arg2)))
    (f3 : Finite (m ((c.tc : Thread nD τ).loc main_arg3))) (f4 : Finite (m ((c.tc : Thread nD τ).loc main_arg4)))
    (f6 : Finite (m ((c.tc : Thread nD τ).loc main_arg6))) (f7 : Finite (m ((c.tc : Thread nD τ).loc main_arg7))) (f8 : Finite (m ((c.tc : Thread nD τ).loc main_arg8)))
    (f9 : Finite (m ((c.tc : Thread nD τ).loc main_arg9))) (t : Fin cfg0.N) (ht : t.val < 8) (h : Fin 8)
    (q : Vec Ideal S512x128 .f32) (kn : Vec Ideal S1024x128 .bf16) (kc : Vec Ideal S1x256x128 .bf16)
    (vn : Vec Ideal S1024x128 .bf16) (vc : Vec Ideal S1x256x128 .bf16)
    (g : Vec Ideal S1x128 .f32) (sz : Vec Ideal S512x128 .bf16)
    (hq : ∀ (r : Fin 512) (d : Fin 128), q (ix2 r d) = iblk m c 0 t (ix2 r ⟨h * 128 + d, by omega⟩))
    (hkc : ∀ (j : Fin 256) (d : Fin 128), kc (ix3 0 j d) = iblk m c 1 t (ix3 0 j ⟨h * 128 + d, by omega⟩))
    (hkn : ∀ (j : Fin 1024) (d : Fin 128), kn (ix2 j d) = iblk m c 2 t (ix2 j ⟨h * 128 + d, by omega⟩))
    (hvc : ∀ (j : Fin 256) (d : Fin 128), vc (ix3 0 j d) = iblk m c 3 t (ix3 0 j ⟨h * 128 + d, by omega⟩))
    (hvn : ∀ (j : Fin 1024) (d : Fin 128), vn (ix2 j d) = iblk m c 4 t (ix2 j ⟨h * 128 + d, by omega⟩))
    (hg : ∀ d : Fin 128, g (ix2 0 d) = iblk m c 10 t (ix2 0 d))
    (hs : ∀ (r : Fin 512) (d : Fin 128), sz (ix2 r d) = iblk m c 5 t (ix2 r ⟨h * 128 + d, by omega⟩))
    (r : Fin 512) (d : Fin 128) :
    AttnHead.head (k0_pay1 (F := Ideal) (View.ld (iblk m c 6 t) r0_0) (View.ld (iblk m c 7 t) r0_0) (View.ld (iblk m c 8 t) r0_0) (View.ld (iblk m c 9 t) r0_0))
        q kn kc vn vc g sz (ix2 r d)
      = ref m c (ix2 ⟨t * 512 + r, by omega⟩ ⟨h * 128 + d, by omega⟩) :=
  core _ _ _ _ _ _ _ _ _ _ _ f0 f1 f2 f3 f4 f6 f7 f8 f9 ⟨t, ht⟩ h q kn kc vn vc _ g sz
    (fun r d => (hq r d).trans (blk0 m c t r _)) (fun j d => (hkc j d).trans ((blk1 m c t j _).trans (V12 m c _ j h d)))
    (fun j d => (hkn j d).trans (blk2 m c t j _)) (fun j d => (hvc j d).trans ((blk3 m c t j _).trans (V15 m c _ j h d)))
    (fun j d => (hvn j d).trans (blk4 m c t j _)) (lam_block m c t) (fun d => (hg d).trans ((blk10 m c t d).trans (V9 m c d)))
    (fun r d => (hs r d).trans (blk5 m c t r _)) r d

set_option maxHeartbeats 2000000 in
open AttnCore in
/-- What point `t` leaves in the output's buffer is the reference's block there, on finite inputs. -/
theorem point (c : Dev nD)
    (f0 : Finite (m ((c.tc : Thread nD τ).loc main_arg0))) (f1 : Finite (m ((c.tc : Thread nD τ).loc main_arg1))) (f2 : Finite (m ((c.tc : Thread nD τ).loc main_arg2)))
    (f3 : Finite (m ((c.tc : Thread nD τ).loc main_arg3))) (f4 : Finite (m ((c.tc : Thread nD τ).loc main_arg4)))
    (f6 : Finite (m ((c.tc : Thread nD τ).loc main_arg6))) (f7 : Finite (m ((c.tc : Thread nD τ).loc main_arg7))) (f8 : Finite (m ((c.tc : Thread nD τ).loc main_arg8)))
    (f9 : Finite (m ((c.tc : Thread nD τ).loc main_arg9))) (t : Fin cfg0.N) (y : S512x1024.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = ref m c (((cfg0.win 11).blk t).view.emb y) := by
  have ht : t.val < 8 := lt_of_lt_of_eq t.isLt (by decide)
  have go : ∀ (h : Fin 8) (x0 : Fin 512) (x1 : Fin 128), (y 0 : ℕ) = x0 → (y 1 : ℕ) = h * 128 + x1 →
      ((cfg0.win 11).blk t).view.emb y = ix2 (⟨t * 512 + x0, by omega⟩ : Fin 4096) (⟨h * 128 + x1, by omega⟩ : Fin 1024) := by
    intro h x0 x1 e0 e1
    blk_ext [idx t]
  have fin := fun h => blocks_core m c f0 f1 f2 f3 f4 f6 f7 f8 f9 t ht h
  unfold out0_11 k0_pay35 k0_pay36 k0_pay37
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  generalize iblk m c 5 t = b5 at fin ⊢
  generalize iblk m c 6 t = b6 at fin ⊢
  generalize iblk m c 7 t = b7 at fin ⊢
  generalize iblk m c 8 t = b8 at fin ⊢
  generalize iblk m c 9 t = b9 at fin ⊢
  generalize iblk m c 10 t = b10 at fin ⊢
  canon_tiles x h
  · idx_vars x
    refine (congrFun (AttnHead.head7 _ _ _ _ _ _ _ _) (ix2 x0 x1)).trans ((fin 7 _ _ _ _ _ _ _
      ?_ ?_ ?_ ?_ ?_ ?_ ?_ x0 x1).trans (congrArg (ref m c) (go 7 x0 x1 h0 h1)).symm) <;> intros <;> exact congrArg _ (by blk_ext [] : Rect.emb _ _ = _)
  · idx_vars x
    refine (congrFun (AttnHead.head6 _ _ _ _ _ _ _ _) (ix2 x0 x1)).trans ((fin 6 _ _ _ _ _ _ _
      ?_ ?_ ?_ ?_ ?_ ?_ ?_ x0 x1).trans (congrArg (ref m c) (go 6 x0 x1 h0 h1)).symm) <;> intros <;> exact congrArg _ (by blk_ext [] : Rect.emb _ _ = _)
  · idx_vars x
    refine (congrFun (AttnHead.head5 _ _ _ _ _ _ _ _) (ix2 x0 x1)).trans ((fin 5 _ _ _ _ _ _ _
      ?_ ?_ ?_ ?_ ?_ ?_ ?_ x0 x1).trans (congrArg (ref m c) (go 5 x0 x1 h0 h1)).symm) <;> intros <;> exact congrArg _ (by blk_ext [] : Rect.emb _ _ = _)
  · idx_vars x
    refine (congrFun (AttnHead.head4 _ _ _ _ _ _ _ _) (ix2 x0 x1)).trans ((fin 4 _ _ _ _ _ _ _
      ?_ ?_ ?_ ?_ ?_ ?_ ?_ x0 x1).trans (congrArg (ref m c) (go 4 x0 x1 h0 h1)).symm) <;> intros <;> exact congrArg _ (by blk_ext [] : Rect.emb _ _ = _)
  · idx_vars x
    refine (congrFun (AttnHead.head3 _ _ _ _ _ _ _ _) (ix2 x0 x1)).trans ((fin 3 _ _ _ _ _ _ _
      ?_ ?_ ?_ ?_ ?_ ?_ ?_ x0 x1).trans (congrArg (ref m c) (go 3 x0 x1 h0 h1)).symm) <;> intros <;> exact congrArg _ (by blk_ext [] : Rect.emb _ _ = _)
  · idx_vars x
    refine (congrFun (AttnHead.head2 _ _ _ _ _ _ _ _) (ix2 x0 x1)).trans ((fin 2 _ _ _ _ _ _ _
      ?_ ?_ ?_ ?_ ?_ ?_ ?_ x0 x1).trans (congrArg (ref m c) (go 2 x0 x1 h0 h1)).symm) <;> intros <;> exact congrArg _ (by blk_ext [] : Rect.emb _ _ = _)
  · idx_vars x
    refine (congrFun (AttnHead.head1 _ _ _ _ _ _ _ _) (ix2 x0 x1)).trans ((fin 1 _ _ _ _ _ _ _
      ?_ ?_ ?_ ?_ ?_ ?_ ?_ x0 x1).trans (congrArg (ref m c) (go 1 x0 x1 h0 h1)).symm) <;> intros <;> exact congrArg _ (by blk_ext [] : Rect.emb _ _ = _)
  · idx_vars x
    refine (congrFun (AttnHead.head0 _ _ _ _ _ _ _ _) (ix2 x0 x1)).trans ((fin 0 _ _ _ _ _ _ _
      ?_ ?_ ?_ ?_ ?_ ?_ ?_ x0 x1).trans (congrArg (ref m c) (go 0 x0 x1 h0 (h1.trans (Nat.zero_add _).symm))).symm) <;> intros <;> exact congrArg _ (by blk_ext [] : Rect.emb _ _ = _)

open AttnCore in
/-- The kernel's output array is the reference's attention, on finite inputs. -/
theorem final (c : Dev nD)
    (f0 : Finite (m ((c.tc : Thread nD τ).loc main_arg0))) (f1 : Finite (m ((c.tc : Thread nD τ).loc main_arg1))) (f2 : Finite (m ((c.tc : Thread nD τ).loc main_arg2)))
    (f3 : Finite (m ((c.tc : Thread nD τ).loc main_arg3))) (f4 : Finite (m ((c.tc : Thread nD τ).loc main_arg4)))
    (f6 : Finite (m ((c.tc : Thread nD τ).loc main_arg6))) (f7 : Finite (m ((c.tc : Thread nD τ).loc main_arg7))) (f8 : Finite (m ((c.tc : Thread nD τ).loc main_arg8)))
    (f9 : Finite (m ((c.tc : Thread nD τ).loc main_arg9))) :
    (dats m 0 c).arrAt 11 cfg0.N = ref m c := by
  refine (dats m 0 c).arrAt_eq_of_covers 11 _ (by decide +kernel) fun t _ y => ?_
  blk_simp
  rw [after0_11]
  exact point m c f0 f1 f2 f3 f4 f6 f7 f8 f9 t y

end Cert.AttnIdeal.Whole

end
-- ==== Proof.Finite.lean ====
module

public import proofs.«01_k».proof.Pre_finite_inputs
public import proofs.«01_k».proof.Proof.Core
public import Idealize.ShloMosaic.Lib.ReduceAll
public import Idealize.ShloMosaic.Lib.Decide
public import Idealize.ShloMosaic.Lib.Affine

@[expose] public section

set_option maxRecDepth 16384

noncomputable section

/-! # The precondition read: the arrays hold real numbers -/

namespace Cert.Pre_finite_inputs

open Idealize.ShloMosaic

/-- The side conditions of the predicate's operations. -/
theorem facts : Facts where
  bcast_S_S4096x1024 := by decide
  reducesTo_S4096x1024_S_d0_1 := by decide
  h_S_ := by decide
  bcast_S_S4x1x256x8x2x64 := by decide
  reducesTo_S4x1x256x8x2x64_S_d0_1_2_3_4_5 := by decide
  bitsLt_bf16_f32 := by decide
  bcast_S_S4x1x256x8x128 := by decide
  reducesTo_S4x1x256x8x128_S_d0_1_2_3_4 := by decide
  bcast_S_S1x64 := by decide
  reducesTo_S1x64_S_d0_1 := by decide

instance : Subsingleton S_.Idx := ⟨fun _ _ => funext fun a => a.elim0⟩

/-- Infinity's word denotes the top element. -/
theorem inf_top : Ideal.ofBits .f32 0x7F800000#32 = (⊤ : EReal) := by simp [Ideal.ofBits, Ideal.ieee]

/-- An array all of whose magnitudes compare below infinity holds real numbers. -/
theorem finite_of_all {s : Shape} {axes : List (Fin s.rank)} (x : s.Idx → EReal) (hb : S_.BroadcastsInDim s (![] : Fin 0 → Fin s.rank))
    (hr : s.ReducesTo axes S_) (hu : 0 < S_.numel) (init : IVec S_ 1) (j : S_.Idx)
    (e : Host.reduce IntOp.andi (cmpf (F := Ideal) (φ := .f32) .olt (Host.absf (F := Ideal) (φ := .f32) x) (broadcastInDim s ![] hb (constant (F := Ideal) S_ .f32 0x7F800000#32)))
      init hr hu j = 1#1) : AttnCore.Finite x := by
  intro i
  have h1 := Host.reduce_andi_all _ _ hr hu j e i
  have h2 : Ideal.cmp .olt (FloatOps.absf (F := Ideal) (φ := .f32) (x i)) (Ideal.ofBits .f32 0x7F800000#32) = 1#1 := h1
  rw [inf_top] at h2
  have h3 : max (x i) (-(x i)) < ⊤ := (Ideal.cmp_olt_eq_one _ _).1 h2
  have ht : x i ≠ ⊤ := fun h => by rw [h] at h3; simp at h3
  have hb : x i ≠ ⊥ := fun h => by rw [h] at h3; simp at h3
  exact ⟨(x i).toReal, (EReal.coe_toReal ht hb).symm⟩

/-- The predicate holding, every array it names holds real numbers. -/
theorem finite_of_pre [Facts] (a0 : FVec Ideal S4096x1024 .f32) (a1 : FVec Ideal S4x1x256x8x2x64 .f32) (a2 : FVec Ideal S4096x1024 .bf16)
    (a3 : FVec Ideal S4x1x256x8x128 .f32) (a4 a5 : FVec Ideal S4096x1024 .bf16) (a6 a7 a8 a9 : FVec Ideal S1x64 .f32) (a10 : FVec Ideal S1x128 .f32)
    (e : fn (F := Ideal) a0 a1 a2 a3 a4 a5 a6 a7 a8 a9 a10 = fun _ => 1#1) :
    AttnCore.Finite a0 ∧ AttnCore.Finite a1 ∧ AttnCore.Finite a2 ∧ AttnCore.Finite a3 ∧ AttnCore.Finite a4
      ∧ AttnCore.Finite a6 ∧ AttnCore.Finite a7 ∧ AttnCore.Finite a8 ∧ AttnCore.Finite a9 := by
  have e0 := congrFun e (fun a => a.elim0)
  unfold fn fn_part1 fn_part2 at e0
  simp only [andi, IntOp.andi_eq_one] at e0
  obtain ⟨⟨⟨⟨⟨⟨⟨⟨h0, h1⟩, h2⟩, h3⟩, h4⟩, h6⟩, h7⟩, h8⟩, h9⟩ := e0
  exact ⟨finite_of_all _ _ _ _ _ _ h0, finite_of_all _ _ _ _ _ _ h1, finite_of_all _ _ _ _ _ _ h2, finite_of_all _ _ _ _ _ _ h3,
    finite_of_all _ _ _ _ _ _ h4, finite_of_all _ _ _ _ _ _ h6, finite_of_all _ _ _ _ _ _ h7, finite_of_all _ _ _ _ _ _ h8, finite_of_all _ _ _ _ _ _ h9⟩

end Cert.Pre_finite_inputs

end
-- ==== Proof.Attention.lean ====
module

public import proofs.«01_k».proof.Defs
public import proofs.«01_k».proof.Proof.Gen.Attn.Frame
public import proofs.«01_k».proof.Proof.Gen.AttnIdeal.Frame
public import proofs.«01_k».proof.Proof.Gen.AttnRefIdeal
public import proofs.«01_k».proof.Proof.Point
public import proofs.«01_k».proof.Proof.Finite
public import Idealize.ShloMosaic.Lib.Claim

@[expose] public section

set_option maxRecDepth 16384

noncomputable section

/-! # The claims about the attention kernel -/

namespace Cert.Attention

open Idealize.ShloMosaic Idealize.SL.Sem

/-- The kernel runs, ends quiescent and leaves its arguments. -/
theorem frame_kernel : quiescent_Attn (hAttn := Cert.Attn.Gen.facts) := fun m ρ _ => Cert.Attn.Gen.frame m ρ

/-- So does its idealization. -/
theorem frame_ideal : quiescent_AttnIdeal (hAttnIdeal := Cert.AttnIdeal.Gen.facts) := fun m ρ _ => Cert.AttnIdeal.Gen.frame m ρ

/-- In particular on finite inputs. -/
theorem frame_ideal_finite : quiescent_AttnIdeal_pre_finite_inputs (hAttnIdeal := Cert.AttnIdeal.Gen.facts)
    (hPre_finite_inputs := Cert.Pre_finite_inputs.facts) := fun m ρ _ => Cert.AttnIdeal.Gen.frame m ρ

/-- The reference runs, ends quiescent and leaves its arguments. -/
theorem frame_ref : quiescent_AttnRefIdeal (hAttnRefIdeal := Cert.AttnRefIdeal.Gen.facts) := fun m g _ =>
  (θ_run Cert.AttnRefIdeal.defs _ _).mono (fun r h => ⟨fun c => (h c).2, sem_eq_zero_of_no_sems (by decide) r.2⟩)
    (Cert.AttnRefIdeal.Value.run m g)

/-- In particular on finite inputs. -/
theorem frame_ref_finite : quiescent_AttnRefIdeal_pre_finite_inputs (hAttnRefIdeal := Cert.AttnRefIdeal.Gen.facts)
    (hPre_finite_inputs := Cert.Pre_finite_inputs.facts) := fun m g _ => frame_ref m g trivial

/-- The constant named `qscale` is the named real number, at exact arithmetic. -/
theorem preserves : preserves_Attn_AttnIdeal := IdealRules.named_const.statement _ _ _ _ _ rfl

/-- On finite inputs the kernel and the reference end with the same array. -/
theorem algebraic : algebraic_AttnIdeal_AttnRefIdeal_pre_finite_inputs (hAttnIdeal := Cert.AttnIdeal.Gen.facts)
    (hAttnRefIdeal := Cert.AttnRefIdeal.Gen.facts) (hPre_finite_inputs := Cert.Pre_finite_inputs.facts) := by
  pair_intro
  · run_from Cert.AttnIdeal.Value.run_blocks m g
  · run_from Cert.AttnRefIdeal.Value.run m' g'
    obtain ⟨f0, f1, f2, f3, f4, f6, f7, f8, f9⟩ := @Cert.Pre_finite_inputs.finite_of_pre Cert.Pre_finite_inputs.facts _ _ _ _ _ _ _ _ _ _ _ (hpre c)
    obtain ⟨a0, a1, a2, a3, a4, a5, a6, a7, a8, a9, a10⟩ := hagree c
    refine (Cert.AttnRef.result_eq m' c).trans (Eq.trans ?_ (Cert.AttnIdeal.Whole.final m c f0 f1 f2 f3 f4 f6 f7 f8 f9).symm)
    rw [a0, a1, a2, a3, a4, a5, a6, a7, a8, a9, a10]

end Cert.Attention

end
-- ==== Proof.RowMath.lean ====
module

public import Idealize.ShloMosaic.Lib.Pointwise

@[expose] public section

noncomputable section

/-! # Rows of the layer's projections, over the extended reals

What one row of an output is of the rows and matrices it is computed from: the formulas both programs are brought to. -/

namespace Cert.RowMath

open Idealize.ShloMosaic

/-- A row's mean: its sum over 1024. -/
def mean (z : Fin 1024 → EReal) : EReal := Ideal.div (∑ k, z k) (Ideal.ofBits .f32 0x44800000#32)

/-- A row centred and divided by the root of its variance. -/
def lnorm (z : Fin 1024 → EReal) (d : Fin 1024) : EReal :=
  (z d - mean z) * Ideal.rsqrt (mean (fun k => (z k - mean z) * (z k - mean z)) + Ideal.ofBits .f32 0x3727C5AC#32)

/-- A row centred and scaled, then modulated. -/
def modulated (z sc sh : Fin 1024 → EReal) (d : Fin 1024) : EReal := lnorm z d * (Ideal.ofBits .f32 0x3F800000#32 + sc d) + sh d

/-- A value times its logistic function. -/
def silu (p : EReal) : EReal := p * Ideal.logistic p

/-- A row's contraction with a matrix's column. -/
def lin {n p : ℕ} (h : Fin n → EReal) (w : Fin n → Fin p → EReal) (c : Fin p) : EReal := ∑ k, h k * w k c

/-- A position's transformed channel, with weight, bias and gate, along a sequence's positions. -/
def gated {n : ℕ} (cl sl : Fin n → EReal) (u s : Fin n → Fin 2048 → EReal) (w : Fin 2048 → Fin 2048 → EReal) (b sz : Fin 2048 → EReal) (c : Fin 2048) : EReal :=
  (lin (fun k => lin cl u k - lin sl s k) w c + b c) * sz c

/-- The projected row added to the scaled residual. -/
def resid (y : Fin 2048 → EReal) (w : Fin 2048 → Fin 1024 → EReal) (x g : Fin 1024 → EReal) (d : Fin 1024) : EReal :=
  Ideal.ofBits .f32 0x3FB504F3#32 * x d + g d * lin y w d

end Cert.RowMath

end
-- ==== Proof.EvenRef.lean ====
module

public import proofs.«01_k».proof.Proof.RowMath
public import proofs.«01_k».proof.Proof.Gen.EvenInRefIdeal.Run
public import Idealize.ShloMosaic.Lib.Pointwise

@[expose] public section

set_option maxRecDepth 16384

noncomputable section

/-! # The even layer's input projection in the reference, stage by stage -/

namespace Cert.EvenRef

open Cert.EvenInRefIdeal Cert.EvenInRefIdeal.Gen Idealize.ShloMosaic Idealize.ShloMosaic.TcCoe Idealize.SL.Sem Idealize.ShloMosaic.StableHlo

/-- Rows centred and scaled, then modulated. -/
def rows (a0 : FVec Ideal S8192x1024 .f32) (a1 : FVec Ideal S48x1x1024 .f32) : FVec Ideal S8192x1024 .f32 :=
  (addf (mulf (mulf (subf a0 (broadcastInDim S8192x1024 ![0, 1] bcast_S8192x1_S8192x1024_0_1 (Host.divf (broadcastInDim S8192x1 ![0] bcast_S8192_S8192x1_0 (Host.reduceAdd a0 (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf a0 (broadcastInDim S8192x1024 ![0, 1] bcast_S8192x1_S8192x1024_0_1 (Host.divf (broadcastInDim S8192x1 ![0] bcast_S8192_S8192x1_0 (Host.reduceAdd a0 (constant S_ .f32 0x00000000#32) reducesTo_S8192x1024_S8192_d1 h_S_)) (broadcastInDim S8192x1 ![] bcast_S_S8192x1 (constant S_ .f32 0x44800000#32))))) (subf a0 (broadcastInDim S8192x1024 ![0, 1] bcast_S8192x1_S8192x1024_0_1 (Host.divf (broadcastInDim S8192x1 ![0] bcast_S8192_S8192x1_0 (Host.reduceAdd a0 (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (addf (broadcastInDim S1x1024 ![] bcast_S_S1x1024 (constant S_ .f32 0x3F800000#32)) (shapeCast _ (extractStridedSlice S1x1x1024 ![1, 0, 0] a1 slices_S48x1x1024_S1x1x1024_1_0_0) shapeCasts_S1x1x1024_S1x1024)))) (broadcastInDim S8192x1024 ![0, 1] bcast_S1x1024_S8192x1024_0_1 (shapeCast _ (extractStridedSlice S1x1x1024 ![0, 0, 0] a1 slices_S48x1x1024_S1x1x1024_0_0_0) shapeCasts_S1x1x1024_S1x1024)))

/-- The rows projected. -/
def lin (h : FVec Ideal S8192x1024 .f32) (a2 : FVec Ideal S1x1024x6144 .f32) : FVec Ideal S8192x6144 .f32 :=
  (Host.dotGeneral dot_S8192x1024_S1024x6144_S8192x6144_1_0_0_1_n_n none h (shapeCast _ a2 shapeCasts_S1x1024x6144_S1024x6144))

/-- All projected columns of given inputs. -/
def proj (a0 : FVec Ideal S8192x1024 .f32) (a1 : FVec Ideal S48x1x1024 .f32) (a2 : FVec Ideal S1x1024x6144 .f32) : FVec Ideal S8192x6144 .f32 :=
  lin (rows a0 a1) a2

/-- A value times its logistic function. -/
def silu (p : FVec Ideal S8192x1024 .f32) : FVec Ideal S8192x1024 .bf16 :=
  truncf .bf16 (mulf p (Host.divf (broadcastInDim S8192x1024 ![] bcast_S_S8192x1024 (constant S_ .f32 0x3F800000#32)) (addf (broadcastInDim S8192x1024 ![] bcast_S_S8192x1024 (constant S_ .f32 0x3F800000#32)) (Host.exp (Host.negf p))))) bitsLt_bf16_f32

/-- The first channels, positions of each sequence transposed in the sixteen by sixteen grid. -/
def u (p : FVec Ideal S8192x6144 .f32) : FVec Ideal S8192x1024 .bf16 :=
  truncf .bf16 (shapeCast _ (transpose S32x16x16x1024 [0, 2, 1, 3] (shapeCast _ (extractStridedSlice S8192x1024 ![0, 0] p slices_S8192x6144_S8192x1024_0_0) shapeCasts_S8192x1024_S32x16x16x1024) transposes_S32x16x16x1024_S32x16x16x1024_0_2_1_3) shapeCasts_S32x16x16x1024_S8192x1024) bitsLt_bf16_f32

/-- The first gate. -/
def gateA (p : FVec Ideal S8192x6144 .f32) : FVec Ideal S8192x1024 .bf16 :=
  silu (extractStridedSlice S8192x1024 ![0, 1024] p slices_S8192x6144_S8192x1024_0_1024)

/-- The queries. -/
def q (p : FVec Ideal S8192x6144 .f32) : FVec Ideal S8192x1024 .f32 :=
  extractStridedSlice S8192x1024 ![0, 2048] p slices_S8192x6144_S8192x1024_0_2048

/-- The keys. -/
def kb (p : FVec Ideal S8192x6144 .f32) : FVec Ideal S8192x1024 .bf16 :=
  truncf .bf16 (extractStridedSlice S8192x1024 ![0, 3072] p slices_S8192x6144_S8192x1024_0_3072) bitsLt_bf16_f32

/-- The values. -/
def vb (p : FVec Ideal S8192x6144 .f32) : FVec Ideal S8192x1024 .bf16 :=
  truncf .bf16 (extractStridedSlice S8192x1024 ![0, 4096] p slices_S8192x6144_S8192x1024_0_4096) bitsLt_bf16_f32

/-- The second gate. -/
def gateB (p : FVec Ideal S8192x6144 .f32) : FVec Ideal S8192x1024 .bf16 :=
  silu (extractStridedSlice S8192x1024 ![0, 5120] p slices_S8192x6144_S8192x1024_0_5120)

/-- The keys transposed, for the cache. -/
def kt (p : FVec Ideal S8192x6144 .f32) : FVec Ideal S32x1024x256 .f32 :=
  transpose S32x1024x256 [0, 2, 1] (shapeCast _ (extractStridedSlice S8192x1024 ![0, 3072] p slices_S8192x6144_S8192x1024_0_3072) shapeCasts_S8192x1024_S32x256x1024) transposes_S32x256x1024_S32x1024x256_0_2_1

/-- The values, for the cache. -/
def v (p : FVec Ideal S8192x6144 .f32) : FVec Ideal S8192x1024 .f32 :=
  extractStridedSlice S8192x1024 ![0, 4096] p slices_S8192x6144_S8192x1024_0_4096

/-- The first gate's result is its stages composed. -/
theorem gateA_eq (m : (ℓ : Loc nD τ sig) → Buf (Elt Ideal) ℓ) (c : Dev nD) : Value.res_out1 (F := Ideal) m c
    = gateA (proj (m ((c.tc : Thread nD τ).loc main_arg0)) (m ((c.tc : Thread nD τ).loc main_arg1)) (m ((c.tc : Thread nD τ).loc main_arg2))) := by
  unfold Value.res_out1 Value.res_main_v41 gateA silu proj lin rows
  rfl

/-- So is the second's. -/
theorem gateB_eq (m : (ℓ : Loc nD τ sig) → Buf (Elt Ideal) ℓ) (c : Dev nD) : Value.res_out5 (F := Ideal) m c
    = gateB (proj (m ((c.tc : Thread nD τ).loc main_arg0)) (m ((c.tc : Thread nD τ).loc main_arg1)) (m ((c.tc : Thread nD τ).loc main_arg2))) := by
  unfold Value.res_out5 Value.res_main_v45 gateB silu proj lin rows
  rfl

/-! ## The stages at an element -/

/-- A modulated row's element. -/
theorem rows_at (a0 : FVec Ideal S8192x1024 .f32) (a1 : FVec Ideal S48x1x1024 .f32) (r : Fin 8192) (k : Fin 1024) :
    rows a0 a1 (ix2 r k) = RowMath.modulated (fun k => a0 (ix2 r k)) (fun k => a1 (ix3 1 0 k)) (fun k => a1 (ix3 0 0 k)) k := by
  unfold RowMath.modulated RowMath.lnorm RowMath.mean
  pointwise [rows]

/-- A projected element. -/
theorem proj_at (a0 : FVec Ideal S8192x1024 .f32) (a1 : FVec Ideal S48x1x1024 .f32) (a2 : FVec Ideal S1x1024x6144 .f32) (r : Fin 8192) (d : Fin 6144) :
    proj a0 a1 a2 (ix2 r d) = RowMath.lin (RowMath.modulated (fun k => a0 (ix2 r k)) (fun k => a1 (ix3 1 0 k)) (fun k => a1 (ix3 0 0 k))) (fun k d => a2 (ix3 0 k d)) d := by
  have h : ∀ h : FVec Ideal S8192x1024 .f32, lin h a2 (ix2 r d) = ∑ k : Fin 1024, h (ix2 r k) * a2 (ix3 0 k d) := fun h => by
    pointwise [lin]
  unfold proj
  rw [h]
  simp only [rows_at]
  rfl

/-- A value times its logistic function, at an element. -/
theorem silu_at (p : FVec Ideal S8192x1024 .f32) (i : S8192x1024.Idx) : silu p i = RowMath.silu (p i) := by
  unfold RowMath.silu Ideal.logistic
  pointwise [silu]

/-- The channels at an element: the projection at the transposed position. -/
theorem u_at (p : FVec Ideal S8192x6144 .f32) (b : Fin 32) (r : Fin 256) (d : Fin 1024) : u p (ix2 ⟨b * 256 + r, by omega⟩ d)
    = p (ix2 ⟨b * 256 + (r.val % 16 * 16 + r.val / 16), by omega⟩ ⟨d, by omega⟩) := by
  have e1 : (b.val * 256 + r.val) / 256 = b.val := by omega
  have e2 : (b.val * 256 + r.val) % 256 = r.val := by omega
  pointwise [u]
  refine congrArg p ?_
  congr 2
  omega

/-- A gate at an element. -/
theorem gateA_at (p : FVec Ideal S8192x6144 .f32) (r : Fin 8192) (d : Fin 1024) : gateA p (ix2 r d) = RowMath.silu (p (ix2 r ⟨1024 + d, by omega⟩)) := by
  refine (silu_at _ _).trans ?_
  exact congrArg RowMath.silu (by pointwise)

/-- A gate at an element. -/
theorem gateB_at (p : FVec Ideal S8192x6144 .f32) (r : Fin 8192) (d : Fin 1024) : gateB p (ix2 r d) = RowMath.silu (p (ix2 r ⟨5120 + d, by omega⟩)) := by
  refine (silu_at _ _).trans ?_
  exact congrArg RowMath.silu (by pointwise)

/-- A projected column at an element. -/
theorem q_at (p : FVec Ideal S8192x6144 .f32) (r : Fin 8192) (d : Fin 1024) : q p (ix2 r d) = p (ix2 r ⟨2048 + d, by omega⟩) := by
  pointwise [q]

/-- A projected column at an element. -/
theorem kb_at (p : FVec Ideal S8192x6144 .f32) (r : Fin 8192) (d : Fin 1024) : kb p (ix2 r d) = p (ix2 r ⟨3072 + d, by omega⟩) := by
  pointwise [kb]

/-- A projected column at an element. -/
theorem vb_at (p : FVec Ideal S8192x6144 .f32) (r : Fin 8192) (d : Fin 1024) : vb p (ix2 r d) = p (ix2 r ⟨4096 + d, by omega⟩) := by
  pointwise [vb]

/-- A projected column at an element. -/
theorem v_at (p : FVec Ideal S8192x6144 .f32) (r : Fin 8192) (d : Fin 1024) : v p (ix2 r d) = p (ix2 r ⟨4096 + d, by omega⟩) := by
  pointwise [v]

/-- A transposed key at an element. -/
theorem kt_at (p : FVec Ideal S8192x6144 .f32) (b : Fin 32) (d : Fin 1024) (r : Fin 256) : kt p (ix3 b d r) = p (ix2 ⟨b * 256 + r, by omega⟩ ⟨3072 + d, by omega⟩) := by
  pointwise [kt]

end Cert.EvenRef

end
-- ==== Proof.EvenHalf.lean ====
module

public import proofs.«01_k».proof.Proof.RowMath
public import proofs.«01_k».proof.Proof.Gen.EvenInIdeal.Frame
public import Idealize.ShloMosaic.Lib.Pointwise

@[expose] public section

set_option maxRecDepth 16384

noncomputable section

/-! # One half tile of the even layer's input projection in the kernel -/

namespace Cert.EvenHalf

open Cert.EvenInIdeal Cert.EvenInIdeal.Gen Idealize.ShloMosaic Idealize.ShloMosaic.TcCoe Idealize.SL.Sem

/-- Rows centred and scaled, then modulated. -/
def rows (x : FVec Ideal S256x1024 .f32) (sc sh : FVec Ideal S1x1x1024 .f32) : FVec Ideal S256x1024 .bf16 := k0_pay3 (F := Ideal) x sc sh

/-- The rows projected. -/
def lin (h : FVec Ideal S256x1024 .bf16) (w : FVec Ideal S1024x1024 .bf16) : FVec Ideal S256x1024 .f32 := k0_pay6 (F := Ideal) h w

/-- A projected tile times its logistic function. -/
def gate (h : FVec Ideal S256x1024 .bf16) (w : FVec Ideal S1024x1024 .bf16) : FVec Ideal S256x1024 .bf16 := k0_pay5 (F := Ideal) h w

/-- A projected tile's rows gathered by a matrix. -/
def gather (p : FVec Ideal S256x256 .bf16) (t : FVec Ideal S256x1024 .f32) : FVec Ideal S256x1024 .bf16 :=
  truncf .bf16 (matmul dot_S256x256_S256x1024_S256x1024_1_0_0_1_n_n none (shapeCast S256x256 p shapeCasts_S256x256_S256x256) (truncf .bf16 t bitsLt_bf16_f32 : FVec Ideal S256x1024 .bf16) (constant S256x1024 .f32 0x00000000#32)) bitsLt_bf16_f32

/-- A projected tile transposed. -/
def turned (h : FVec Ideal S256x1024 .bf16) (w : FVec Ideal S1024x1024 .bf16) : FVec Ideal S1x1024x256 .f32 := k0_pay9 (F := Ideal) h w

/-- The first sequence's store to output 0. -/
theorem u_first (x : FVec Ideal S256x1024 .f32) (sc sh : FVec Ideal S1x1x1024 .f32) (p : FVec Ideal S256x256 .bf16) (w : FVec Ideal S1024x1024 .bf16) : k0_pay4 (F := Ideal) x sc sh p w = gather p (lin (rows x sc sh) w) := rfl

/-- The second sequence's store to output 0. -/
theorem u_second (x : FVec Ideal S256x1024 .f32) (sc sh : FVec Ideal S1x1x1024 .f32) (p : FVec Ideal S256x256 .bf16) (w : FVec Ideal S1024x1024 .bf16) : k0_pay15 (F := Ideal) (k0_pay13 x sc sh) (k0_pay14 p) w = gather p (lin (rows x sc sh) w) := rfl

/-- The first sequence's store to output 1. -/
theorem gateA_first (x : FVec Ideal S256x1024 .f32) (sc sh : FVec Ideal S1x1x1024 .f32) (w : FVec Ideal S1024x1024 .bf16) : k0_pay5 (F := Ideal) (k0_pay3 x sc sh) w = gate (rows x sc sh) w := rfl

/-- The second sequence's store to output 1. -/
theorem gateA_second (x : FVec Ideal S256x1024 .f32) (sc sh : FVec Ideal S1x1x1024 .f32) (w : FVec Ideal S1024x1024 .bf16) : k0_pay16 (F := Ideal) (k0_pay13 x sc sh) w = gate (rows x sc sh) w := rfl

/-- The first sequence's store to output 2. -/
theorem q_first (x : FVec Ideal S256x1024 .f32) (sc sh : FVec Ideal S1x1x1024 .f32) (w : FVec Ideal S1024x1024 .bf16) : k0_pay6 (F := Ideal) (k0_pay3 x sc sh) w = lin (rows x sc sh) w := rfl

/-- The second sequence's store to output 2. -/
theorem q_second (x : FVec Ideal S256x1024 .f32) (sc sh : FVec Ideal S1x1x1024 .f32) (w : FVec Ideal S1024x1024 .bf16) : k0_pay17 (F := Ideal) (k0_pay13 x sc sh) w = lin (rows x sc sh) w := rfl

/-- The first sequence's store to output 3. -/
theorem kb_first (x : FVec Ideal S256x1024 .f32) (sc sh : FVec Ideal S1x1x1024 .f32) (w : FVec Ideal S1024x1024 .bf16) : k0_pay10 (F := Ideal) (k0_pay3 x sc sh) w = lin (rows x sc sh) w := rfl

/-- The second sequence's store to output 3. -/
theorem kb_second (x : FVec Ideal S256x1024 .f32) (sc sh : FVec Ideal S1x1x1024 .f32) (w : FVec Ideal S1024x1024 .bf16) : k0_pay21 (F := Ideal) (k0_pay13 x sc sh) w = lin (rows x sc sh) w := rfl

/-- The first sequence's store to output 4. -/
theorem vb_first (x : FVec Ideal S256x1024 .f32) (sc sh : FVec Ideal S1x1x1024 .f32) (w : FVec Ideal S1024x1024 .bf16) : k0_pay11 (F := Ideal) (k0_pay3 x sc sh) w = lin (rows x sc sh) w := rfl

/-- The second sequence's store to output 4. -/
theorem vb_second (x : FVec Ideal S256x1024 .f32) (sc sh : FVec Ideal S1x1x1024 .f32) (w : FVec Ideal S1024x1024 .bf16) : k0_pay1 (F := Ideal) (k0_pay19 (k0_pay13 x sc sh) w) = lin (rows x sc sh) w := rfl

/-- The first sequence's store to output 5. -/
theorem gateB_first (x : FVec Ideal S256x1024 .f32) (sc sh : FVec Ideal S1x1x1024 .f32) (w : FVec Ideal S1024x1024 .bf16) : k0_pay12 (F := Ideal) (k0_pay3 x sc sh) w = gate (rows x sc sh) w := rfl

/-- The second sequence's store to output 5. -/
theorem gateB_second (x : FVec Ideal S256x1024 .f32) (sc sh : FVec Ideal S1x1x1024 .f32) (w : FVec Ideal S1024x1024 .bf16) : k0_pay2 (F := Ideal) (k0_pay13 x sc sh) w = gate (rows x sc sh) w := rfl

/-- The first sequence's store to output 6. -/
theorem kt_first (x : FVec Ideal S256x1024 .f32) (sc sh : FVec Ideal S1x1x1024 .f32) (w : FVec Ideal S1024x1024 .bf16) : k0_pay9 (F := Ideal) (k0_pay3 x sc sh) w = turned (rows x sc sh) w := rfl

/-- The second sequence's store to output 6. -/
theorem kt_second (x : FVec Ideal S256x1024 .f32) (sc sh : FVec Ideal S1x1x1024 .f32) (w : FVec Ideal S1024x1024 .bf16) : k0_pay20 (F := Ideal) (k0_pay13 x sc sh) w = turned (rows x sc sh) w := rfl

/-- The first sequence's store to output 7. -/
theorem v_first (x : FVec Ideal S256x1024 .f32) (sc sh : FVec Ideal S1x1x1024 .f32) (w : FVec Ideal S1024x1024 .bf16) : k0_pay8 (F := Ideal) (k0_pay3 x sc sh) w = lin (rows x sc sh) w := rfl

/-- The second sequence's store to output 7. -/
theorem v_second (x : FVec Ideal S256x1024 .f32) (sc sh : FVec Ideal S1x1x1024 .f32) (w : FVec Ideal S1024x1024 .bf16) : k0_pay19 (F := Ideal) (k0_pay13 x sc sh) w = lin (rows x sc sh) w := rfl

/-- The modulated row's element. -/
theorem rows_at (x : FVec Ideal S256x1024 .f32) (sc sh : FVec Ideal S1x1x1024 .f32) (r : Fin 256) (k : Fin 1024) :
    rows x sc sh (ix2 r k) = RowMath.modulated (fun k => x (ix2 r k)) (fun k => sc (ix3 0 0 k)) (fun k => sh (ix3 0 0 k)) k := by
  unfold RowMath.modulated RowMath.lnorm RowMath.mean
  pointwise [rows, k0_pay3]

/-- A projected element. -/
theorem lin_at (h : FVec Ideal S256x1024 .bf16) (w : FVec Ideal S1024x1024 .bf16) (r : Fin 256) (d : Fin 1024) :
    lin h w (ix2 r d) = RowMath.lin (fun k => h (ix2 r k)) (fun k d => w (ix2 k d)) d := by
  unfold RowMath.lin
  pointwise [lin, k0_pay6]

/-- A gate's element. -/
theorem gate_at (h : FVec Ideal S256x1024 .bf16) (w : FVec Ideal S1024x1024 .bf16) (r : Fin 256) (d : Fin 1024) :
    gate h w (ix2 r d) = RowMath.silu (lin h w (ix2 r d)) := rfl

/-- A transposed element. -/
theorem turned_at (h : FVec Ideal S256x1024 .bf16) (w : FVec Ideal S1024x1024 .bf16) (r : Fin 256) (d : Fin 1024) :
    turned h w (ix3 0 d r) = lin h w (ix2 r d) := by
  have e : turned h w = shapeCast S1x1024x256 (transpose S1024x256 [1, 0] (lin h w) transposes_S256x1024_p1_0_S1024x256) shapeCasts_S1024x256_S1x1024x256 := rfl
  rw [e]
  generalize lin h w = l
  pointwise

/-- A gathering matrix with one one in each row picks that row. -/
theorem gather_at (p : FVec Ideal S256x256 .bf16) (t : FVec Ideal S256x1024 .f32) (r s : Fin 256)
    (hp : ∀ j : Fin 256, p (ix2 r j) = if j.val = s.val then (1 : EReal) else 0) (d : Fin 1024) : gather p t (ix2 r d) = t (ix2 s d) := by
  have e : gather p t (ix2 r d) = ∑ j : Fin 256, p (ix2 r j) * t (ix2 j d) := by
    pointwise [gather]
  rw [e, Finset.sum_eq_single s]
  · rw [hp, if_pos rfl, one_mul]
  · intro j _ hj
    rw [hp, if_neg (fun h => hj (Fin.ext h)), zero_mul]
  · intro h
    exact absurd (Finset.mem_univ s) h

end Cert.EvenHalf

end
-- ==== Proof.EvenReads.lean ====
module

public import proofs.«01_k».proof.Proof.Gen.EvenInIdeal.Value
public import Idealize.ShloMosaic.Lib.Pointwise
public import Idealize.ShloMosaic.Lib.Pipeline.ValueKit
public import Idealize.ShloMosaic.Lib.WordCmp

@[expose] public section

set_option maxRecDepth 16384

noncomputable section

/-! # What the even layer's input projection reads -/

namespace Cert.EvenInIdeal.Whole

open Cert.EvenInIdeal Cert.EvenInIdeal.Gen Idealize.ShloMosaic Idealize.ShloMosaic.TcCoe Idealize.SL.Sem

variable (m : (ℓ : Loc nD τ sig) → Buf (Elt Ideal) ℓ)

/-- The staged weights. -/
theorem V1 (c : Dev nD) (k : Fin 1024) (d : Fin 6144) : V m c main_v1 (ix2 k d) = m ((c.tc : Thread nD τ).loc main_arg2) (ix3 0 k d) := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise

/-- A row's source in its group of 256, as the printed integer arithmetic computes it: the remainder by 16, sixteen times, and the quotient. -/
def src (i : ℕ) : BitVec 32 :=
  IntOp.addi
    (IntOp.muli
      (Scalar.select
        (IntOp.andi
          (IntOp.cmpi CmpIPredicate.ne
            (IntOp.cmpi CmpIPredicate.slt
              (IntOp.remsi ArithUnit.host (BitVec.ofNat 32 i) (Scalar.select (IntOp.cmpi CmpIPredicate.eq 16#32 0#32) 1#32 16#32)) 0#32)
            (IntOp.cmpi CmpIPredicate.slt (Scalar.select (IntOp.cmpi CmpIPredicate.eq 16#32 0#32) 1#32 16#32) 0#32))
          (IntOp.cmpi CmpIPredicate.ne
            (IntOp.remsi ArithUnit.host (BitVec.ofNat 32 i) (Scalar.select (IntOp.cmpi CmpIPredicate.eq 16#32 0#32) 1#32 16#32)) 0#32))
        (IntOp.addi
          (IntOp.remsi ArithUnit.host (BitVec.ofNat 32 i) (Scalar.select (IntOp.cmpi CmpIPredicate.eq 16#32 0#32) 1#32 16#32))
          (Scalar.select (IntOp.cmpi CmpIPredicate.eq 16#32 0#32) 1#32 16#32))
        (IntOp.remsi ArithUnit.host (BitVec.ofNat 32 i) (Scalar.select (IntOp.cmpi CmpIPredicate.eq 16#32 0#32) 1#32 16#32)))
      16#32)
    (Scalar.select
      (IntOp.andi
        (IntOp.cmpi CmpIPredicate.ne
          (if BitVec.ofNat 32 i = 0 then (0 : BitVec 32) else if (BitVec.ofNat 32 i).msb = true then -1 else 1)
          (if 16#32 = 0 then (0 : BitVec 32) else if (16#32).msb = true then -1 else 1))
        (IntOp.cmpi CmpIPredicate.ne (IntOp.remsi ArithUnit.host (BitVec.ofNat 32 i) 16#32) 0#32))
      (IntOp.subi (IntOp.divsi ArithUnit.host (BitVec.ofNat 32 i) 16#32) 1#32)
      (IntOp.divsi ArithUnit.host (BitVec.ofNat 32 i) 16#32))

/-- It is the transposed position in the sixteen by sixteen grid. -/
theorem src_eq : ∀ i : Fin 256, src i.val = BitVec.ofNat 32 (i.val % 16 * 16 + i.val / 16) := by
  decide +kernel

/-- Two positions below 256 compared as words. -/
theorem cmp_eq (j k : ℕ) (hj : j < 256) (hk : k < 256) : IntOp.cmpi CmpIPredicate.eq (BitVec.ofNat 32 j) (BitVec.ofNat 32 k) = if j = k then 1#1 else 0#1 := by
  rw [WordCmp.cmpi_eq_ofNat (by omega) (by omega)]
  by_cases h : j = k <;> simp [h]

/-- The staged gathering matrix. -/
theorem V10 (c : Dev nD) (i j : Fin 256) : V m c main_v10 (ix2 i j) = if j.val = (i.val % 16) * 16 + i.val / 16 then (1 : EReal) else 0 := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise
  have e : IntOp.cmpi CmpIPredicate.eq (BitVec.ofNat 32 j.val) (src i.val) = if j.val = i.val % 16 * 16 + i.val / 16 then 1#1 else 0#1 := by
    rw [src_eq]
    exact cmp_eq _ _ j.isLt (by omega)
  refine (congrArg (FloatOps.uitofp (F := Ideal) FTy.bf16) e).trans ?_
  split <;> simp [FloatOps.uitofp]

end Cert.EvenInIdeal.Whole

end
-- ==== Proof.EvenCore.lean ====
module

public import proofs.«01_k».proof.Proof.EvenRef
public import proofs.«01_k».proof.Proof.EvenHalf
public import proofs.«01_k».proof.Proof.EvenReads

@[expose] public section

set_option maxRecDepth 16384

noncomputable section

/-! # What one grid point of the even layer's input projection computes -/

namespace Cert.EvenInIdeal.Whole

open Cert.EvenInIdeal Cert.EvenInIdeal.Gen Idealize.ShloMosaic Idealize.ShloMosaic.TcCoe Idealize.SL.Sem

variable (m : (ℓ : Loc nD τ sig) → Buf (Elt Ideal) ℓ)

/-- Block indices at point `t`. -/
theorem idx : ∀ t : Fin cfg0.N, win0_0.index t = ![t.val, 0] ∧ win0_1.index t = ![0, 0, 0] ∧ win0_2.index t = ![1, 0, 0]
    ∧ win0_3.index t = ![0, 0] ∧ win0_4.index t = ![0, 0] ∧ win0_5.index t = ![t.val, 0]
    ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0, 0] ∧ win0_12.index t = ![t.val, 0] :=
  (by decide +kernel : ∀ t : Fin grid0.N, _)

/-- The reference's projected columns of the kernel's arguments. -/
abbrev ref (c : Dev nD) : FVec Ideal Cert.EvenInRefIdeal.S8192x6144 .f32 :=
  EvenRef.proj (m ((c.tc : Thread nD τ).loc main_arg0)) (m ((c.tc : Thread nD τ).loc main_arg1)) (m ((c.tc : Thread nD τ).loc main_arg2))

/-- The input's block. -/
theorem blk0 (c : Dev nD) (t : Fin cfg0.N) (r : Fin 512) (d : Fin 1024) : iblk m c 0 t (ix2 r d)
    = m ((c.tc : Thread nD τ).loc main_arg0) (ix2 ⟨t * 512 + r, by have := t.isLt; have : cfg0.N = 16 := rfl; omega⟩ d) := by
  refine (by blk_point [iblk, idx t] : iblk m c 0 t (ix2 r d)
    = V m c main_arg0 (ix2 ⟨t * 512 + r, by have := t.isLt; have : cfg0.N = 16 := rfl; omega⟩ d)).trans ?_
  exact congrFun (V_main_arg0 m c) _
/-- The modulation's shift. -/
theorem blk1 (c : Dev nD) (t : Fin cfg0.N) (d : Fin 1024) : iblk m c 1 t (ix3 0 0 d) = m ((c.tc : Thread nD τ).loc main_arg1) (ix3 0 0 d) := by
  refine (by blk_point [iblk, idx t] : iblk m c 1 t (ix3 0 0 d) = V m c main_arg1 (ix3 0 0 d)).trans ?_
  exact congrFun (V_main_arg1 m c) _
/-- The modulation's scale. -/
theorem blk2 (c : Dev nD) (t : Fin cfg0.N) (d : Fin 1024) : iblk m c 2 t (ix3 0 0 d) = m ((c.tc : Thread nD τ).loc main_arg1) (ix3 1 0 d) := by
  refine (by blk_point [iblk, idx t] : iblk m c 2 t (ix3 0 0 d) = V m c main_arg1 (ix3 1 0 d)).trans ?_
  exact congrFun (V_main_arg1 m c) _
/-- The weights' block. -/
theorem blk3 (c : Dev nD) (t : Fin cfg0.N) (k : Fin 1024) (d : Fin 6144) : iblk m c 3 t (ix2 k d) = V m c main_v1 (ix2 k d) := by
  blk_point [iblk, idx t]
/-- The gathering matrix's block. -/
theorem blk4 (c : Dev nD) (t : Fin cfg0.N) (i j : Fin 256) : iblk m c 4 t (ix2 i j) = V m c main_v10 (ix2 i j) := by
  blk_point [iblk, idx t]

/-- A sequence's tiles being its rows in the point's blocks, its projected columns are the reference's there. -/
theorem core (c : Dev nD) (t : Fin cfg0.N) (ht : t.val < 16) (q : Fin 2) (o : ℕ) (ho : o + 1024 ≤ 6144)
    (x : Vec Ideal S256x1024 .f32) (sc sh : Vec Ideal S1x1x1024 .f32) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hw : ∀ k d : Fin 1024, w (ix2 k d) = iblk m c 3 t (ix2 k ⟨o + d, by omega⟩))
    (r : Fin 256) (d : Fin 1024) :
    EvenHalf.lin (EvenHalf.rows x sc sh) w (ix2 r d) = ref m c (ix2 ⟨t * 512 + (q * 256 + r), by omega⟩ ⟨o + d, by omega⟩) := by
  refine (EvenHalf.lin_at _ _ r d).trans ?_
  refine Eq.trans ?_ (EvenRef.proj_at _ _ _ _ _).symm
  unfold RowMath.lin
  have e3 := fun k d => (blk3 m c t k d).trans (V1 m c k d)
  simp only [EvenHalf.rows_at, hx, hsc, hsh, hw, blk0, blk1, blk2, e3]

/-- So is its part of output 0. -/
theorem u_piece (c : Dev nD) (t : Fin cfg0.N) (ht : t.val < 16) (q : Fin 2)
    (x : Vec Ideal S256x1024 .f32) (sc sh : Vec Ideal S1x1x1024 .f32) (p : Vec Ideal S256x256 .bf16) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hp : ∀ i j : Fin 256, p (ix2 i j) = iblk m c 4 t (ix2 i j))
    (hw : ∀ k d : Fin 1024, w (ix2 k d) = iblk m c 3 t (ix2 k ⟨0 + d, by omega⟩))
    (r : Fin 256) (d : Fin 1024) :
    EvenHalf.gather p (EvenHalf.lin (EvenHalf.rows x sc sh) w) (ix2 r d) = EvenRef.u (ref m c) (ix2 ⟨t * 512 + (q * 256 + r), by omega⟩ d) :=
  by
  have hs : r.val % 16 * 16 + r.val / 16 < 256 := by omega
  refine (EvenHalf.gather_at p _ r ⟨r.val % 16 * 16 + r.val / 16, hs⟩ (fun j => (hp r j).trans ((blk4 m c t r j).trans (V10 m c r j))) d).trans ?_
  refine (core m c t ht q 0 (by omega) x sc sh w hx hsc hsh hw _ d).trans ?_
  have hrow : (⟨t * 512 + (q * 256 + r), by omega⟩ : Fin 8192) = ⟨(⟨t * 2 + q, by omega⟩ : Fin 32) * 256 + r, by omega⟩ :=
    Fin.ext (show t.val * 512 + (q.val * 256 + r.val) = (t.val * 2 + q.val) * 256 + r.val by omega)
  rw [hrow]
  refine Eq.trans ?_ (EvenRef.u_at _ ⟨t * 2 + q, by omega⟩ r d).symm
  refine congrArg (ref m c) ?_
  have e1 : t.val * 512 + (q.val * 256 + (r.val % 16 * 16 + r.val / 16)) = (t.val * 2 + q.val) * 256 + (r.val % 16 * 16 + r.val / 16) := by omega
  have e2 : 0 + d.val = d.val := by omega
  simp only [e1, e2]

/-- So is its part of output 1. -/
theorem gateA_piece (c : Dev nD) (t : Fin cfg0.N) (ht : t.val < 16) (q : Fin 2)
    (x : Vec Ideal S256x1024 .f32) (sc sh : Vec Ideal S1x1x1024 .f32) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hw : ∀ k d : Fin 1024, w (ix2 k d) = iblk m c 3 t (ix2 k ⟨1024 + d, by omega⟩))
    (r : Fin 256) (d : Fin 1024) :
    EvenHalf.gate (EvenHalf.rows x sc sh) w (ix2 r d) = EvenRef.gateA (ref m c) (ix2 ⟨t * 512 + (q * 256 + r), by omega⟩ d) :=
  ((EvenHalf.gate_at _ _ r d).trans (congrArg RowMath.silu (core m c t ht q 1024 (by omega) x sc sh w hx hsc hsh hw r d))).trans (EvenRef.gateA_at _ _ _).symm

/-- So is its part of output 2. -/
theorem q_piece (c : Dev nD) (t : Fin cfg0.N) (ht : t.val < 16) (q : Fin 2)
    (x : Vec Ideal S256x1024 .f32) (sc sh : Vec Ideal S1x1x1024 .f32) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hw : ∀ k d : Fin 1024, w (ix2 k d) = iblk m c 3 t (ix2 k ⟨2048 + d, by omega⟩))
    (r : Fin 256) (d : Fin 1024) :
    EvenHalf.lin (EvenHalf.rows x sc sh) w (ix2 r d) = EvenRef.q (ref m c) (ix2 ⟨t * 512 + (q * 256 + r), by omega⟩ d) :=
  (core m c t ht q 2048 (by omega) x sc sh w hx hsc hsh hw r d).trans (EvenRef.q_at _ _ _).symm

/-- So is its part of output 3. -/
theorem kb_piece (c : Dev nD) (t : Fin cfg0.N) (ht : t.val < 16) (q : Fin 2)
    (x : Vec Ideal S256x1024 .f32) (sc sh : Vec Ideal S1x1x1024 .f32) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hw : ∀ k d : Fin 1024, w (ix2 k d) = iblk m c 3 t (ix2 k ⟨3072 + d, by omega⟩))
    (r : Fin 256) (d : Fin 1024) :
    EvenHalf.lin (EvenHalf.rows x sc sh) w (ix2 r d) = EvenRef.kb (ref m c) (ix2 ⟨t * 512 + (q * 256 + r), by omega⟩ d) :=
  (core m c t ht q 3072 (by omega) x sc sh w hx hsc hsh hw r d).trans (EvenRef.kb_at _ _ _).symm

/-- So is its part of output 4. -/
theorem vb_piece (c : Dev nD) (t : Fin cfg0.N) (ht : t.val < 16) (q : Fin 2)
    (x : Vec Ideal S256x1024 .f32) (sc sh : Vec Ideal S1x1x1024 .f32) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hw : ∀ k d : Fin 1024, w (ix2 k d) = iblk m c 3 t (ix2 k ⟨4096 + d, by omega⟩))
    (r : Fin 256) (d : Fin 1024) :
    EvenHalf.lin (EvenHalf.rows x sc sh) w (ix2 r d) = EvenRef.vb (ref m c) (ix2 ⟨t * 512 + (q * 256 + r), by omega⟩ d) :=
  (core m c t ht q 4096 (by omega) x sc sh w hx hsc hsh hw r d).trans (EvenRef.vb_at _ _ _).symm

/-- So is its part of output 5. -/
theorem gateB_piece (c : Dev nD) (t : Fin cfg0.N) (ht : t.val < 16) (q : Fin 2)
    (x : Vec Ideal S256x1024 .f32) (sc sh : Vec Ideal S1x1x1024 .f32) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hw : ∀ k d : Fin 1024, w (ix2 k d) = iblk m c 3 t (ix2 k ⟨5120 + d, by omega⟩))
    (r : Fin 256) (d : Fin 1024) :
    EvenHalf.gate (EvenHalf.rows x sc sh) w (ix2 r d) = EvenRef.gateB (ref m c) (ix2 ⟨t * 512 + (q * 256 + r), by omega⟩ d) :=
  ((EvenHalf.gate_at _ _ r d).trans (congrArg RowMath.silu (core m c t ht q 5120 (by omega) x sc sh w hx hsc hsh hw r d))).trans (EvenRef.gateB_at _ _ _).symm

/-- So is its part of output 6. -/
theorem kt_piece (c : Dev nD) (t : Fin cfg0.N) (ht : t.val < 16) (q : Fin 2)
    (x : Vec Ideal S256x1024 .f32) (sc sh : Vec Ideal S1x1x1024 .f32) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hw : ∀ k d : Fin 1024, w (ix2 k d) = iblk m c 3 t (ix2 k ⟨3072 + d, by omega⟩))
    (r : Fin 256) (d : Fin 1024) :
    EvenHalf.turned (EvenHalf.rows x sc sh) w (ix3 0 d r) = EvenRef.kt (ref m c) (ix3 ⟨t * 2 + q, by omega⟩ d r) :=
  by
  refine (EvenHalf.turned_at _ _ r d).trans ((core m c t ht q 3072 (by omega) x sc sh w hx hsc hsh hw r d).trans ?_)
  refine Eq.trans ?_ (EvenRef.kt_at _ ⟨t * 2 + q, by omega⟩ d r).symm
  exact congrArg (fun i => ref m c (ix2 i _)) (Fin.ext (show t.val * 512 + (q.val * 256 + r.val) = (t.val * 2 + q.val) * 256 + r.val by omega))

/-- So is its part of output 7. -/
theorem v_piece (c : Dev nD) (t : Fin cfg0.N) (ht : t.val < 16) (q : Fin 2)
    (x : Vec Ideal S256x1024 .f32) (sc sh : Vec Ideal S1x1x1024 .f32) (w : Vec Ideal S1024x1024 .bf16)
    (hx : ∀ (l : Fin 256) (k : Fin 1024), x (ix2 l k) = iblk m c 0 t (ix2 ⟨q * 256 + l, by omega⟩ k))
    (hsc : ∀ k : Fin 1024, sc (ix3 0 0 k) = iblk m c 2 t (ix3 0 0 k)) (hsh : ∀ k : Fin 1024, sh (ix3 0 0 k) = iblk m c 1 t (ix3 0 0 k))
    (hw : ∀ k d : Fin 1024, w (ix2 k d) = iblk m c 3 t (ix2 k ⟨4096 + d, by omega⟩))
    (r : Fin 256) (d : Fin 1024) :
    EvenHalf.lin (EvenHalf.rows x sc sh) w (ix2 r d) = EvenRef.v (ref m c) (ix2 ⟨t * 512 + (q * 256 + r), by omega⟩ d) :=
  (core m c t ht q 4096 (by omega) x sc sh w hx hsc hsh hw r d).trans (EvenRef.v_at _ _ _).symm

end Cert.EvenInIdeal.Whole

end
-- ==== Proof.EvenPoint.lean ====
module

public import proofs.«01_k».proof.Proof.EvenCore

@[expose] public section

set_option maxRecDepth 16384

noncomputable section

/-! # The output arrays of the even layer's input projection -/

namespace Cert.EvenInIdeal.Whole

open Cert.EvenInIdeal Cert.EvenInIdeal.Gen Idealize.ShloMosaic Idealize.ShloMosaic.TcCoe Idealize.SL.Sem

variable (m : (ℓ : Loc nD τ sig) → Buf (Elt Ideal) ℓ)

set_option maxHeartbeats 2000000 in
/-- What point `t` leaves in output 0's buffer is the reference's block there. -/
theorem u_point (c : Dev nD) (t : Fin cfg0.N) (y : S512x1024.Idx) :
    out0_5 (iblk m c 0 t) (iblk m c 1 t) (iblk m c 2 t) (iblk m c 3 t) (iblk m c 4 t) y
      = EvenRef.u (ref m c) (((cfg0.win 5).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 5).blk t).view.emb y = ix2 (⟨t * 512 + (q * 256 + x0), by omega⟩ : Fin 8192) x1 := by
    intro q x0 x1 e0 e1
    blk_ext [idx t]
  have fin := fun q => u_piece m c t ht q
  unfold out0_5 k0_pay23
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  canon_tiles x h
  · idx_vars x
    refine (congrFun (EvenHalf.u_second _ _ _ _ _) (ix2 x0 x1)).trans ((fin 1 _ _ _ _ _
      ?_ ?_ ?_ ?_ ?_ x0 x1).trans (congrArg (EvenRef.u (ref m c)) (go 1 x0 x1 h0 h1)).symm) <;> intros <;> exact congrArg _ (by blk_ext [] : Rect.emb _ _ = _)
  · idx_vars x
    refine (congrFun (EvenHalf.u_first _ _ _ _ _) (ix2 x0 x1)).trans ((fin 0 _ _ _ _ _
      ?_ ?_ ?_ ?_ ?_ x0 x1).trans (congrArg (EvenRef.u (ref m c)) (go 0 x0 x1 (h0.trans (Nat.zero_add _).symm) h1)).symm) <;> intros <;> exact congrArg _ (by blk_ext [] : Rect.emb _ _ = _)

/-- The kernel's output array 0 is the reference's result. -/
theorem u_final (c : Dev nD) : (dats m 0 c).arrAt 5 cfg0.N = EvenRef.u (ref m c) := by
  refine (dats m 0 c).arrAt_eq_of_covers 5 _ (by decide +kernel) fun t _ y => ?_
  blk_simp
  rw [after0_5]
  exact u_point m c t y

set_option maxHeartbeats 2000000 in
/-- What point `t` leaves in output 1's buffer is the reference's block there. -/
theorem gateA_point (c : Dev nD) (t : Fin cfg0.N) (y : S512x1024.Idx) :
    out0_6 (iblk m c 0 t) (iblk m c 1 t) (iblk m c 2 t) (iblk m c 3 t) (iblk m c 4 t) y
      = EvenRef.gateA (ref m c) (((cfg0.win 6).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 6).blk t).view.emb y = ix2 (⟨t * 512 + (q * 256 + x0), by omega⟩ : Fin 8192) x1 := by
    intro q x0 x1 e0 e1
    blk_ext [idx t]
  have fin := fun q => gateA_piece m c t ht q
  unfold out0_6 k0_pay22 k0_pay23
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  canon_tiles x h
  · idx_vars x
    refine (congrFun (EvenHalf.gateA_second _ _ _ _) (ix2 x0 x1)).trans ((fin 1 _ _ _ _
      ?_ ?_ ?_ ?_ x0 x1).trans (congrArg (EvenRef.gateA (ref m c)) (go 1 x0 x1 h0 h1)).symm) <;> intros <;> exact congrArg _ (by blk_ext [] : Rect.emb _ _ = _)
  · idx_vars x
    refine (congrFun (EvenHalf.gateA_first _ _ _ _) (ix2 x0 x1)).trans ((fin 0 _ _ _ _
      ?_ ?_ ?_ ?_ x0 x1).trans (congrArg (EvenRef.gateA (ref m c)) (go 0 x0 x1 (h0.trans (Nat.zero_add _).symm) h1)).symm) <;> intros <;> exact congrArg _ (by blk_ext [] : Rect.emb _ _ = _)

/-- The kernel's output array 1 is the reference's result. -/
theorem gateA_final (c : Dev nD) : (dats m 0 c).arrAt 6 cfg0.N = EvenRef.gateA (ref m c) := by
  refine (dats m 0 c).arrAt_eq_of_covers 6 _ (by decide +kernel) fun t _ y => ?_
  blk_simp
  rw [after0_6]
  exact gateA_point m c t y

set_option maxHeartbeats 2000000 in
/-- What point `t` leaves in output 2's buffer is the reference's block there. -/
theorem q_point (c : Dev nD) (t : Fin cfg0.N) (y : S512x1024.Idx) :
    out0_7 (iblk m c 0 t) (iblk m c 1 t) (iblk m c 2 t) (iblk m c 3 t) (iblk m c 4 t) y
      = EvenRef.q (ref m c) (((cfg0.win 7).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 7).blk t).view.emb y = ix2 (⟨t * 512 + (q * 256 + x0), by omega⟩ : Fin 8192) x1 := by
    intro q x0 x1 e0 e1
    blk_ext [idx t]
  have fin := fun q => q_piece m c t ht q
  unfold out0_7 k0_pay22 k0_pay23
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  canon_tiles x h
  · idx_vars x
    refine (congrFun (EvenHalf.q_second _ _ _ _) (ix2 x0 x1)).trans ((fin 1 _ _ _ _
      ?_ ?_ ?_ ?_ x0 x1).trans (congrArg (EvenRef.q (ref m c)) (go 1 x0 x1 h0 h1)).symm) <;> intros <;> exact congrArg _ (by blk_ext [] : Rect.emb _ _ = _)
  · idx_vars x
    refine (congrFun (EvenHalf.q_first _ _ _ _) (ix2 x0 x1)).trans ((fin 0 _ _ _ _
      ?_ ?_ ?_ ?_ x0 x1).trans (congrArg (EvenRef.q (ref m c)) (go 0 x0 x1 (h0.trans (Nat.zero_add _).symm) h1)).symm) <;> intros <;> exact congrArg _ (by blk_ext [] : Rect.emb _ _ = _)

/-- The kernel's output array 2 is the reference's result. -/
theorem q_final (c : Dev nD) : (dats m 0 c).arrAt 7 cfg0.N = EvenRef.q (ref m c) := by
  refine (dats m 0 c).arrAt_eq_of_covers 7 _ (by decide +kernel) fun t _ y => ?_
  blk_simp
  rw [after0_7]
  exact q_point m c t y

set_option maxHeartbeats 2000000 in
/-- What point `t` leaves in output 3's buffer is the reference's block there. -/
theorem kb_point (c : Dev nD) (t : Fin cfg0.N) (y : S512x1024.Idx) :
    out0_8 (iblk m c 0 t) (iblk m c 1 t) (iblk m c 2 t) (iblk m c 3 t) (iblk m c 4 t) y
      = EvenRef.kb (ref m c) (((cfg0.win 8).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 8).blk t).view.emb y = ix2 (⟨t * 512 + (q * 256 + x0), by omega⟩ : Fin 8192) x1 := by
    intro q x0 x1 e0 e1
    blk_ext [idx t]
  have fin := fun q => kb_piece m c t ht q
  unfold out0_8 k0_pay22 k0_pay23
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  canon_tiles x h
  · idx_vars x
    refine (congrFun (EvenHalf.kb_second _ _ _ _) (ix2 x0 x1)).trans ((fin 1 _ _ _ _
      ?_ ?_ ?_ ?_ x0 x1).trans (congrArg (EvenRef.kb (ref m c)) (go 1 x0 x1 h0 h1)).symm) <;> intros <;> exact congrArg _ (by blk_ext [] : Rect.emb _ _ = _)
  · idx_vars x
    refine (congrFun (EvenHalf.kb_first _ _ _ _) (ix2 x0 x1)).trans ((fin 0 _ _ _ _
      ?_ ?_ ?_ ?_ x0 x1).trans (congrArg (EvenRef.kb (ref m c)) (go 0 x0 x1 (h0.trans (Nat.zero_add _).symm) h1)).symm) <;> intros <;> exact congrArg _ (by blk_ext [] : Rect.emb _ _ = _)

/-- The kernel's output array 3 is the reference's result. -/
theorem kb_final (c : Dev nD) : (dats m 0 c).arrAt 8 cfg0.N = EvenRef.kb (ref m c) := by
  refine (dats m 0 c).arrAt_eq_of_covers 8 _ (by decide +kernel) fun t _ y => ?_
  blk_simp
  rw [after0_8]
  exact kb_point m c t y

set_option maxHeartbeats 2000000 in
/-- What point `t` leaves in output 4's buffer is the reference's block there. -/
theorem vb_point (c : Dev nD) (t : Fin cfg0.N) (y : S512x1024.Idx) :
    out0_9 (iblk m c 0 t) (iblk m c 1 t) (iblk m c 2 t) (iblk m c 3 t) (iblk m c 4 t) y
      = EvenRef.vb (ref m c) (((cfg0.win 9).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 9).blk t).view.emb y = ix2 (⟨t * 512 + (q * 256 + x0), by omega⟩ : Fin 8192) x1 := by
    intro q x0 x1 e0 e1
    blk_ext [idx t]
  have fin := fun q => vb_piece m c t ht q
  unfold out0_9 k0_pay22 k0_pay23
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  canon_tiles x h
  · idx_vars x
    refine (congrFun (EvenHalf.vb_second _ _ _ _) (ix2 x0 x1)).trans ((fin 1 _ _ _ _
      ?_ ?_ ?_ ?_ x0 x1).trans (congrArg (EvenRef.vb (ref m c)) (go 1 x0 x1 h0 h1)).symm) <;> intros <;> exact congrArg _ (by blk_ext [] : Rect.emb _ _ = _)
  · idx_vars x
    refine (congrFun (EvenHalf.vb_first _ _ _ _) (ix2 x0 x1)).trans ((fin 0 _ _ _ _
      ?_ ?_ ?_ ?_ x0 x1).trans (congrArg (EvenRef.vb (ref m c)) (go 0 x0 x1 (h0.trans (Nat.zero_add _).symm) h1)).symm) <;> intros <;> exact congrArg _ (by blk_ext [] : Rect.emb _ _ = _)

/-- The kernel's output array 4 is the reference's result. -/
theorem vb_final (c : Dev nD) : (dats m 0 c).arrAt 9 cfg0.N = EvenRef.vb (ref m c) := by
  refine (dats m 0 c).arrAt_eq_of_covers 9 _ (by decide +kernel) fun t _ y => ?_
  blk_simp
  rw [after0_9]
  exact vb_point m c t y

set_option maxHeartbeats 2000000 in
/-- What point `t` leaves in output 5's buffer is the reference's block there. -/
theorem gateB_point (c : Dev nD) (t : Fin cfg0.N) (y : S512x1024.Idx) :
    out0_10 (iblk m c 0 t) (iblk m c 1 t) (iblk m c 2 t) (iblk m c 3 t) (iblk m c 4 t) y
      = EvenRef.gateB (ref m c) (((cfg0.win 10).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 10).blk t).view.emb y = ix2 (⟨t * 512 + (q * 256 + x0), by omega⟩ : Fin 8192) x1 := by
    intro q x0 x1 e0 e1
    blk_ext [idx t]
  have fin := fun q => gateB_piece m c t ht q
  unfold out0_10 k0_pay22 k0_pay23
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  canon_tiles x h
  · idx_vars x
    refine (congrFun (EvenHalf.gateB_second _ _ _ _) (ix2 x0 x1)).trans ((fin 1 _ _ _ _
      ?_ ?_ ?_ ?_ x0 x1).trans (congrArg (EvenRef.gateB (ref m c)) (go 1 x0 x1 h0 h1)).symm) <;> intros <;> exact congrArg _ (by blk_ext [] : Rect.emb _ _ = _)
  · idx_vars x
    refine (congrFun (EvenHalf.gateB_first _ _ _ _) (ix2 x0 x1)).trans ((fin 0 _ _ _ _
      ?_ ?_ ?_ ?_ x0 x1).trans (congrArg (EvenRef.gateB (ref m c)) (go 0 x0 x1 (h0.trans (Nat.zero_add _).symm) h1)).symm) <;> intros <;> exact congrArg _ (by blk_ext [] : Rect.emb _ _ = _)

/-- The kernel's output array 5 is the reference's result. -/
theorem gateB_final (c : Dev nD) : (dats m 0 c).arrAt 10 cfg0.N = EvenRef.gateB (ref m c) := by
  refine (dats m 0 c).arrAt_eq_of_covers 10 _ (by decide +kernel) fun t _ y => ?_
  blk_simp
  rw [after0_10]
  exact gateB_point m c t y

set_option maxHeartbeats 2000000 in
/-- What point `t` leaves in output 6's buffer is the reference's block there. -/
theorem kt_point (c : Dev nD) (t : Fin cfg0.N) (y : S2x1024x256.Idx) :
    out0_11 (iblk m c 0 t) (iblk m c 1 t) (iblk m c 2 t) (iblk m c 3 t) (iblk m c 4 t) y
      = EvenRef.kt (ref m c) (((cfg0.win 11).blk t).view.emb y) := by
  have ht : t.val < 16 := lt_of_lt_of_eq t.isLt (by decide)
  have go : ∀ (q : Fin 2) (x1 : Fin 1024) (x2 : Fin 256), (y 0 : ℕ) = q → (y 1 : ℕ) = x1 → (y 2 : ℕ) = x2 →
      ((cfg0.win 11).blk t).view.emb y = ix3 (⟨t * 2 + q, by omega⟩ : Fin 32) x1 x2 := by
    intro q x1 x2 e0 e1 e2
    blk_ext [idx t]
  have fin := fun q => kt_piece m c t ht q
  unfold out0_11 k0_pay22 k0_pay23
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  canon_tiles x h
  · idx_vars x
    have z0 : (x0 : ℕ) = 0 := by omega
    refine (congrFun (EvenHalf.kt_second _ _ _ _) (ix3 x0 x1 x2)).trans ((congrArg _ (congrArg (fun i => ix3 i x1 x2) (Fin.ext z0 : x0 = 0))).trans ((fin 1 _ _ _ _
      ?_ ?_ ?_ ?_ x2 x1).trans (congrArg (EvenRef.kt (ref m c)) (go 1 x1 x2 (h0.trans (by rw [z0]; rfl)) h1 h2)).symm)) <;> intros <;> exact congrArg _ (by blk_ext [] : Rect.emb _ _ = _)
  · idx_vars x
    have z0 : (x0 : ℕ) = 0 := by omega
    refine (congrFun (EvenHalf.kt_first _ _ _ _) (ix3 x0 x1 x2)).trans ((congrArg _ (congrArg (fun i => ix3 i x1 x2) (Fin.ext z0 : x0 = 0))).trans ((fin 0 _ _ _ _
      ?_ ?_ ?_ ?_ x2 x1).trans (congrArg (EvenRef.kt (ref m c)) (go 0 x1 x2 (h0.trans (by rw [z0]; rfl)) h1 h2)).symm)) <;> intros <;> exact congrArg _ (by blk_ext [] : Rect.emb _ _ = _)

/-- The kernel's output array 6 is the reference's result. -/
theorem kt_final (c : Dev nD) : (dats m 0 c).arrAt 11 cfg0.N = EvenRef.kt (ref m c) := by
  refine (dats m 0 c).arrAt_eq_of_covers 11 _ (by decide +kernel) fun t _ y => ?_
  blk_simp
  rw [after0_11]
  exact kt_point m c t y

set_option maxHeartbeats 2000000 in
/-- What point `t` leaves in output 7's buffer is the reference's block there. -/
theorem v_point (c : Dev nD) (t : Fin cfg0.N) (y : S512x1024.Idx) :
    out0_12 (iblk m c 0 t) (iblk m c 1 t) (iblk m c 2 t) (iblk m c 3 t) (iblk m c 4 t) y
      = EvenRef.v (ref m c) (((cfg0.win 12).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 12).blk t).view.emb y = ix2 (⟨t * 512 + (q * 256 + x0), by omega⟩ : Fin 8192) x1 := by
    intro q x0 x1 e0 e1
    blk_ext [idx t]
  have fin := fun q => v_piece m c t ht q
  unfold out0_12 k0_pay22 k0_pay23
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  canon_tiles x h
  · idx_vars x
    refine (congrFun (EvenHalf.v_second _ _ _ _) (ix2 x0 x1)).trans ((fin 1 _ _ _ _
      ?_ ?_ ?_ ?_ x0 x1).trans (congrArg (EvenRef.v (ref m c)) (go 1 x0 x1 h0 h1)).symm) <;> intros <;> exact congrArg _ (by blk_ext [] : Rect.emb _ _ = _)
  · idx_vars x
    refine (congrFun (EvenHalf.v_first _ _ _ _) (ix2 x0 x1)).trans ((fin 0 _ _ _ _
      ?_ ?_ ?_ ?_ x0 x1).trans (congrArg (EvenRef.v (ref m c)) (go 0 x0 x1 (h0.trans (Nat.zero_add _).symm) h1)).symm) <;> intros <;> exact congrArg _ (by blk_ext [] : Rect.emb _ _ = _)

/-- The kernel's output array 7 is the reference's result. -/
theorem v_final (c : Dev nD) : (dats m 0 c).arrAt 12 cfg0.N = EvenRef.v (ref m c) := by
  refine (dats m 0 c).arrAt_eq_of_covers 12 _ (by decide +kernel) fun t _ y => ?_
  blk_simp
  rw [after0_12]
  exact v_point m c t y

end Cert.EvenInIdeal.Whole

end
-- ==== Proof.Even.lean ====
module

public import proofs.«01_k».proof.Defs
public import proofs.«01_k».proof.Proof.Gen.EvenIn.Frame
public import proofs.«01_k».proof.Proof.Gen.EvenInRefIdeal
public import proofs.«01_k».proof.Proof.EvenPoint
public import Idealize.ShloMosaic.Lib.Claim

@[expose] public section

set_option maxRecDepth 16384

noncomputable section

/-! # The claims about the even layer's input projection -/

namespace Cert.Even

open Idealize.ShloMosaic Idealize.SL.Sem

/-- The kernel runs, ends quiescent and leaves its arguments. -/
theorem frame_kernel : quiescent_EvenIn (hEvenIn := Cert.EvenIn.Gen.facts) := fun m ρ _ => Cert.EvenIn.Gen.frame m ρ

/-- So does its idealization. -/
theorem frame_ideal : quiescent_EvenInIdeal (hEvenInIdeal := Cert.EvenInIdeal.Gen.facts) := fun m ρ _ => Cert.EvenInIdeal.Gen.frame m ρ

/-- The reference runs, ends quiescent and leaves its arguments. -/
theorem frame_ref : quiescent_EvenInRefIdeal (hEvenInRefIdeal := Cert.EvenInRefIdeal.Gen.facts) := fun m g _ =>
  (θ_run Cert.EvenInRefIdeal.defs _ _).mono (fun r h => ⟨fun c => (h c).2.2.2.2.2.2.2.2, sem_eq_zero_of_no_sems (by decide) r.2⟩)
    (Cert.EvenInRefIdeal.Value.run m g)

/-- No operation was replaced. -/
theorem preserves : preserves_EvenIn_EvenInIdeal := trivial

set_option maxHeartbeats 2000000 in
/-- The kernel and the reference end with the same eight arrays. -/
theorem algebraic : algebraic_EvenInIdeal_EvenInRefIdeal (hEvenInIdeal := Cert.EvenInIdeal.Gen.facts)
    (hEvenInRefIdeal := Cert.EvenInRefIdeal.Gen.facts) := by
  pair_intro
  · run_from Cert.EvenInIdeal.Value.run_blocks m g
  · run_from Cert.EvenInRefIdeal.Value.run m' g'
    · refine Eq.trans ?_ (Cert.EvenInIdeal.Whole.u_final m c).symm
      unfold Cert.EvenRef.u Cert.EvenInIdeal.Whole.ref Cert.EvenRef.proj Cert.EvenRef.lin Cert.EvenRef.rows
      rfl
    · obtain ⟨a0, a1, a2⟩ := hagree c
      refine (Cert.EvenRef.gateA_eq m' c).trans (Eq.trans ?_ (Cert.EvenInIdeal.Whole.gateA_final m c).symm)
      rw [a0, a1, a2]
    · refine Eq.trans ?_ (Cert.EvenInIdeal.Whole.q_final m c).symm
      unfold Cert.EvenRef.q Cert.EvenInIdeal.Whole.ref Cert.EvenRef.proj Cert.EvenRef.lin Cert.EvenRef.rows
      rfl
    · refine Eq.trans ?_ (Cert.EvenInIdeal.Whole.kb_final m c).symm
      unfold Cert.EvenRef.kb Cert.EvenInIdeal.Whole.ref Cert.EvenRef.proj Cert.EvenRef.lin Cert.EvenRef.rows
      rfl
    · refine Eq.trans ?_ (Cert.EvenInIdeal.Whole.vb_final m c).symm
      unfold Cert.EvenRef.vb Cert.EvenInIdeal.Whole.ref Cert.EvenRef.proj Cert.EvenRef.lin Cert.EvenRef.rows
      rfl
    · obtain ⟨a0, a1, a2⟩ := hagree c
      refine (Cert.EvenRef.gateB_eq m' c).trans (Eq.trans ?_ (Cert.EvenInIdeal.Whole.gateB_final m c).symm)
      rw [a0, a1, a2]
    · refine Eq.trans ?_ (Cert.EvenInIdeal.Whole.kt_final m c).symm
      unfold Cert.EvenRef.kt Cert.EvenInIdeal.Whole.ref Cert.EvenRef.proj Cert.EvenRef.lin Cert.EvenRef.rows
      rfl
    · refine Eq.trans ?_ (Cert.EvenInIdeal.Whole.v_final m c).symm
      unfold Cert.EvenRef.v Cert.EvenInIdeal.Whole.ref Cert.EvenRef.proj Cert.EvenRef.lin Cert.EvenRef.rows
      rfl

end Cert.Even

end
-- ==== Proof.OddRef.lean ====
module

public import proofs.«01_k».proof.Proof.RowMath
public import proofs.«01_k».proof.Proof.Gen.OddOutRefIdeal.Run
public import Idealize.ShloMosaic.Lib.Pointwise

@[expose] public section

set_option maxRecDepth 16384

noncomputable section

/-! # The odd layer's output projection in the reference, stage by stage -/

namespace Cert.OddRef

open Cert.OddOutRefIdeal Cert.OddOutRefIdeal.Gen Idealize.ShloMosaic Idealize.ShloMosaic.TcCoe Idealize.SL.Sem Idealize.ShloMosaic.StableHlo

/-- The real part of the transform along each sequence. -/
def mixed (a0 a1 : FVec Ideal S8192x2048 .bf16) (a5 a6 : FVec Ideal S256x256 .bf16) : FVec Ideal S32x256x2048 .f32 :=
  (subf (transpose S32x256x2048 [0, 2, 1] (Host.dotGeneral dot_S32x256x2048_S256x256_S32x2048x256_1_1_02_0_n_n none (shapeCast _ (extf .f32 a0 bitsLt_bf16_f32) shapeCasts_S8192x2048_S32x256x2048) (extf .f32 a5 bitsLt_bf16_f32)) transposes_S32x2048x256_S32x256x2048_0_2_1) (transpose S32x256x2048 [0, 2, 1] (Host.dotGeneral dot_S32x256x2048_S256x256_S32x2048x256_1_1_02_0_n_n none (shapeCast _ (extf .f32 a1 bitsLt_bf16_f32) shapeCasts_S8192x2048_S32x256x2048) (extf .f32 a6 bitsLt_bf16_f32)) transposes_S32x2048x256_S32x256x2048_0_2_1))

/-- The channels mixed, biased and gated. -/
def gated (y : FVec Ideal S32x256x2048 .f32) (a2 : FVec Ideal S8192x2048 .bf16) (a7 : FVec Ideal S1x2048x2048 .f32) (a8 : FVec Ideal S1x2048 .f32) : FVec Ideal S8192x2048 .f32 :=
  (mulf (addf (Host.dotGeneral dot_S8192x2048_S2048x2048_S8192x2048_1_0_0_1_n_n none (shapeCast _ y shapeCasts_S32x256x2048_S8192x2048) (shapeCast _ a7 shapeCasts_S1x2048x2048_S2048x2048)) (broadcastInDim S8192x2048 ![0, 1] bcast_S1x2048_S8192x2048_0_1 (broadcastInDim S1x2048 ![1] bcast_S2048_S1x2048_1 (shapeCast _ a8 shapeCasts_S1x2048_S2048)))) (extf .f32 a2 bitsLt_bf16_f32))

/-- The projection added to the scaled residual. -/
def resid (y : FVec Ideal S8192x2048 .f32) (a3 : FVec Ideal S8192x1024 .f32) (a4 : FVec Ideal S48x1x1024 .f32) (a9 : FVec Ideal S1x2048x1024 .f32) : FVec Ideal S8192x1024 .f32 :=
  (addf (mulf (broadcastInDim S8192x1024 ![] bcast_S_S8192x1024 (constant S_ .f32 0x3FB504F3#32)) a3) (mulf (broadcastInDim S8192x1024 ![0, 1] bcast_S1x1024_S8192x1024_0_1 (shapeCast _ (extractStridedSlice S1x1x1024 ![26, 0, 0] a4 slices_S48x1x1024_S1x1x1024_26_0_0) shapeCasts_S1x1x1024_S1x1024)) (Host.dotGeneral dot_S8192x2048_S2048x1024_S8192x1024_1_0_0_1_n_n none y (shapeCast _ a9 shapeCasts_S1x2048x1024_S2048x1024))))

/-- Rows centred, divided by the root of their variance, with gain and offset. -/
def norm (z : FVec Ideal S8192x1024 .f32) (a10 a11 : FVec Ideal S2x1024 .f32) : FVec Ideal S8192x1024 .f32 :=
  addf (mulf (mulf (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))))) (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 (shapeCast _ (extractStridedSlice S1x1024 ![1, 0] a10 slices_S2x1024_S1x1024_1_0) shapeCasts_S1x1024_S1024)))) (broadcastInDim S8192x1024 ![0, 1] bcast_S1x1024_S8192x1024_0_1 (broadcastInDim S1x1024 ![1] bcast_S1024_S1x1024_1 (shapeCast _ (extractStridedSlice S1x1024 ![1, 0] a11 slices_S2x1024_S1x1024_1_0) shapeCasts_S1x1024_S1024)))

/-- The reference's result of given inputs: its stages composed. -/
def out (a0 a1 a2 : FVec Ideal S8192x2048 .bf16) (a3 : FVec Ideal S8192x1024 .f32) (a4 : FVec Ideal S48x1x1024 .f32) (a5 a6 : FVec Ideal S256x256 .bf16)
    (a7 : FVec Ideal S1x2048x2048 .f32) (a8 : FVec Ideal S1x2048 .f32) (a9 : FVec Ideal S1x2048x1024 .f32) (a10 a11 : FVec Ideal S2x1024 .f32) : FVec Ideal S8192x1024 .f32 :=
  norm (resid (gated (mixed a0 a1 a5 a6) a2 a7 a8) a3 a4 a9) a10 a11

/-- The reference's result is its stages composed. -/
theorem result_eq (m : (ℓ : Loc nD τ sig) → Buf (Elt Ideal) ℓ) (c : Dev nD) :
    Value.res_out0 (F := Ideal) m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Value.res_out0 Value.res_main_v56 out norm resid gated mixed
  rfl

/-- The transform's real part at an element. -/
theorem mixed_at (a0 a1 : FVec Ideal S8192x2048 .bf16) (a5 a6 : FVec Ideal S256x256 .bf16) (b : Fin 32) (l : Fin 256) (c : Fin 2048) :
    mixed a0 a1 a5 a6 (ix3 b l c) = (∑ k : Fin 256, a5 (ix2 l k) * a0 (ix2 ⟨b * 256 + k, by omega⟩ c)) - ∑ k : Fin 256, a6 (ix2 l k) * a1 (ix2 ⟨b * 256 + k, by omega⟩ c) := by
  have h : mixed a0 a1 a5 a6 (ix3 b l c) = (∑ k : Fin 256, a0 (ix2 ⟨b * 256 + k, by omega⟩ c) * a5 (ix2 l k)) - ∑ k : Fin 256, a1 (ix2 ⟨b * 256 + k, by omega⟩ c) * a6 (ix2 l k) := by
    pointwise [mixed]
  exact h.trans (congrArg₂ (fun p q : EReal => p - q) (Finset.sum_congr rfl fun k _ => mul_comm (G := EReal) _ _) (Finset.sum_congr rfl fun k _ => mul_comm (G := EReal) _ _))

/-- A gated channel. -/
theorem gated_at (y : FVec Ideal S32x256x2048 .f32) (a2 : FVec Ideal S8192x2048 .bf16) (a7 : FVec Ideal S1x2048x2048 .f32) (a8 : FVec Ideal S1x2048 .f32)
    (b : Fin 32) (l : Fin 256) (c : Fin 2048) : gated y a2 a7 a8 (ix2 ⟨b * 256 + l, by omega⟩ c)
    = ((∑ k : Fin 2048, y (ix3 b l k) * a7 (ix3 0 k c)) + a8 (ix2 0 c)) * a2 (ix2 ⟨b * 256 + l, by omega⟩ c) := by
  pointwise [gated]

/-- An element of the residual sum. -/
theorem resid_at (y : FVec Ideal S8192x2048 .f32) (a3 : FVec Ideal S8192x1024 .f32) (a4 : FVec Ideal S48x1x1024 .f32) (a9 : FVec Ideal S1x2048x1024 .f32) (r : Fin 8192) (d : Fin 1024) :
    resid y a3 a4 a9 (ix2 r d) = Ideal.ofBits .f32 0x3FB504F3#32 * a3 (ix2 r d) + a4 (ix3 26 0 d) * ∑ k : Fin 2048, y (ix2 r k) * a9 (ix3 0 k d) := by
  pointwise [resid]

/-- An element of the result. -/
theorem norm_at (z : FVec Ideal S8192x1024 .f32) (a10 a11 : FVec Ideal S2x1024 .f32) (r : Fin 8192) (d : Fin 1024) :
    norm z a10 a11 (ix2 r d) = RowMath.lnorm (fun k => z (ix2 r k)) d * a10 (ix2 1 d) + a11 (ix2 1 d) := by
  unfold RowMath.lnorm RowMath.mean
  pointwise [norm]

/-- The reference at a sequence's row, as the rows' formulas. -/
theorem out_at (a0 a1 a2 : FVec Ideal S8192x2048 .bf16) (a3 : FVec Ideal S8192x1024 .f32) (a4 : FVec Ideal S48x1x1024 .f32) (a5 a6 : FVec Ideal S256x256 .bf16)
    (a7 : FVec Ideal S1x2048x2048 .f32) (a8 : FVec Ideal S1x2048 .f32) (a9 : FVec Ideal S1x2048x1024 .f32) (a10 a11 : FVec Ideal S2x1024 .f32)
    (b : Fin 32) (l : Fin 256) (d : Fin 1024) : out a0 a1 a2 a3 a4 a5 a6 a7 a8 a9 a10 a11 (ix2 ⟨b * 256 + l, by omega⟩ d)
    = RowMath.lnorm (RowMath.resid (RowMath.gated (fun k => a5 (ix2 l k)) (fun k => a6 (ix2 l k)) (fun k c => a0 (ix2 ⟨b * 256 + k, by omega⟩ c))
        (fun k c => a1 (ix2 ⟨b * 256 + k, by omega⟩ c)) (fun k c => a7 (ix3 0 k c)) (fun c => a8 (ix2 0 c)) (fun c => a2 (ix2 ⟨b * 256 + l, by omega⟩ c)))
        (fun k c => a9 (ix3 0 k c)) (fun c => a3 (ix2 ⟨b * 256 + l, by omega⟩ c)) (fun c => a4 (ix3 26 0 c))) d * a10 (ix2 1 d) + a11 (ix2 1 d) := by
  unfold out
  rw [norm_at]
  simp only [resid_at, gated_at, mixed_at]
  rfl

end Cert.OddRef

end
-- ==== Proof.OddHalf.lean ====
module

public import proofs.«01_k».proof.Proof.RowMath
public import proofs.«01_k».proof.Proof.Gen.OddOutIdeal.Frame
public import Idealize.ShloMosaic.Lib.Pointwise

@[expose] public section

set_option maxRecDepth 16384

noncomputable section

/-! # One sequence of the odd layer's output projection in the kernel -/

namespace Cert.OddHalf

open Cert.OddOutIdeal Cert.OddOutIdeal.Gen Idealize.ShloMosaic Idealize.ShloMosaic.TcCoe Idealize.SL.Sem

/-- The transform's real part, its channels mixed. -/
def mix (cl : FVec Ideal S256x256 .bf16) (u : FVec Ideal S256x2048 .bf16) (sl : FVec Ideal S256x256 .bf16) (s : FVec Ideal S256x2048 .bf16)
    (w : FVec Ideal S2048x2048 .bf16) : FVec Ideal S256x2048 .f32 := k0_pay7 (F := Ideal) cl u sl s w

/-- The gated channels projected, added to the residual and centred and scaled. -/
def tail (y : FVec Ideal S256x2048 .f32) (b : FVec Ideal S1x2048 .f32) (sz : FVec Ideal S256x2048 .bf16) (x : FVec Ideal S256x1024 .f32)
    (g : FVec Ideal S1x1x1024 .f32) (w2 : FVec Ideal S2048x1024 .bf16) : FVec Ideal S256x1024 .f32 := k0_pay10 (F := Ideal) y b sz x g w2

/-- One sequence's rows of the output. -/
def half (cl sl : FVec Ideal S256x256 .bf16) (u s sz : FVec Ideal S256x2048 .bf16) (x : FVec Ideal S256x1024 .f32) (g : FVec Ideal S1x1x1024 .f32)
    (w : FVec Ideal S2048x2048 .bf16) (b : FVec Ideal S1x2048 .f32) (w2 : FVec Ideal S2048x1024 .bf16) (lg lb : FVec Ideal S1x1024 .f32) : FVec Ideal S256x1024 .f32 :=
  k0_pay1 (F := Ideal) (k0_pay8 lg) (k0_pay9 lb) (tail (mix cl u sl s w) b sz x g w2)

/-- The first sequence's store is `half` of its tiles. -/
theorem first (cl sl : FVec Ideal S256x256 .bf16) (u s sz : FVec Ideal S256x2048 .bf16) (x : FVec Ideal S256x1024 .f32) (g : FVec Ideal S1x1x1024 .f32)
    (w : FVec Ideal S2048x2048 .bf16) (b : FVec Ideal S1x2048 .f32) (w2 : FVec Ideal S2048x1024 .bf16) (lg lb : FVec Ideal S1x1024 .f32) :
    k0_pay6 (F := Ideal) x (k0_pay2 g) (k0_pay3 cl u sl s w b sz w2) (k0_pay4 lg) (k0_pay5 lb) = half cl sl u s sz x g w b w2 lg lb := rfl

/-- So is the second's. -/
theorem second (cl sl : FVec Ideal S256x256 .bf16) (u s sz : FVec Ideal S256x2048 .bf16) (x : FVec Ideal S256x1024 .f32) (g : FVec Ideal S1x1x1024 .f32)
    (w : FVec Ideal S2048x2048 .bf16) (b : FVec Ideal S1x2048 .f32) (w2 : FVec Ideal S2048x1024 .bf16) (lg lb : FVec Ideal S1x1024 .f32) :
    k0_pay1 (F := Ideal) (k0_pay8 lg) (k0_pay9 lb) (k0_pay10 (k0_pay7 cl u sl s w) b sz x g w2) = half cl sl u s sz x g w b w2 lg lb := rfl

/-- The mixed channels at an element. -/
theorem mix_at (cl : FVec Ideal S256x256 .bf16) (u : FVec Ideal S256x2048 .bf16) (sl : FVec Ideal S256x256 .bf16) (s : FVec Ideal S256x2048 .bf16)
    (w : FVec Ideal S2048x2048 .bf16) (r : Fin 256) (c : Fin 2048) : mix cl u sl s w (ix2 r c)
    = ∑ k : Fin 2048, ((∑ j : Fin 256, cl (ix2 r j) * u (ix2 j k)) - ∑ j : Fin 256, sl (ix2 r j) * s (ix2 j k)) * w (ix2 k c) := by
  pointwise [mix, k0_pay7]

/-- The scaled rows at an element. -/
theorem tail_at (y : FVec Ideal S256x2048 .f32) (b : FVec Ideal S1x2048 .f32) (sz : FVec Ideal S256x2048 .bf16) (x : FVec Ideal S256x1024 .f32)
    (g : FVec Ideal S1x1x1024 .f32) (w2 : FVec Ideal S2048x1024 .bf16) (r : Fin 256) (d : Fin 1024) : tail y b sz x g w2 (ix2 r d)
    = RowMath.lnorm (RowMath.resid (fun c => (y (ix2 r c) + b (ix2 0 c)) * sz (ix2 r c)) (fun k c => w2 (ix2 k c)) (fun c => x (ix2 r c)) (fun c => g (ix3 0 0 c))) d := by
  unfold RowMath.lnorm RowMath.mean RowMath.resid RowMath.lin
  pointwise [tail, k0_pay10]

/-- A sequence's output at an element, of tiles given by their elements. -/
theorem half_at (cl sl : FVec Ideal S256x256 .bf16) (u s sz : FVec Ideal S256x2048 .bf16) (x : FVec Ideal S256x1024 .f32) (g : FVec Ideal S1x1x1024 .f32)
    (w : FVec Ideal S2048x2048 .bf16) (b : FVec Ideal S1x2048 .f32) (w2 : FVec Ideal S2048x1024 .bf16) (lg lb : FVec Ideal S1x1024 .f32) (r : Fin 256) (d : Fin 1024) :
    half cl sl u s sz x g w b w2 lg lb (ix2 r d)
    = RowMath.lnorm (RowMath.resid (RowMath.gated (fun k => cl (ix2 r k)) (fun k => sl (ix2 r k)) (fun k c => u (ix2 k c)) (fun k c => s (ix2 k c))
        (fun k c => w (ix2 k c)) (fun c => b (ix2 0 c)) (fun c => sz (ix2 r c))) (fun k c => w2 (ix2 k c)) (fun c => x (ix2 r c)) (fun c => g (ix3 0 0 c))) d
      * lg (ix2 0 d) + lb (ix2 0 d) := by
  have h : ∀ t : FVec Ideal S256x1024 .f32, k0_pay1 (F := Ideal) (k0_pay8 lg) (k0_pay9 lb) t (ix2 r d) = t (ix2 r d) * lg (ix2 0 d) + lb (ix2 0 d) := fun t => by
    pointwise [k0_pay1, k0_pay8, k0_pay9]
  unfold half
  rw [h, tail_at]
  simp only [mix_at]
  rfl

end Cert.OddHalf

end
-- ==== Proof.OddPoint.lean ====
module

public import proofs.«01_k».proof.Proof.OddRef
public import proofs.«01_k».proof.Proof.OddHalf
public import proofs.«01_k».proof.Proof.Gen.OddOutIdeal.Value
public import Idealize.ShloMosaic.Lib.Pipeline.ValueKit

@[expose] public section

set_option maxRecDepth 16384

noncomputable section

/-! # The output array of the odd layer's output projection -/

namespace Cert.OddOutIdeal.Whole

open Cert.OddOutIdeal Cert.OddOutIdeal.Gen Idealize.ShloMosaic Idealize.ShloMosaic.TcCoe Idealize.SL.Sem

variable (m : (ℓ : Loc nD τ sig) → Buf (Elt Ideal) ℓ)

/-- Block indices at point `t`. -/
theorem idx : ∀ t : Fin cfg0.N, win0_0.index t = ![0, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![26, 0, 0] ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- The reference's result of the kernel's arguments. -/
abbrev ref (c : Dev nD) : FVec Ideal S8192x1024 .f32 :=
  OddRef.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- The staged channel weights. -/
theorem V1 (c : Dev nD) (k : Fin 2048) (d : Fin 2048) : V m c main_v1 (ix2 k d) = m ((c.tc : Thread nD τ).loc main_arg7) (ix3 0 k d) := by
  entry_read; pointwise
/-- The staged bias. -/
theorem V9 (c : Dev nD) (d : Fin 2048) : V m c main_v9 (ix2 0 d) = m ((c.tc : Thread nD τ).loc main_arg8) (ix2 0 d) := by
  entry_read; pointwise
/-- The staged projection weights. -/
theorem V4 (c : Dev nD) (k : Fin 2048) (d : Fin 1024) : V m c main_v4 (ix2 k d) = m ((c.tc : Thread nD τ).loc main_arg9) (ix3 0 k d) := by
  entry_read; pointwise
/-- The staged gain. -/
theorem V10 (c : Dev nD) (d : Fin 1024) : V m c main_v10 (ix2 0 d) = m ((c.tc : Thread nD τ).loc main_arg10) (ix2 1 d) := by
  entry_read; pointwise
/-- The staged offset. -/
theorem V11 (c : Dev nD) (d : Fin 1024) : V m c main_v11 (ix2 0 d) = m ((c.tc : Thread nD τ).loc main_arg11) (ix2 1 d) := by
  entry_read; pointwise

/-- The cosines. -/
theorem blk0 (c : Dev nD) (t : Fin cfg0.N) (l k : Fin 256) : iblk m c 0 t (ix2 l k) = m ((c.tc : Thread nD τ).loc main_arg5) (ix2 l k) := by
  blk_point [iblk, V, idx t]
/-- The sines. -/
theorem blk1 (c : Dev nD) (t : Fin cfg0.N) (l k : Fin 256) : iblk m c 1 t (ix2 l k) = m ((c.tc : Thread nD τ).loc main_arg6) (ix2 l k) := by
  blk_point [iblk, V, idx t]
/-- The cosine transforms' block. -/
theorem blk2 (c : Dev nD) (t : Fin cfg0.N) (r : Fin 512) (d : Fin 2048) : iblk m c 2 t (ix2 r d)
    = m ((c.tc : Thread nD τ).loc main_arg0) (ix2 ⟨t * 512 + r, by have := t.isLt; have : cfg0.N = 16 := rfl; omega⟩ d) := by
  blk_point [iblk, V, idx t]
/-- The sine transforms' block. -/
theorem blk3 (c : Dev nD) (t : Fin cfg0.N) (r : Fin 512) (d : Fin 2048) : iblk m c 3 t (ix2 r d)
    = m ((c.tc : Thread nD τ).loc main_arg1) (ix2 ⟨t * 512 + r, by have := t.isLt; have : cfg0.N = 16 := rfl; omega⟩ d) := by
  blk_point [iblk, V, idx t]
/-- The gates' block. -/
theorem blk4 (c : Dev nD) (t : Fin cfg0.N) (r : Fin 512) (d : Fin 2048) : iblk m c 4 t (ix2 r d)
    = m ((c.tc : Thread nD τ).loc main_arg2) (ix2 ⟨t * 512 + r, by have := t.isLt; have : cfg0.N = 16 := rfl; omega⟩ d) := by
  blk_point [iblk, V, idx t]
/-- The residual's block. -/
theorem blk5 (c : Dev nD) (t : Fin cfg0.N) (r : Fin 512) (d : Fin 1024) : iblk m c 5 t (ix2 r d)
    = m ((c.tc : Thread nD τ).loc main_arg3) (ix2 ⟨t * 512 + r, by have := t.isLt; have : cfg0.N = 16 := rfl; omega⟩ d) := by
  blk_point [iblk, V, idx t]
/-- The modulation's gate. -/
theorem blk6 (c : Dev nD) (t : Fin cfg0.N) (d : Fin 1024) : iblk m c 6 t (ix3 0 0 d) = m ((c.tc : Thread nD τ).loc main_arg4) (ix3 26 0 d) := by
  blk_point [iblk, V, idx t]
/-- The channel weights' block. -/
theorem blk7 (c : Dev nD) (t : Fin cfg0.N) (k d : Fin 2048) : iblk m c 7 t (ix2 k d) = V m c main_v1 (ix2 k d) := by
  blk_point [iblk, idx t]
/-- The bias's block. -/
theorem blk8 (c : Dev nD) (t : Fin cfg0.N) (d : Fin 2048) : iblk m c 8 t (ix2 0 d) = V m c main_v9 (ix2 0 d) := by
  blk_point [iblk, idx t]
/-- The projection weights' block. -/
theorem blk9 (c : Dev nD) (t : Fin cfg0.N) (k : Fin 2048) (d : Fin 1024) : iblk m c 9 t (ix2 k d) = V m c main_v4 (ix2 k d) := by
  blk_point [iblk, idx t]
/-- The gain's block. -/
theorem blk10 (c : Dev nD) (t : Fin cfg0.N) (d : Fin 1024) : iblk m c 10 t (ix2 0 d) = V m c main_v10 (ix2 0 d) := by
  blk_point [iblk, idx t]
/-- The offset's block. -/
theorem blk11 (c : Dev nD) (t : Fin cfg0.N) (d : Fin 1024) : iblk m c 11 t (ix2 0 d) = V m c main_v11 (ix2 0 d) := by
  blk_point [iblk, idx t]

/-- A sequence's tiles being its rows in the point's blocks, its output is the reference's there. -/
theorem core (c : Dev nD) (t : Fin cfg0.N) (ht : t.val < 16) (q : Fin 2)
    (cl sl : Vec Ideal S256x256 .bf16) (u s sz : Vec Ideal S256x2048 .bf16) (x : Vec Ideal S256x1024 .f32) (g : Vec Ideal S1x1x1024 .f32)
    (w : Vec Ideal S2048x2048 .bf16) (b : Vec Ideal S1x2048 .f32) (w2 : Vec Ideal S2048x1024 .bf16) (lg lb : Vec Ideal S1x1024 .f32)
    (hcl : ∀ l k : Fin 256, cl (ix2 l k) = iblk m c 0 t (ix2 l k)) (hsl : ∀ l k : Fin 256, sl (ix2 l k) = iblk m c 1 t (ix2 l k))
    (hu : ∀ (l : Fin 256) (k : Fin 2048), u (ix2 l k) = iblk m c 2 t (ix2 ⟨q * 256 + l, by omega⟩ k))
    (hs : ∀ (l : Fin 256) (k : Fin 2048), s (ix2 l k) = iblk m c 3 t (ix2 ⟨q * 256 + l, by omega⟩ k))
    (hz : ∀ (l : Fin 256) (k : Fin 2048), sz (ix2 l k) = iblk m c 4 t (ix2 ⟨q * 256 + l, by omega⟩ k))
    (hx : ∀ (l : Fin 256) (k : Fin 1024), x (ix2 l k) = iblk m c 5 t (ix2 ⟨q * 256 + l, by omega⟩ k))
    (hg : ∀ k : Fin 1024, g (ix3 0 0 k) = iblk m c 6 t (ix3 0 0 k))
    (hw : ∀ k d : Fin 2048, w (ix2 k d) = iblk m c 7 t (ix2 k d)) (hb : ∀ d : Fin 2048, b (ix2 0 d) = iblk m c 8 t (ix2 0 d))
    (hw2 : ∀ (k : Fin 2048) (d : Fin 1024), w2 (ix2 k d) = iblk m c 9 t (ix2 k d))
    (hlg : ∀ d : Fin 1024, lg (ix2 0 d) = iblk m c 10 t (ix2 0 d)) (hlb : ∀ d : Fin 1024, lb (ix2 0 d) = iblk m c 11 t (ix2 0 d))
    (r : Fin 256) (d : Fin 1024) :
    OddHalf.half cl sl u s sz x g w b w2 lg lb (ix2 r d) = ref m c (ix2 ⟨t * 512 + (q * 256 + r), by omega⟩ d) := by
  have hrow : ∀ l : Fin 256, (⟨t * 512 + (q * 256 + l), by omega⟩ : Fin 8192) = ⟨(⟨t * 2 + q, by omega⟩ : Fin 32) * 256 + l, by omega⟩ := fun l =>
    Fin.ext (show t.val * 512 + (q.val * 256 + l.val) = (t.val * 2 + q.val) * 256 + l.val by omega)
  refine (OddHalf.half_at _ _ _ _ _ _ _ _ _ _ _ _ r d).trans ?_
  rw [hrow r]
  refine Eq.trans ?_ (OddRef.out_at _ _ _ _ _ _ _ _ _ _ _ _ ⟨t * 2 + q, by omega⟩ r d).symm
  have e7 := fun k d => (blk7 m c t k d).trans (V1 m c k d)
  have e8 := fun d => (blk8 m c t d).trans (V9 m c d)
  have e9 := fun k d => (blk9 m c t k d).trans (V4 m c k d)
  have e10 := fun d => (blk10 m c t d).trans (V10 m c d)
  have e11 := fun d => (blk11 m c t d).trans (V11 m c d)
  simp only [hcl, hsl, hu, hs, hz, hx, hg, hw, hb, hw2, hlg, hlb, blk0, blk1, blk2, blk3, blk4, blk5, blk6, e7, e8, e9, e10, e11, hrow]

set_option maxHeartbeats 2000000 in
/-- What point `t` leaves in the output's buffer is the reference's block there. -/
theorem point (c : Dev nD) (t : Fin cfg0.N) (y : S512x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = ref m c (((cfg0.win 12).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 12).blk t).view.emb y = ix2 (⟨t * 512 + (q * 256 + x0), by omega⟩ : Fin 8192) x1 := by
    intro q x0 x1 e0 e1
    blk_ext [idx t]
  have fin := fun q => core m c t ht q
  unfold out0_12
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  generalize iblk m c 5 t = b5 at fin ⊢
  generalize iblk m c 6 t = b6 at fin ⊢
  generalize iblk m c 7 t = b7 at fin ⊢
  generalize iblk m c 8 t = b8 at fin ⊢
  generalize iblk m c 9 t = b9 at fin ⊢
  generalize iblk m c 10 t = b10 at fin ⊢
  generalize iblk m c 11 t = b11 at fin ⊢
  canon_tiles x h
  · idx_vars x
    refine (congrFun (OddHalf.second _ _ _ _ _ _ _ _ _ _ _ _) (ix2 x0 x1)).trans ((fin 1 _ _ _ _ _ _ _ _ _ _ _ _
      ?_ ?_ ?_ ?_ ?_ ?_ ?_ ?_ ?_ ?_ ?_ ?_ x0 x1).trans (congrArg (ref m c) (go 1 x0 x1 h0 h1)).symm) <;> intros <;> exact congrArg _ (by blk_ext [] : Rect.emb _ _ = _)
  · idx_vars x
    refine (congrFun (OddHalf.first _ _ _ _ _ _ _ _ _ _ _ _) (ix2 x0 x1)).trans ((fin 0 _ _ _ _ _ _ _ _ _ _ _ _
      ?_ ?_ ?_ ?_ ?_ ?_ ?_ ?_ ?_ ?_ ?_ ?_ x0 x1).trans (congrArg (ref m c) (go 0 x0 x1 (h0.trans (Nat.zero_add _).symm) h1)).symm) <;> intros <;> exact congrArg _ (by blk_ext [] : Rect.emb _ _ = _)

/-- The kernel's output array is the reference's result. -/
theorem final (c : Dev nD) : (dats m 0 c).arrAt 12 cfg0.N = ref m c := by
  refine (dats m 0 c).arrAt_eq_of_covers 12 _ (by decide +kernel) fun t _ y => ?_
  blk_simp
  rw [after0_12]
  exact point m c t y

end Cert.OddOutIdeal.Whole

end
-- ==== Proof.Odd.lean ====
module

public import proofs.«01_k».proof.Defs
public import proofs.«01_k».proof.Proof.Gen.OddOut.Frame
public import proofs.«01_k».proof.Proof.Gen.OddOutRefIdeal
public import proofs.«01_k».proof.Proof.OddPoint
public import Idealize.ShloMosaic.Lib.Claim

@[expose] public section

set_option maxRecDepth 16384

noncomputable section

/-! # The claims about the odd layer's output projection -/

namespace Cert.Odd

open Idealize.ShloMosaic Idealize.SL.Sem

/-- The kernel runs, ends quiescent and leaves its arguments. -/
theorem frame_kernel : quiescent_OddOut (hOddOut := Cert.OddOut.Gen.facts) := fun m ρ _ => Cert.OddOut.Gen.frame m ρ

/-- So does its idealization. -/
theorem frame_ideal : quiescent_OddOutIdeal (hOddOutIdeal := Cert.OddOutIdeal.Gen.facts) := fun m ρ _ => Cert.OddOutIdeal.Gen.frame m ρ

/-- The reference runs, ends quiescent and leaves its arguments. -/
theorem frame_ref : quiescent_OddOutRefIdeal (hOddOutRefIdeal := Cert.OddOutRefIdeal.Gen.facts) := fun m g _ =>
  (θ_run Cert.OddOutRefIdeal.defs _ _).mono (fun r h => ⟨fun c => (h c).2, sem_eq_zero_of_no_sems (by decide) r.2⟩)
    (Cert.OddOutRefIdeal.Value.run m g)

/-- No operation was replaced. -/
theorem preserves : preserves_OddOut_OddOutIdeal := trivial

/-- The kernel and the reference end with the same array. -/
theorem algebraic : algebraic_OddOutIdeal_OddOutRefIdeal (hOddOutIdeal := Cert.OddOutIdeal.Gen.facts)
    (hOddOutRefIdeal := Cert.OddOutRefIdeal.Gen.facts) := by
  pair_intro
  · run_from Cert.OddOutIdeal.Value.run_blocks m g
  · run_from Cert.OddOutRefIdeal.Value.run m' g'
    obtain ⟨a0, a1, a2, a3, a4, a5, a6, a7, a8, a9, a10, a11⟩ := hagree c
    refine (Cert.OddRef.result_eq m' c).trans (Eq.trans ?_ (Cert.OddOutIdeal.Whole.final m c).symm)
    rw [a0, a1, a2, a3, a4, a5, a6, a7, a8, a9, a10, a11]

end Cert.Odd

end
-- ==== Proof.OutMath.lean ====
module

public import proofs.«01_k».proof.Proof.RowMath

@[expose] public section

noncomputable section

/-! # Rows of the even layer's output, over the extended reals -/

namespace Cert.RowMath

open Idealize.ShloMosaic

/-- The activation, in its form by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A row activated, gated by its own projection and by a given gate. -/
def glu (z : Fin 1024 → EReal) (w : Fin 1024 → Fin 1024 → EReal) (b s : Fin 1024 → EReal) (c : Fin 1024) : EReal :=
  gelu (z c) * Ideal.logistic (lin (fun k => gelu (z k)) w c + b c) * s c

/-- Two rows side by side contracted with a matrix's column. -/
def pair (y v : Fin 1024 → EReal) (w : Fin 2048 → Fin 1024 → EReal) (d : Fin 1024) : EReal :=
  lin y (fun k => w ⟨k, by omega⟩) d + lin v (fun k => w ⟨1024 + k, by omega⟩) d

/-- The projected rows added to the scaled residual, centred and scaled, with gain and offset. -/
def next (y v : Fin 1024 → EReal) (w : Fin 2048 → Fin 1024 → EReal) (x g a b : Fin 1024 → EReal) (d : Fin 1024) : EReal :=
  lnorm (fun d => Ideal.ofBits .f32 0x3FB504F3#32 * x d + g d * pair y v w d) d * a d + b d

/-- A contraction over 2048 is one over each half. -/
theorem sum_halves (f : Fin 2048 → EReal) : ∑ k, f k = (∑ k : Fin 1024, f ⟨k, by omega⟩) + ∑ k : Fin 1024, f ⟨1024 + k, by omega⟩ :=
  Fin.sum_univ_add (a := 1024) (b := 1024) f

end Cert.RowMath

end
-- ==== Proof.OutRef.lean ====
module

public import proofs.«01_k».proof.Proof.OutMath
public import proofs.«01_k».proof.Proof.Gen.EvenOutRefIdeal.Run
public import Idealize.ShloMosaic.Lib.Pointwise

@[expose] public section

set_option maxRecDepth 16384

noncomputable section

/-! # The even layer's output projection and the odd layer's input projection in the reference, stage by stage -/

namespace Cert.OutRef

open Cert.EvenOutRefIdeal Cert.EvenOutRefIdeal.Gen Idealize.ShloMosaic Idealize.ShloMosaic.TcCoe Idealize.SL.Sem Idealize.ShloMosaic.StableHlo

/-- The channels, positions of each sequence transposed in the sixteen by sixteen grid. -/
def turned (a0 : FVec Ideal S8192x1024 .bf16) : FVec Ideal S8192x1024 .f32 :=
  shapeCast _ (transpose S32x16x16x1024 [0, 2, 1, 3] (shapeCast _ (extf .f32 a0 bitsLt_bf16_f32) shapeCasts_S8192x1024_S32x16x16x1024) transposes_S32x16x16x1024_S32x16x16x1024_0_2_1_3) shapeCasts_S32x16x16x1024_S8192x1024

/-- The activation. -/
def gelu (y : FVec Ideal S8192x1024 .f32) : FVec Ideal S8192x1024 .f32 :=
  mulf y (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf y (mulf (broadcastInDim S8192x1024 ![] bcast_S_S8192x1024 (constant S_ .f32 0x3D372713#32)) (mulf (mulf y y) y)))))))

/-- The projection that gates the activation, before its logistic function. -/
def pre (g : FVec Ideal S8192x1024 .f32) (a5 : FVec Ideal S1x1024x1024 .f32) (a6 : FVec Ideal S1x1024 .f32) : FVec Ideal S8192x1024 .f32 :=
  (addf (Host.dotGeneral dot_S8192x1024_S1024x1024_S8192x1024_1_0_0_1_n_n none g (shapeCast _ a5 shapeCasts_S1x1024x1024_S1024x1024)) (broadcastInDim S8192x1024 ![0, 1] bcast_S1x1024_S8192x1024_0_1 (broadcastInDim S1x1024 ![1] bcast_S1024_S1x1024_1 (shapeCast _ a6 shapeCasts_S1x1024_S1024))))

/-- The activation gated twice. -/
def gated (g h : FVec Ideal S8192x1024 .f32) (a1 : FVec Ideal S8192x1024 .bf16) : FVec Ideal S8192x1024 .f32 :=
  (mulf (mulf g (Host.divf (broadcastInDim S8192x1024 ![] bcast_S_S8192x1024 (constant S_ .f32 0x3F800000#32)) (addf (broadcastInDim S8192x1024 ![] bcast_S_S8192x1024 (constant S_ .f32 0x3F800000#32)) (Host.exp (Host.negf h))))) (extf .f32 a1 bitsLt_bf16_f32))

/-- Two halves of the channels side by side. -/
def cat (y : FVec Ideal S8192x1024 .f32) (a2 : FVec Ideal S8192x1024 .bf16) : FVec Ideal S8192x2048 .f32 :=
  (concatenate S8192x2048 1 [⟨S8192x1024, y⟩, ⟨S8192x1024, (extf .f32 a2 bitsLt_bf16_f32)⟩] concatenates_S8192x1024_S8192x1024_S8192x2048_d1)

/-- The projection added to the scaled residual. -/
def resid (y : FVec Ideal S8192x2048 .f32) (a3 : FVec Ideal S8192x1024 .f32) (a4 : FVec Ideal S48x1x1024 .f32) (a7 : FVec Ideal S1x2048x1024 .f32) : FVec Ideal S8192x1024 .f32 :=
  addf (mulf (broadcastInDim S8192x1024 ![] bcast_S_S8192x1024 (constant S_ .f32 0x3FB504F3#32)) a3) (mulf (broadcastInDim S8192x1024 ![0, 1] bcast_S1x1024_S8192x1024_0_1 (shapeCast _ (extractStridedSlice S1x1x1024 ![2, 0, 0] a4 slices_S48x1x1024_S1x1x1024_2_0_0) shapeCasts_S1x1x1024_S1x1024)) (Host.dotGeneral dot_S8192x2048_S2048x1024_S8192x1024_1_0_0_1_n_n none y (shapeCast _ a7 shapeCasts_S1x2048x1024_S2048x1024)))

/-- Rows centred and divided by the root of their variance. -/
def norm (z : FVec Ideal S8192x1024 .f32) : FVec Ideal S8192x1024 .f32 :=
  (mulf (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))))) (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))))))

/-- Gain and offset. -/
def affine (n : FVec Ideal S8192x1024 .f32) (a8 a9 : FVec Ideal S2x1024 .f32) : FVec Ideal S8192x1024 .f32 :=
  addf (mulf n (broadcastInDim S8192x1024 ![0, 1] bcast_S1x1024_S8192x1024_0_1 (broadcastInDim S1x1024 ![1] bcast_S1024_S1x1024_1 (shapeCast _ (extractStridedSlice S1x1024 ![0, 0] a8 slices_S2x1024_S1x1024_0_0) shapeCasts_S1x1024_S1024)))) (broadcastInDim S8192x1024 ![0, 1] bcast_S1x1024_S8192x1024_0_1 (broadcastInDim S1x1024 ![1] bcast_S1024_S1x1024_1 (shapeCast _ (extractStridedSlice S1x1024 ![0, 0] a9 slices_S2x1024_S1x1024_0_0) shapeCasts_S1x1024_S1024)))

/-- The next layer's modulation. -/
def modulate (n : FVec Ideal S8192x1024 .f32) (a4 : FVec Ideal S48x1x1024 .f32) : FVec Ideal S8192x1024 .f32 :=
  (addf (mulf n (broadcastInDim S8192x1024 ![0, 1] bcast_S1x1024_S8192x1024_0_1 (addf (broadcastInDim S1x1024 ![] bcast_S_S1x1024 (constant S_ .f32 0x3F800000#32)) (shapeCast _ (extractStridedSlice S1x1x1024 ![25, 0, 0] a4 slices_S48x1x1024_S1x1x1024_25_0_0) shapeCasts_S1x1x1024_S1x1024)))) (broadcastInDim S8192x1024 ![0, 1] bcast_S1x1024_S8192x1024_0_1 (shapeCast _ (extractStridedSlice S1x1x1024 ![24, 0, 0] a4 slices_S48x1x1024_S1x1x1024_24_0_0) shapeCasts_S1x1x1024_S1x1024)))

/-- The rows projected. -/
def lin (h : FVec Ideal S8192x1024 .f32) (a10 : FVec Ideal S1x1024x4096 .f32) : FVec Ideal S8192x4096 .f32 :=
  Host.dotGeneral dot_S8192x1024_S1024x4096_S8192x4096_1_0_0_1_n_n none h (shapeCast _ a10 shapeCasts_S1x1024x4096_S1024x4096)

/-- The first half of the projected columns, in eight groups. -/
def groups (p : FVec Ideal S8192x4096 .f32) : FVec Ideal S8192x8x256 .f32 :=
  shapeCast _ (extractStridedSlice S8192x2048 ![0, 0] p slices_S8192x4096_S8192x2048_0_0) shapeCasts_S8192x2048_S8192x8x256

/-- Each group transformed by a matrix. -/
def transform (u : FVec Ideal S8192x8x256 .f32) (a : FVec Ideal S256x256 .bf16) : FVec Ideal S8192x2048 .bf16 :=
  truncf .bf16 (shapeCast _ (Host.dotGeneral dot_S8192x8x256_S256x256_S8192x8x256_2_0_01_1_n_n none u (extf .f32 a bitsLt_bf16_f32)) shapeCasts_S8192x8x256_S8192x2048) bitsLt_bf16_f32

/-- The second half of the projected columns. -/
def upper (p : FVec Ideal S8192x4096 .f32) : FVec Ideal S8192x2048 .f32 :=
  extractStridedSlice S8192x2048 ![0, 2048] p slices_S8192x4096_S8192x2048_0_2048

/-- A value times its logistic function. -/
def silu (z : FVec Ideal S8192x2048 .f32) : FVec Ideal S8192x2048 .bf16 :=
  truncf .bf16 (mulf z (Host.divf (broadcastInDim S8192x2048 ![] bcast_S_S8192x2048 (constant S_ .f32 0x3F800000#32)) (addf (broadcastInDim S8192x2048 ![] bcast_S_S8192x2048 (constant S_ .f32 0x3F800000#32)) (Host.exp (Host.negf z))))) bitsLt_bf16_f32

/-- The even layer's output of given inputs. -/
def x1 (a0 a1 a2 : FVec Ideal S8192x1024 .bf16) (a3 : FVec Ideal S8192x1024 .f32) (a4 : FVec Ideal S48x1x1024 .f32) (a5 : FVec Ideal S1x1024x1024 .f32)
    (a6 : FVec Ideal S1x1024 .f32) (a7 : FVec Ideal S1x2048x1024 .f32) (a8 a9 : FVec Ideal S2x1024 .f32) : FVec Ideal S8192x1024 .f32 :=
  affine (norm (resid (cat (gated (gelu (turned a0)) (pre (gelu (turned a0)) a5 a6) a1) a2) a3 a4 a7)) a8 a9

/-- The odd layer's projected columns of the even layer's output. -/
def proj (x : FVec Ideal S8192x1024 .f32) (a4 : FVec Ideal S48x1x1024 .f32) (a10 : FVec Ideal S1x1024x4096 .f32) : FVec Ideal S8192x4096 .f32 :=
  lin (modulate (norm x) a4) a10

/-- The first result is its stages composed. -/
theorem x1_eq (m : (ℓ : Loc nD τ sig) → Buf (Elt Ideal) ℓ) (c : Dev nD) : Value.res_out0 (F := Ideal) (launchContents m c)
    = x1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold Value.res_out0 Value.res_main_v70 Value.res_main_v50 Value.res_main_v46 Value.res_main_v42 Value.res_main_v16 Value.res_main_v3
    x1 affine norm resid cat gated pre gelu turned
  rfl

/-- The projected columns are their stages composed. -/
theorem proj_eq (m : (ℓ : Loc nD τ sig) → Buf (Elt Ideal) ℓ) (c : Dev nD) : Value.res_main_v100 (F := Ideal) (launchContents m c)
    = proj (Value.res_out0 (F := Ideal) (launchContents m c)) (m ((c.tc : Thread nD τ).loc main_arg4)) (m ((c.tc : Thread nD τ).loc main_arg10)) := by
  unfold Value.res_main_v100 Value.res_main_v82 Value.res_main_v78 proj lin modulate norm
  rfl

/-! ## The stages at an element -/

/-- The channels at an element: those of the transposed position. -/
theorem turned_at (a0 : FVec Ideal S8192x1024 .bf16) (b : Fin 32) (r : Fin 256) (d : Fin 1024) : turned a0 (ix2 ⟨b * 256 + r, by omega⟩ d)
    = a0 (ix2 ⟨b * 256 + (r.val % 16 * 16 + r.val / 16), by omega⟩ d) := by
  have e1 : (b.val * 256 + r.val) / 256 = b.val := by omega
  have e2 : (b.val * 256 + r.val) % 256 = r.val := by omega
  pointwise [turned]
  refine congrArg a0 ?_
  congr 2
  omega

/-- The activation at an element. -/
theorem gelu_at (y : FVec Ideal S8192x1024 .f32) (i : S8192x1024.Idx) : gelu y i = RowMath.gelu (y i) := by
  have h : gelu y i = y i * (Ideal.ofBits .f32 0x3F000000#32 * (Ideal.ofBits .f32 0x3F800000#32
      + Ideal.tanh (Ideal.ofBits .f32 0x3F4C422A#32 * (y i + Ideal.ofBits .f32 0x3D372713#32 * (y i * y i * y i))))) := by
    pointwise [gelu]
  rw [h, mul_comm (G := EReal) (y i * y i) (y i)]
  rfl

/-- The gating projection at an element. -/
theorem pre_at (g : FVec Ideal S8192x1024 .f32) (a5 : FVec Ideal S1x1024x1024 .f32) (a6 : FVec Ideal S1x1024 .f32) (r : Fin 8192) (d : Fin 1024) :
    pre g a5 a6 (ix2 r d) = (∑ k : Fin 1024, g (ix2 r k) * a5 (ix3 0 k d)) + a6 (ix2 0 d) := by
  pointwise [pre]

/-- The gated activation at an element. -/
theorem gated_at (g h : FVec Ideal S8192x1024 .f32) (a1 : FVec Ideal S8192x1024 .bf16) (i : S8192x1024.Idx) :
    gated g h a1 i = g i * Ideal.logistic (h i) * a1 i := by
  unfold Ideal.logistic
  pointwise [gated]

/-- The first half of the channels. -/
theorem cat_lo (y : FVec Ideal S8192x1024 .f32) (a2 : FVec Ideal S8192x1024 .bf16) (r : Fin 8192) (k : Fin 1024) :
    cat y a2 (ix2 r ⟨k, by omega⟩) = y (ix2 r k) := by
  pointwise [cat]

/-- The second. -/
theorem cat_hi (y : FVec Ideal S8192x1024 .f32) (a2 : FVec Ideal S8192x1024 .bf16) (r : Fin 8192) (k : Fin 1024) :
    cat y a2 (ix2 r ⟨1024 + k, by omega⟩) = a2 (ix2 r k) := by
  pointwise [cat]

/-- An element of the residual sum. -/
theorem resid_at (y : FVec Ideal S8192x2048 .f32) (a3 : FVec Ideal S8192x1024 .f32) (a4 : FVec Ideal S48x1x1024 .f32) (a7 : FVec Ideal S1x2048x1024 .f32) (r : Fin 8192) (d : Fin 1024) :
    resid y a3 a4 a7 (ix2 r d) = Ideal.ofBits .f32 0x3FB504F3#32 * a3 (ix2 r d) + a4 (ix3 2 0 d) * ∑ k : Fin 2048, y (ix2 r k) * a7 (ix3 0 k d) := by
  pointwise [resid]

/-- An element of a centred and scaled row. -/
theorem norm_at (z : FVec Ideal S8192x1024 .f32) (r : Fin 8192) (d : Fin 1024) : norm z (ix2 r d) = RowMath.lnorm (fun k => z (ix2 r k)) d := by
  unfold RowMath.lnorm RowMath.mean
  pointwise [norm]

/-- Gain and offset at an element. -/
theorem affine_at (n : FVec Ideal S8192x1024 .f32) (a8 a9 : FVec Ideal S2x1024 .f32) (r : Fin 8192) (d : Fin 1024) :
    affine n a8 a9 (ix2 r d) = n (ix2 r d) * a8 (ix2 0 d) + a9 (ix2 0 d) := by
  pointwise [affine]

/-- A modulated element. -/
theorem modulate_at (n : FVec Ideal S8192x1024 .f32) (a4 : FVec Ideal S48x1x1024 .f32) (r : Fin 8192) (d : Fin 1024) :
    modulate n a4 (ix2 r d) = n (ix2 r d) * (Ideal.ofBits .f32 0x3F800000#32 + a4 (ix3 25 0 d)) + a4 (ix3 24 0 d) := by
  pointwise [modulate]

/-- A projected element. -/
theorem lin_at (h : FVec Ideal S8192x1024 .f32) (a10 : FVec Ideal S1x1024x4096 .f32) (r : Fin 8192) (d : Fin 4096) :
    lin h a10 (ix2 r d) = ∑ k : Fin 1024, h (ix2 r k) * a10 (ix3 0 k d) := by
  pointwise [lin]

/-- A group's column. -/
theorem groups_at (p : FVec Ideal S8192x4096 .f32) (r : Fin 8192) (g : Fin 8) (k : Fin 256) :
    groups p (ix3 r g k) = p (ix2 r ⟨g * 256 + k, by omega⟩) := by
  pointwise [groups]

/-- A transformed column. -/
theorem transform_at (u : FVec Ideal S8192x8x256 .f32) (a : FVec Ideal S256x256 .bf16) (r : Fin 8192) (g : Fin 8) (d : Fin 256) :
    transform u a (ix2 r ⟨g * 256 + d, by omega⟩) = ∑ k : Fin 256, u (ix3 r g k) * a (ix2 k d) := by
  have e1 : (g.val * 256 + d.val) / 256 = g.val := by omega
  have e2 : (g.val * 256 + d.val) % 256 = d.val := by omega
  pointwise [transform]

/-- A value times its logistic function, at an element. -/
theorem silu_at (z : FVec Ideal S8192x2048 .f32) (i : S8192x2048.Idx) : silu z i = RowMath.silu (z i) := by
  unfold RowMath.silu Ideal.logistic
  pointwise [silu]

/-- A column of the second half. -/
theorem upper_at (p : FVec Ideal S8192x4096 .f32) (r : Fin 8192) (d : Fin 2048) : upper p (ix2 r d) = p (ix2 r ⟨2048 + d, by omega⟩) := by
  pointwise [upper]

/-! ## The results at an element -/

/-- The even layer's output at a sequence's row, as the rows' formulas. -/
theorem x1_at (a0 a1 a2 : FVec Ideal S8192x1024 .bf16) (a3 : FVec Ideal S8192x1024 .f32) (a4 : FVec Ideal S48x1x1024 .f32) (a5 : FVec Ideal S1x1024x1024 .f32)
    (a6 : FVec Ideal S1x1024 .f32) (a7 : FVec Ideal S1x2048x1024 .f32) (a8 a9 : FVec Ideal S2x1024 .f32) (b : Fin 32) (r : Fin 256) (d : Fin 1024) :
    x1 a0 a1 a2 a3 a4 a5 a6 a7 a8 a9 (ix2 ⟨b * 256 + r, by omega⟩ d)
    = RowMath.next (RowMath.glu (fun k => a0 (ix2 ⟨b * 256 + (r.val % 16 * 16 + r.val / 16), by omega⟩ k)) (fun k d => a5 (ix3 0 k d)) (fun d => a6 (ix2 0 d))
        (fun d => a1 (ix2 ⟨b * 256 + r, by omega⟩ d))) (fun d => a2 (ix2 ⟨b * 256 + r, by omega⟩ d)) (fun k d => a7 (ix3 0 k d))
        (fun d => a3 (ix2 ⟨b * 256 + r, by omega⟩ d)) (fun d => a4 (ix3 2 0 d)) (fun d => a8 (ix2 0 d)) (fun d => a9 (ix2 0 d)) d := by
  unfold x1
  rw [affine_at, norm_at]
  simp only [resid_at, RowMath.sum_halves, cat_lo, cat_hi, gated_at, pre_at, gelu_at, turned_at]
  rfl

/-- The projected columns at an element. -/
theorem proj_at (x : FVec Ideal S8192x1024 .f32) (a4 : FVec Ideal S48x1x1024 .f32) (a10 : FVec Ideal S1x1024x4096 .f32) (r : Fin 8192) (d : Fin 4096) :
    proj x a4 a10 (ix2 r d)
    = RowMath.lin (RowMath.modulated (fun k => x (ix2 r k)) (fun k => a4 (ix3 25 0 k)) (fun k => a4 (ix3 24 0 k))) (fun k d => a10 (ix3 0 k d)) d := by
  unfold proj
  rw [lin_at]
  simp only [modulate_at, norm_at]
  rfl

end Cert.OutRef

end
-- ==== Proof.OutHalf.lean ====
module

public import proofs.«01_k».proof.Proof.OutMath
public import proofs.«01_k».proof.Proof.Gen.EvenOutIdeal.Frame
public import Idealize.ShloMosaic.Lib.Pointwise

@[expose] public section

set_option maxRecDepth 16384

noncomputable section

/-! # One half tile of the even layer's output projection and the odd layer's input projection in the kernel -/

namespace Cert.OutHalf

open Cert.EvenOutIdeal Cert.EvenOutIdeal.Gen Idealize.ShloMosaic Idealize.ShloMosaic.TcCoe Idealize.SL.Sem

/-- The channels' rows gathered by a matrix. -/
def gather (p : FVec Ideal S256x256 .bf16) (ys : FVec Ideal S256x1024 .bf16) : FVec Ideal S256x1024 .f32 := k0_pay6 (F := Ideal) p ys

/-- Gathered rows activated and gated twice. -/
def act (g : FVec Ideal S256x1024 .f32) (w : FVec Ideal S1024x1024 .bf16) (b : FVec Ideal S1x1024 .f32) (s : FVec Ideal S256x1024 .bf16) : FVec Ideal S256x1024 .bf16 :=
  k0_pay8 (F := Ideal) g (mulf g (mulf g g)) (Scalar.ofBits .f32 0x3D372713#32) w b s

/-- Two halves of the channels projected and added. -/
def out (y : FVec Ideal S256x1024 .bf16) (w : FVec Ideal S1024x1024 .bf16) (v : FVec Ideal S256x1024 .bf16) (w' : FVec Ideal S1024x1024 .bf16) : FVec Ideal S256x1024 .f32 :=
  k0_pay12 (F := Ideal) y w v w'

/-- The projection added to the scaled residual, centred and scaled, with gain and offset. -/
def next (o x : FVec Ideal S256x1024 .f32) (g : FVec Ideal S1x1x1024 .f32) (a b : FVec Ideal S1x1024 .f32) : FVec Ideal S256x1024 .f32 :=
  k0_pay13 (F := Ideal) o x g a b

/-- Rows centred and scaled, then modulated. -/
def rows (x : FVec Ideal S256x1024 .f32) (sc sh : FVec Ideal S1x1x1024 .f32) : FVec Ideal S256x1024 .bf16 := k0_pay37 (F := Ideal) (k0_pay36 x) sc sh

/-- The rows projected. -/
def lin (h : FVec Ideal S256x1024 .bf16) (w : FVec Ideal S1024x2048 .bf16) : FVec Ideal S256x2048 .f32 :=
  matmul dot_S256x1024_S1024x2048_S256x2048_1_0_0_1_n_n none h (shapeCast S1024x2048 w shapeCasts_S1024x2048_S1024x2048) (constant S256x2048 .f32 0x00000000#32)

/-- The first half of the projected columns. -/
def lower (x : FVec Ideal S256x1024 .f32) (sc sh : FVec Ideal S1x1x1024 .f32) (w : FVec Ideal S1024x2048 .bf16) : FVec Ideal S256x2048 .bf16 := k0_pay38 (F := Ideal) (k0_pay36 x) sc sh w

/-- The second, times its logistic function. -/
def gate (x : FVec Ideal S256x1024 .f32) (sc sh : FVec Ideal S1x1x1024 .f32) (w : FVec Ideal S1024x2048 .bf16) : FVec Ideal S256x2048 .bf16 := k0_pay39 (F := Ideal) (k0_pay36 x) sc sh w

/-- The first sequence's gated rows. -/
theorem act_first (p : FVec Ideal S256x256 .bf16) (ys : FVec Ideal S256x1024 .bf16) (w : FVec Ideal S1024x1024 .bf16) (b : FVec Ideal S1x1024 .f32) (s : FVec Ideal S256x1024 .bf16) :
    k0_pay5 (F := Ideal) p ys w b s = act (gather p ys) w b s := rfl

/-- The second sequence's gated rows. -/
theorem act_second (p : FVec Ideal S256x256 .bf16) (ys : FVec Ideal S256x1024 .bf16) (w : FVec Ideal S1024x1024 .bf16) (b : FVec Ideal S1x1024 .f32) (s : FVec Ideal S256x1024 .bf16) :
    k0_pay8 (F := Ideal) (k0_pay6 p ys) (k0_pay7 p ys) (Scalar.ofBits .f32 0x3D372713#32) w b s = act (gather p ys) w b s := rfl

/-- The first sequence's projection. -/
theorem out_first (y : FVec Ideal S256x1024 .bf16) (w : FVec Ideal S1024x1024 .bf16) (v : FVec Ideal S256x1024 .bf16) (w' : FVec Ideal S1024x1024 .bf16) :
    k0_pay9 (F := Ideal) y w v w' = out y w v w' := rfl

/-- The first sequence's store to output 0. -/
theorem next_first (o x : FVec Ideal S256x1024 .f32) (g : FVec Ideal S1x1x1024 .f32) (a b : FVec Ideal S1x1024 .f32) :
    k0_pay11 (F := Ideal) o x (k0_pay10 g) a b = next o x g a b := rfl

/-- The first sequence's projected columns, first half. -/
theorem lower_first (x : FVec Ideal S256x1024 .f32) (sc sh : FVec Ideal S1x1x1024 .f32) (w : FVec Ideal S1024x2048 .bf16) :
    k0_pay17 (F := Ideal) (k0_pay14 x) (k0_pay15 x) sc sh w = lower x sc sh w := rfl

/-- The first sequence's store to output 3. -/
theorem gate_first (x : FVec Ideal S256x1024 .f32) (sc sh : FVec Ideal S1x1x1024 .f32) (w : FVec Ideal S1024x2048 .bf16) :
    k0_pay18 (F := Ideal) (k0_pay14 x) (k0_pay15 x) sc sh w = gate x sc sh w := rfl

/-- A gathering matrix with one one in each row picks that row. -/
theorem gather_at (p : FVec Ideal S256x256 .bf16) (t : FVec Ideal S256x1024 .bf16) (r s : Fin 256)
    (hp : ∀ j : Fin 256, p (ix2 r j) = if j.val = s.val then (1 : EReal) else 0) (d : Fin 1024) : gather p t (ix2 r d) = t (ix2 s d) := by
  have e : gather p t (ix2 r d) = ∑ j : Fin 256, p (ix2 r j) * t (ix2 j d) := by
    pointwise [gather, k0_pay6]
  rw [e, Finset.sum_eq_single s]
  · rw [hp, if_pos rfl, one_mul]
  · intro j _ hj
    rw [hp, if_neg (fun h => hj (Fin.ext h)), zero_mul]
  · intro h
    exact absurd (Finset.mem_univ s) h

/-- A gated element. -/
theorem act_at (g : FVec Ideal S256x1024 .f32) (w : FVec Ideal S1024x1024 .bf16) (b : FVec Ideal S1x1024 .f32) (s : FVec Ideal S256x1024 .bf16) (r : Fin 256) (d : Fin 1024) :
    act g w b s (ix2 r d) = RowMath.glu (fun k => g (ix2 r k)) (fun k d => w (ix2 k d)) (fun d => b (ix2 0 d)) (fun d => s (ix2 r d)) d := by
  unfold RowMath.glu RowMath.gelu RowMath.lin
  pointwise [act, k0_pay8]

/-- A projected element. -/
theorem out_at (y : FVec Ideal S256x1024 .bf16) (w : FVec Ideal S1024x1024 .bf16) (v : FVec Ideal S256x1024 .bf16) (w' : FVec Ideal S1024x1024 .bf16) (r : Fin 256) (d : Fin 1024) :
    out y w v w' (ix2 r d) = RowMath.lin (fun k => y (ix2 r k)) (fun k d => w (ix2 k d)) d + RowMath.lin (fun k => v (ix2 r k)) (fun k d => w' (ix2 k d)) d := by
  unfold RowMath.lin
  pointwise [out, k0_pay12]

/-- An element of the even layer's output. -/
theorem next_at (o x : FVec Ideal S256x1024 .f32) (g : FVec Ideal S1x1x1024 .f32) (a b : FVec Ideal S1x1024 .f32) (r : Fin 256) (d : Fin 1024) :
    next o x g a b (ix2 r d) = RowMath.lnorm (fun k => Ideal.ofBits .f32 0x3FB504F3#32 * x (ix2 r k) + g (ix3 0 0 k) * o (ix2 r k)) d * a (ix2 0 d) + b (ix2 0 d) := by
  unfold RowMath.lnorm RowMath.mean
  pointwise [next, k0_pay13]

/-- The modulated row's element. -/
theorem rows_at (x : FVec Ideal S256x1024 .f32) (sc sh : FVec Ideal S1x1x1024 .f32) (r : Fin 256) (k : Fin 1024) :
    rows x sc sh (ix2 r k) = RowMath.modulated (fun k => x (ix2 r k)) (fun k => sc (ix3 0 0 k)) (fun k => sh (ix3 0 0 k)) k := by
  unfold RowMath.modulated RowMath.lnorm RowMath.mean
  pointwise [rows, k0_pay37, k0_pay36]

/-- A projected element. -/
theorem lin_at (h : FVec Ideal S256x1024 .bf16) (w : FVec Ideal S1024x2048 .bf16) (r : Fin 256) (d : Fin 2048) :
    lin h w (ix2 r d) = ∑ k : Fin 1024, h (ix2 r k) * w (ix2 k d) := by
  pointwise [lin]

/-- An element of the first half. -/
theorem lower_at (x : FVec Ideal S256x1024 .f32) (sc sh : FVec Ideal S1x1x1024 .f32) (w : FVec Ideal S1024x2048 .bf16) (r : Fin 256) (d : Fin 2048) :
    lower x sc sh w (ix2 r d) = lin (rows x sc sh) w (ix2 r d) := rfl

/-- An element of the second half, gated. -/
theorem gate_at (x : FVec Ideal S256x1024 .f32) (sc sh : FVec Ideal S1x1x1024 .f32) (w : FVec Ideal S1024x2048 .bf16) (r : Fin 256) (d : Fin 2048) :
    gate x sc sh w (ix2 r d) = RowMath.silu (lin (rows x sc sh) w (ix2 r d)) := rfl

/-! ## The groups of columns, each transformed by a matrix -/

/-- A group's element. -/
def group (g : Fin 8) (u : FVec Ideal S256x2048 .bf16) (a : FVec Ideal S256x256 .bf16) (r d : Fin 256) : EReal :=
  ∑ k : Fin 256, u (ix2 r ⟨g * 256 + k, by omega⟩) * a (ix2 k d)

/-- Group 0 of the first sequence, by the sines. -/
theorem us0_0 (u : FVec Ideal S256x2048 .bf16) (a : FVec Ideal S256x256 .bf16) (r d : Fin 256) : k0_pay20 (F := Ideal) u a (ix2 r d) = group 0 u a r d := by
  pointwise [group, k0_pay20]

/-- Group 1 of the first sequence, by the sines. -/
theorem us0_1 (u : FVec Ideal S256x2048 .bf16) (a : FVec Ideal S256x256 .bf16) (r d : Fin 256) : k0_pay22 (F := Ideal) u a (ix2 r d) = group 1 u a r d := by
  pointwise [group, k0_pay22]

/-- Group 2 of the first sequence, by the sines. -/
theorem us0_2 (u : FVec Ideal S256x2048 .bf16) (a : FVec Ideal S256x256 .bf16) (r d : Fin 256) : k0_pay24 (F := Ideal) u a (ix2 r d) = group 2 u a r d := by
  pointwise [group, k0_pay24]

/-- Group 3 of the first sequence, by the sines. -/
theorem us0_3 (u : FVec Ideal S256x2048 .bf16) (a : FVec Ideal S256x256 .bf16) (r d : Fin 256) : k0_pay27 (F := Ideal) u a (ix2 r d) = group 3 u a r d := by
  pointwise [group, k0_pay27]

/-- Group 4 of the first sequence, by the sines. -/
theorem us0_4 (u : FVec Ideal S256x2048 .bf16) (a : FVec Ideal S256x256 .bf16) (r d : Fin 256) : k0_pay29 (F := Ideal) u a (ix2 r d) = group 4 u a r d := by
  pointwise [group, k0_pay29]

/-- Group 5 of the first sequence, by the sines. -/
theorem us0_5 (u : FVec Ideal S256x2048 .bf16) (a : FVec Ideal S256x256 .bf16) (r d : Fin 256) : k0_pay31 (F := Ideal) u a (ix2 r d) = group 5 u a r d := by
  pointwise [group, k0_pay31]

/-- Group 6 of the first sequence, by the sines. -/
theorem us0_6 (u : FVec Ideal S256x2048 .bf16) (a : FVec Ideal S256x256 .bf16) (r d : Fin 256) : k0_pay33 (F := Ideal) u a (ix2 r d) = group 6 u a r d := by
  pointwise [group, k0_pay33]

/-- Group 7 of the first sequence, by the sines. -/
theorem us0_7 (u : FVec Ideal S256x2048 .bf16) (a : FVec Ideal S256x256 .bf16) (r d : Fin 256) : k0_pay35 (F := Ideal) u a (ix2 r d) = group 7 u a r d := by
  pointwise [group, k0_pay35]

/-- Group 0 of the first sequence, by the cosines. -/
theorem uc0_0 (x : FVec Ideal S256x1024 .f32) (sc sh : FVec Ideal S1x1x1024 .f32) (w : FVec Ideal S1024x2048 .bf16) (a : FVec Ideal S256x256 .bf16) (r d : Fin 256) :
    k0_pay19 (F := Ideal) (k0_pay14 x) (k0_pay15 x) sc sh w a (ix2 r d) = group 0 (lower x sc sh w) a r d := us0_0 (lower x sc sh w) a r d

/-- Group 1 of the first sequence, by the cosines. -/
theorem uc0_1 (u : FVec Ideal S256x2048 .bf16) (a : FVec Ideal S256x256 .bf16) (r d : Fin 256) : k0_pay21 (F := Ideal) u a (ix2 r d) = group 1 u a r d := us0_1 u a r d

/-- Group 2 of the first sequence, by the cosines. -/
theorem uc0_2 (u : FVec Ideal S256x2048 .bf16) (a : FVec Ideal S256x256 .bf16) (r d : Fin 256) : k0_pay23 (F := Ideal) u a (ix2 r d) = group 2 u a r d := us0_2 u a r d

/-- Group 3 of the first sequence, by the cosines. -/
theorem uc0_3 (u : FVec Ideal S256x2048 .bf16) (a : FVec Ideal S256x256 .bf16) (r d : Fin 256) : k0_pay26 (F := Ideal) (k0_pay25 u) a (ix2 r d) = group 3 u a r d := us0_3 u a r d

/-- Group 4 of the first sequence, by the cosines. -/
theorem uc0_4 (u : FVec Ideal S256x2048 .bf16) (a : FVec Ideal S256x256 .bf16) (r d : Fin 256) : k0_pay28 (F := Ideal) u a (ix2 r d) = group 4 u a r d := us0_4 u a r d

/-- Group 5 of the first sequence, by the cosines. -/
theorem uc0_5 (u : FVec Ideal S256x2048 .bf16) (a : FVec Ideal S256x256 .bf16) (r d : Fin 256) : k0_pay30 (F := Ideal) u a (ix2 r d) = group 5 u a r d := us0_5 u a r d

/-- Group 6 of the first sequence, by the cosines. -/
theorem uc0_6 (u : FVec Ideal S256x2048 .bf16) (a : FVec Ideal S256x256 .bf16) (r d : Fin 256) : k0_pay32 (F := Ideal) u a (ix2 r d) = group 6 u a r d := us0_6 u a r d

/-- Group 7 of the first sequence, by the cosines. -/
theorem uc0_7 (u : FVec Ideal S256x2048 .bf16) (a : FVec Ideal S256x256 .bf16) (r d : Fin 256) : k0_pay34 (F := Ideal) u a (ix2 r d) = group 7 u a r d := us0_7 u a r d

/-- Group 0 of the second sequence, by the sines. -/
theorem us1_0 (u : FVec Ideal S256x2048 .bf16) (a : FVec Ideal S256x256 .bf16) (r d : Fin 256) : k0_pay41 (F := Ideal) u a (ix2 r d) = group 0 u a r d := us0_0 u a r d

/-- Group 1 of the second sequence, by the sines. -/
theorem us1_1 (u : FVec Ideal S256x2048 .bf16) (a : FVec Ideal S256x256 .bf16) (r d : Fin 256) : k0_pay43 (F := Ideal) u a (ix2 r d) = group 1 u a r d := us0_1 u a r d

/-- Group 2 of the second sequence, by the sines. -/
theorem us1_2 (u : FVec Ideal S256x2048 .bf16) (a : FVec Ideal S256x256 .bf16) (r d : Fin 256) : k0_pay45 (F := Ideal) u a (ix2 r d) = group 2 u a r d := us0_2 u a r d

/-- Group 3 of the second sequence, by the sines. -/
theorem us1_3 (u : FVec Ideal S256x2048 .bf16) (a : FVec Ideal S256x256 .bf16) (r d : Fin 256) : k0_pay48 (F := Ideal) u a (ix2 r d) = group 3 u a r d := us0_3 u a r d

/-- Group 4 of the second sequence, by the sines. -/
theorem us1_4 (u : FVec Ideal S256x2048 .bf16) (a : FVec Ideal S256x256 .bf16) (r d : Fin 256) : k0_pay50 (F := Ideal) u a (ix2 r d) = group 4 u a r d := us0_4 u a r d

/-- Group 5 of the second sequence, by the sines. -/
theorem us1_5 (u : FVec Ideal S256x2048 .bf16) (a : FVec Ideal S256x256 .bf16) (r d : Fin 256) : k0_pay52 (F := Ideal) u a (ix2 r d) = group 5 u a r d := us0_5 u a r d

/-- Group 6 of the second sequence, by the sines. -/
theorem us1_6 (u : FVec Ideal S256x2048 .bf16) (a : FVec Ideal S256x256 .bf16) (r d : Fin 256) : k0_pay2 (F := Ideal) u a (ix2 r d) = group 6 u a r d := us0_6 u a r d

/-- Group 7 of the second sequence, by the sines. -/
theorem us1_7 (u : FVec Ideal S256x2048 .bf16) (a : FVec Ideal S256x256 .bf16) (r d : Fin 256) : k0_pay4 (F := Ideal) u a (ix2 r d) = group 7 u a r d := us0_7 u a r d

/-- Group 0 of the second sequence, by the cosines. -/
theorem uc1_0 (x : FVec Ideal S256x1024 .f32) (sc sh : FVec Ideal S1x1x1024 .f32) (w : FVec Ideal S1024x2048 .bf16) (a : FVec Ideal S256x256 .bf16) (r d : Fin 256) :
    k0_pay40 (F := Ideal) (k0_pay36 x) sc sh w a (ix2 r d) = group 0 (lower x sc sh w) a r d := us0_0 (lower x sc sh w) a r d

/-- Group 1 of the second sequence, by the cosines. -/
theorem uc1_1 (u : FVec Ideal S256x2048 .bf16) (a : FVec Ideal S256x256 .bf16) (r d : Fin 256) : k0_pay42 (F := Ideal) u a (ix2 r d) = group 1 u a r d := us0_1 u a r d

/-- Group 2 of the second sequence, by the cosines. -/
theorem uc1_2 (u : FVec Ideal S256x2048 .bf16) (a : FVec Ideal S256x256 .bf16) (r d : Fin 256) : k0_pay44 (F := Ideal) u a (ix2 r d) = group 2 u a r d := us0_2 u a r d

/-- Group 3 of the second sequence, by the cosines. -/
theorem uc1_3 (u : FVec Ideal S256x2048 .bf16) (a : FVec Ideal S256x256 .bf16) (r d : Fin 256) : k0_pay47 (F := Ideal) (k0_pay46 u) a (ix2 r d) = group 3 u a r d := us0_3 u a r d

/-- Group 4 of the second sequence, by the cosines. -/
theorem uc1_4 (u : FVec Ideal S256x2048 .bf16) (a : FVec Ideal S256x256 .bf16) (r d : Fin 256) : k0_pay49 (F := Ideal) u a (ix2 r d) = group 4 u a r d := us0_4 u a r d

/-- Group 5 of the second sequence, by the cosines. -/
theorem uc1_5 (u : FVec Ideal S256x2048 .bf16) (a : FVec Ideal S256x256 .bf16) (r d : Fin 256) : k0_pay51 (F := Ideal) u a (ix2 r d) = group 5 u a r d := us0_5 u a r d

/-- Group 6 of the second sequence, by the cosines. -/
theorem uc1_6 (u : FVec Ideal S256x2048 .bf16) (a : FVec Ideal S256x256 .bf16) (r d : Fin 256) : k0_pay1 (F := Ideal) u a (ix2 r d) = group 6 u a r d := us0_6 u a r d

/-- Group 7 of the second sequence, by the cosines. -/
theorem uc1_7 (u : FVec Ideal S256x2048 .bf16) (a : FVec Ideal S256x256 .bf16) (r d : Fin 256) : k0_pay3 (F := Ideal) u a (ix2 r d) = group 7 u a r d := us0_7 u a r d

end Cert.OutHalf

end
-- ==== Proof.OutReads.lean ====
module

public import proofs.«01_k».proof.Proof.EvenReads
public import proofs.«01_k».proof.Proof.Gen.EvenOutIdeal.Value

@[expose] public section

set_option maxRecDepth 16384

noncomputable section

/-! # What the even layer's output projection reads -/

namespace Cert.EvenOutIdeal.Whole

open Cert.EvenOutIdeal Cert.EvenOutIdeal.Gen Idealize.ShloMosaic Idealize.ShloMosaic.TcCoe Idealize.SL.Sem

variable (m : (ℓ : Loc nD τ sig) → Buf (Elt Ideal) ℓ)

/-- The staged weights of the gate. -/
theorem V1 (c : Dev nD) (k d : Fin 1024) : V m c main_v1 (ix2 k d) = m ((c.tc : Thread nD τ).loc main_arg5) (ix3 0 k d) := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise

/-- The staged weights of the output projection. -/
theorem V4 (c : Dev nD) (k : Fin 2048) (d : Fin 1024) : V m c main_v4 (ix2 k d) = m ((c.tc : Thread nD τ).loc main_arg7) (ix3 0 k d) := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise

/-- The staged weights of the input projection. -/
theorem V10 (c : Dev nD) (k : Fin 1024) (d : Fin 4096) : V m c main_v10 (ix2 k d) = m ((c.tc : Thread nD τ).loc main_arg10) (ix3 0 k d) := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise

/-- The staged bias of the gate. -/
theorem V11 (c : Dev nD) (d : Fin 1024) : V m c main_v11 (ix2 0 d) = m ((c.tc : Thread nD τ).loc main_arg6) (ix2 0 d) := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise

/-- The staged gain. -/
theorem V12 (c : Dev nD) (d : Fin 1024) : V m c main_v12 (ix2 0 d) = m ((c.tc : Thread nD τ).loc main_arg8) (ix2 0 d) := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise

/-- The staged offset. -/
theorem V13 (c : Dev nD) (d : Fin 1024) : V m c main_v13 (ix2 0 d) = m ((c.tc : Thread nD τ).loc main_arg9) (ix2 0 d) := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise

/-- The staged gathering matrix. -/
theorem V22 (c : Dev nD) (i j : Fin 256) : V m c main_v22 (ix2 i j) = if j.val = (i.val % 16) * 16 + i.val / 16 then (1 : EReal) else 0 := by
  simp only [V, hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  entry_read; pointwise
  have e : IntOp.cmpi CmpIPredicate.eq (BitVec.ofNat 32 j.val) (EvenInIdeal.Whole.src i.val) = if j.val = i.val % 16 * 16 + i.val / 16 then 1#1 else 0#1 := by
    rw [EvenInIdeal.Whole.src_eq]
    exact EvenInIdeal.Whole.cmp_eq _ _ j.isLt (by omega)
  refine (congrArg (FloatOps.uitofp (F := Ideal) FTy.bf16) e).trans ?_
  split <;> simp [FloatOps.uitofp]

end Cert.EvenOutIdeal.Whole

end
-- ==== Proof.OutCore.lean ====
module

public import proofs.«01_k».proof.Proof.OutRef
public import proofs.«01_k».proof.Proof.OutHalf
public import proofs.«01_k».proof.Proof.OutReads

@[expose] public section

set_option maxRecDepth 16384

noncomputable section

/-! # What one grid point of the even layer's output projection computes -/

namespace Cert.EvenOutIdeal.Whole

open Cert.EvenOutIdeal Cert.EvenOutIdeal.Gen Idealize.ShloMosaic Idealize.ShloMosaic.TcCoe Idealize.SL.Sem

variable (m : (ℓ : Loc nD τ sig) → Buf (Elt Ideal) ℓ)

/-- Block indices at point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![2, 0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![24, 0, 0] ∧ win0_12.index t = ![25, 0, 0] ∧ win0_13.index t = ![0, 0]
    ∧ win0_14.index t = ![0, 0] ∧ win0_15.index t = ![0, 0] ∧ win0_16.index t = ![t.val, 0] ∧ win0_17.index t = ![t.val, 0]
    ∧ win0_18.index t = ![t.val, 0] ∧ win0_19.index t = ![t.val, 0] :=
  (by decide +kernel : ∀ t : Fin grid0.N, _)

/-- The reference's even layer output of the kernel's arguments. -/
abbrev ref (c : Dev nD) : FVec Ideal Cert.EvenOutRefIdeal.S8192x1024 .f32 :=
  OutRef.x1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The reference's projected columns of it. -/
abbrev refp (c : Dev nD) : FVec Ideal Cert.EvenOutRefIdeal.S8192x4096 .f32 :=
  OutRef.proj (ref m c) (m ((c.tc : Thread nD τ).loc main_arg4)) (m ((c.tc : Thread nD τ).loc main_arg10))

/-- The channels, a block. -/
theorem blk0 (c : Dev nD) (t : Fin cfg0.N) (r : Fin 512) (d : Fin 1024) : iblk m c 0 t (ix2 r d)
    = m ((c.tc : Thread nD τ).loc main_arg0) (ix2 ⟨t * 512 + r, by have := t.isLt; have : cfg0.N = 16 := rfl; omega⟩ d) := by
  refine (by blk_point [iblk, idx t] : iblk m c 0 t (ix2 r d)
    = V m c main_arg0 (ix2 ⟨t * 512 + r, by have := t.isLt; have : cfg0.N = 16 := rfl; omega⟩ d)).trans ?_
  exact congrFun (V_main_arg0 m c) _

/-- The given gate, a block. -/
theorem blk1 (c : Dev nD) (t : Fin cfg0.N) (r : Fin 512) (d : Fin 1024) : iblk m c 1 t (ix2 r d)
    = m ((c.tc : Thread nD τ).loc main_arg1) (ix2 ⟨t * 512 + r, by have := t.isLt; have : cfg0.N = 16 := rfl; omega⟩ d) := by
  refine (by blk_point [iblk, idx t] : iblk m c 1 t (ix2 r d)
    = V m c main_arg1 (ix2 ⟨t * 512 + r, by have := t.isLt; have : cfg0.N = 16 := rfl; omega⟩ d)).trans ?_
  exact congrFun (V_main_arg1 m c) _

/-- The other half of the channels, a block. -/
theorem blk2 (c : Dev nD) (t : Fin cfg0.N) (r : Fin 512) (d : Fin 1024) : iblk m c 2 t (ix2 r d)
    = m ((c.tc : Thread nD τ).loc main_arg2) (ix2 ⟨t * 512 + r, by have := t.isLt; have : cfg0.N = 16 := rfl; omega⟩ d) := by
  refine (by blk_point [iblk, idx t] : iblk m c 2 t (ix2 r d)
    = V m c main_arg2 (ix2 ⟨t * 512 + r, by have := t.isLt; have : cfg0.N = 16 := rfl; omega⟩ d)).trans ?_
  exact congrFun (V_main_arg2 m c) _

/-- The residual, a block. -/
theorem blk3 (c : Dev nD) (t : Fin cfg0.N) (r : Fin 512) (d : Fin 1024) : iblk m c 3 t (ix2 r d)
    = m ((c.tc : Thread nD τ).loc main_arg3) (ix2 ⟨t * 512 + r, by have := t.isLt; have : cfg0.N = 16 := rfl; omega⟩ d) := by
  refine (by blk_point [iblk, idx t] : iblk m c 3 t (ix2 r d)
    = V m c main_arg3 (ix2 ⟨t * 512 + r, by have := t.isLt; have : cfg0.N = 16 := rfl; omega⟩ d)).trans ?_
  exact congrFun (V_main_arg3 m c) _

/-- The residual's gate. -/
theorem blk4 (c : Dev nD) (t : Fin cfg0.N) (d : Fin 1024) : iblk m c 4 t (ix3 0 0 d) = m ((c.tc : Thread nD τ).loc main_arg4) (ix3 2 0 d) := by
  refine (by blk_point [iblk, idx t] : iblk m c 4 t (ix3 0 0 d) = V m c main_arg4 (ix3 2 0 d)).trans ?_
  exact congrFun (V_main_arg4 m c) _

/-- The modulation's shift. -/
theorem blk11 (c : Dev nD) (t : Fin cfg0.N) (d : Fin 1024) : iblk m c 11 t (ix3 0 0 d) = m ((c.tc : Thread nD τ).loc main_arg4) (ix3 24 0 d) := by
  refine (by blk_point [iblk, idx t] : iblk m c 11 t (ix3 0 0 d) = V m c main_arg4 (ix3 24 0 d)).trans ?_
  exact congrFun (V_main_arg4 m c) _

/-- The modulation's scale. -/
theorem blk12 (c : Dev nD) (t : Fin cfg0.N) (d : Fin 1024) : iblk m c 12 t (ix3 0 0 d) = m ((c.tc : Thread nD τ).loc main_arg4) (ix3 25 0 d) := by
  refine (by blk_point [iblk, idx t] : iblk m c 12 t (ix3 0 0 d) = V m c main_arg4 (ix3 25 0 d)).trans ?_
  exact congrFun (V_main_arg4 m c) _

/-- The gate's weights. -/
theorem blk5 (c : Dev nD) (t : Fin cfg0.N) (k : Fin 1024) (d : Fin 1024) : iblk m c 5 t (ix2 k d) = m ((c.tc : Thread nD τ).loc main_arg5) (ix3 0 k d) :=
  (by blk_point [iblk, idx t] : iblk m c 5 t (ix2 k d) = V m c main_v1 (ix2 k d)).trans (V1 m c k d)

/-- The output projection's weights. -/
theorem blk7 (c : Dev nD) (t : Fin cfg0.N) (k : Fin 2048) (d : Fin 1024) : iblk m c 7 t (ix2 k d) = m ((c.tc : Thread nD τ).loc main_arg7) (ix3 0 k d) :=
  (by blk_point [iblk, idx t] : iblk m c 7 t (ix2 k d) = V m c main_v4 (ix2 k d)).trans (V4 m c k d)

/-- The input projection's weights. -/
theorem blk13 (c : Dev nD) (t : Fin cfg0.N) (k : Fin 1024) (d : Fin 4096) : iblk m c 13 t (ix2 k d) = m ((c.tc : Thread nD τ).loc main_arg10) (ix3 0 k d) :=
  (by blk_point [iblk, idx t] : iblk m c 13 t (ix2 k d) = V m c main_v10 (ix2 k d)).trans (V10 m c k d)

/-- The gate's bias. -/
theorem blk6 (c : Dev nD) (t : Fin cfg0.N) (d : Fin 1024) : iblk m c 6 t (ix2 0 d) = m ((c.tc : Thread nD τ).loc main_arg6) (ix2 0 d) :=
  (by blk_point [iblk, idx t] : iblk m c 6 t (ix2 0 d) = V m c main_v11 (ix2 0 d)).trans (V11 m c d)

/-- The gain. -/
theorem blk8 (c : Dev nD) (t : Fin cfg0.N) (d : Fin 1024) : iblk m c 8 t (ix2 0 d) = m ((c.tc : Thread nD τ).loc main_arg8) (ix2 0 d) :=
  (by blk_point [iblk, idx t] : iblk m c 8 t (ix2 0 d) = V m c main_v12 (ix2 0 d)).trans (V12 m c d)

/-- The offset. -/
theorem blk9 (c : Dev nD) (t : Fin cfg0.N) (d : Fin 1024) : iblk m c 9 t (ix2 0 d) = m ((c.tc : Thread nD τ).loc main_arg9) (ix2 0 d) :=
  (by blk_point [iblk, idx t] : iblk m c 9 t (ix2 0 d) = V m c main_v13 (ix2 0 d)).trans (V13 m c d)

/-- The gathering matrix. -/
theorem blk10 (c : Dev nD) (t : Fin cfg0.N) (i j : Fin 256) : iblk m c 10 t (ix2 i j) = if j.val = (i.val % 16) * 16 + i.val / 16 then (1 : EReal) else 0 :=
  (by blk_point [iblk, idx t] : iblk m c 10 t (ix2 i j) = V m c main_v22 (ix2 i j)).trans (V22 m c i j)

/-- The cosines. -/
theorem blk14 (c : Dev nD) (t : Fin cfg0.N) (i j : Fin 256) : iblk m c 14 t (ix2 i j) = m ((c.tc : Thread nD τ).loc main_arg11) (ix2 i j) := by
  refine (by blk_point [iblk, idx t] : iblk m c 14 t (ix2 i j) = V m c main_arg11 (ix2 i j)).trans ?_
  exact congrFun (V_main_arg11 m c) _

/-- The sines. -/
theorem blk15 (c : Dev nD) (t : Fin cfg0.N) (i j : Fin 256) : iblk m c 15 t (ix2 i j) = m ((c.tc : Thread nD τ).loc main_arg12) (ix2 i j) := by
  refine (by blk_point [iblk, idx t] : iblk m c 15 t (ix2 i j) = V m c main_arg12 (ix2 i j)).trans ?_
  exact congrFun (V_main_arg12 m c) _

/-- A sequence's tiles being its rows in the point's blocks, its part of output 0 is the reference's there. -/
theorem next_piece (c : Dev nD) (t : Fin cfg0.N) (ht : t.val < 16) (q : Fin 2)
    (ys s v : Vec Ideal S256x1024 .bf16) (x : Vec Ideal S256x1024 .f32) (w w' : Vec Ideal S1024x1024 .bf16)
    (hys : ∀ (l : Fin 256) (k : Fin 1024), ys (ix2 l k) = iblk m c 0 t (ix2 ⟨q * 256 + l, by omega⟩ k))
    (hs : ∀ (l : Fin 256) (k : Fin 1024), s (ix2 l k) = iblk m c 1 t (ix2 ⟨q * 256 + l, by omega⟩ k))
    (hv : ∀ (l : Fin 256) (k : Fin 1024), v (ix2 l k) = iblk m c 2 t (ix2 ⟨q * 256 + l, by omega⟩ k))
    (hx : ∀ (l : Fin 256) (k : Fin 1024), x (ix2 l k) = iblk m c 3 t (ix2 ⟨q * 256 + l, by omega⟩ k))
    (hw : ∀ k d : Fin 1024, w (ix2 k d) = iblk m c 7 t (ix2 ⟨k, by omega⟩ d))
    (hw' : ∀ k d : Fin 1024, w' (ix2 k d) = iblk m c 7 t (ix2 ⟨1024 + k, by omega⟩ d))
    (r : Fin 256) (d : Fin 1024) :
    OutHalf.next (OutHalf.out (OutHalf.act (OutHalf.gather (iblk m c 10 t) ys) (iblk m c 5 t) (iblk m c 6 t) s) w v w') x (iblk m c 4 t) (iblk m c 8 t) (iblk m c 9 t) (ix2 r d)
      = ref m c (ix2 ⟨t * 512 + (q * 256 + r), by omega⟩ d) := by
  have hrow : ∀ l : Fin 256, (⟨t * 512 + (q * 256 + l), by omega⟩ : Fin 8192) = ⟨(⟨t * 2 + q, by omega⟩ : Fin 32) * 256 + l, by omega⟩ := fun l =>
    Fin.ext (show t.val * 512 + (q.val * 256 + l.val) = (t.val * 2 + q.val) * 256 + l.val by omega)
  have e0 := fun (l : Fin 256) (k : Fin 1024) => ((hys l k).trans (blk0 m c t _ k)).trans (congrArg (fun i => m ((c.tc : Thread nD τ).loc main_arg0) (ix2 i k)) (hrow l))
  have e1 := fun (l : Fin 256) (k : Fin 1024) => ((hs l k).trans (blk1 m c t _ k)).trans (congrArg (fun i => m ((c.tc : Thread nD τ).loc main_arg1) (ix2 i k)) (hrow l))
  have e2 := fun (l : Fin 256) (k : Fin 1024) => ((hv l k).trans (blk2 m c t _ k)).trans (congrArg (fun i => m ((c.tc : Thread nD τ).loc main_arg2) (ix2 i k)) (hrow l))
  have e3 := fun (l : Fin 256) (k : Fin 1024) => ((hx l k).trans (blk3 m c t _ k)).trans (congrArg (fun i => m ((c.tc : Thread nD τ).loc main_arg3) (ix2 i k)) (hrow l))
  have hg : ∀ (l : Fin 256) (k : Fin 1024), OutHalf.gather (iblk m c 10 t) ys (ix2 l k) = ys (ix2 ⟨l.val % 16 * 16 + l.val / 16, by omega⟩ k) := fun l k =>
    OutHalf.gather_at _ _ l ⟨l.val % 16 * 16 + l.val / 16, by omega⟩ (fun j => blk10 m c t l j) k
  rw [hrow r]
  refine (OutHalf.next_at _ _ _ _ _ r d).trans ?_
  refine Eq.trans ?_ (OutRef.x1_at _ _ _ _ _ _ _ _ _ _ ⟨t * 2 + q, by omega⟩ r d).symm
  unfold RowMath.next RowMath.pair
  simp only [OutHalf.out_at, OutHalf.act_at, hg, e0, e1, e2, e3, hw, hw', blk4, blk5, blk6, blk7, blk8, blk9]

/-- A sequence's tile being the reference's even layer output there, its projected columns are the reference's. -/
theorem core (c : Dev nD) (t : Fin cfg0.N) (ht : t.val < 16) (q : Fin 2) (o : ℕ) (ho : o + 2048 ≤ 4096)
    (x : Vec Ideal S256x1024 .f32) (w : Vec Ideal S1024x2048 .bf16)
    (hx : ∀ (l : Fin 256) (k : Fin 1024), x (ix2 l k) = ref m c (ix2 ⟨t * 512 + (q * 256 + l), by omega⟩ k))
    (hw : ∀ (k : Fin 1024) (d : Fin 2048), w (ix2 k d) = iblk m c 13 t (ix2 k ⟨o + d, by omega⟩))
    (r : Fin 256) (d : Fin 2048) :
    OutHalf.lin (OutHalf.rows x (iblk m c 12 t) (iblk m c 11 t)) w (ix2 r d) = refp m c (ix2 ⟨t * 512 + (q * 256 + r), by omega⟩ ⟨o + d, by omega⟩) := by
  refine (OutHalf.lin_at _ _ r d).trans ?_
  refine Eq.trans ?_ (OutRef.proj_at _ _ _ _ _).symm
  unfold RowMath.lin
  simp only [OutHalf.rows_at, hx, hw, blk11, blk12, blk13]

/-- So is its part of output 3. -/
theorem gate_piece (c : Dev nD) (t : Fin cfg0.N) (ht : t.val < 16) (q : Fin 2)
    (x : Vec Ideal S256x1024 .f32) (w : Vec Ideal S1024x2048 .bf16)
    (hx : ∀ (l : Fin 256) (k : Fin 1024), x (ix2 l k) = ref m c (ix2 ⟨t * 512 + (q * 256 + l), by omega⟩ k))
    (hw : ∀ (k : Fin 1024) (d : Fin 2048), w (ix2 k d) = iblk m c 13 t (ix2 k ⟨2048 + d, by omega⟩))
    (r : Fin 256) (d : Fin 2048) :
    OutHalf.gate x (iblk m c 12 t) (iblk m c 11 t) w (ix2 r d) = OutRef.silu (OutRef.upper (refp m c)) (ix2 ⟨t * 512 + (q * 256 + r), by omega⟩ d) := by
  refine (OutHalf.gate_at _ _ _ _ r d).trans ?_
  refine Eq.trans ?_ (OutRef.silu_at _ _).symm
  exact congrArg RowMath.silu ((core m c t ht q 2048 (by omega) x w hx hw r d).trans (OutRef.upper_at _ _ _).symm)

/-- So is each group of its transformed columns, in outputs 1 and 2. -/
theorem group_piece (c : Dev nD) (t : Fin cfg0.N) (ht : t.val < 16) (a : Vec Ideal S256x256 .bf16) (a' : FVec Ideal Cert.EvenOutRefIdeal.S256x256 .bf16)
    (ha : ∀ i j : Fin 256, a (ix2 i j) = a' (ix2 i j)) (q : Fin 2)
    (x : Vec Ideal S256x1024 .f32) (w : Vec Ideal S1024x2048 .bf16)
    (hx : ∀ (l : Fin 256) (k : Fin 1024), x (ix2 l k) = ref m c (ix2 ⟨t * 512 + (q * 256 + l), by omega⟩ k))
    (hw : ∀ (k : Fin 1024) (d : Fin 2048), w (ix2 k d) = iblk m c 13 t (ix2 k ⟨0 + d, by omega⟩))
    (g : Fin 8) (r d : Fin 256) :
    OutHalf.group g (OutHalf.lower x (iblk m c 12 t) (iblk m c 11 t) w) a r d
      = OutRef.transform (OutRef.groups (refp m c)) a' (ix2 ⟨t * 512 + (q * 256 + r), by omega⟩ ⟨g * 256 + d, by omega⟩) := by
  refine Eq.trans ?_ (OutRef.transform_at _ _ _ _ _).symm
  unfold OutHalf.group
  refine Finset.sum_congr rfl fun k _ => ?_
  refine congrArg₂ (· * ·) ?_ (ha k d)
  refine ((OutHalf.lower_at _ _ _ _ _ _).trans (core m c t ht q 0 (by omega) x w hx hw r _)).trans ?_
  refine Eq.trans ?_ (OutRef.groups_at _ _ _ _).symm
  refine congrArg (refp m c) ?_
  congr 1
  exact Fin.ext (Nat.zero_add _)

end Cert.EvenOutIdeal.Whole

end
-- ==== Proof.OutPoint.lean ====
module

public import proofs.«01_k».proof.Proof.OutCore
public import Idealize.ShloMosaic.Lib.Pipeline.ValueKit
public import Idealize.ShloMosaic.Lib.Pipeline.ReadBack

@[expose] public section

set_option maxRecDepth 16384

noncomputable section

/-! # The output arrays of the even layer's output projection -/

namespace Cert.EvenOutIdeal.Whole

open Cert.EvenOutIdeal Cert.EvenOutIdeal.Gen Idealize.ShloMosaic Idealize.ShloMosaic.TcCoe Idealize.SL.Sem

variable (m : (ℓ : Loc nD τ sig) → Buf (Elt Ideal) ℓ)

/-- The first sequence's part of output 0, of the point's blocks. -/
def first (c : Dev nD) (t : Fin cfg0.N) : Vec Ideal S256x1024 .f32 :=
  k0_pay11
    (k0_pay9
      (k0_pay5 (iblk m c 10 t) (View.ld (iblk m c 0 t) (Rect.unit ![0, 0] ![256, 1024] inb_S512x1024_S256x1024_0_0)) (iblk m c 5 t) (iblk m c 6 t)
        (View.ld (iblk m c 1 t) (Rect.unit ![0, 0] ![256, 1024] inb_S512x1024_S256x1024_0_0)))
      (View.ld (iblk m c 7 t) (Rect.unit ![0, 0] ![1024, 1024] inb_S2048x1024_S1024x1024_0_0))
      (View.ld (iblk m c 2 t) (Rect.unit ![0, 0] ![256, 1024] inb_S512x1024_S256x1024_0_0))
      (View.ld (iblk m c 7 t) (Rect.unit ![1024, 0] ![1024, 1024] inb_S2048x1024_S1024x1024_1024_0)))
    (View.ld (iblk m c 3 t) (Rect.unit ![0, 0] ![256, 1024] inb_S512x1024_S256x1024_0_0))
    (k0_pay10 (iblk m c 4 t)) (iblk m c 8 t) (iblk m c 9 t)

/-- The second sequence's. -/
def second (c : Dev nD) (t : Fin cfg0.N) : Vec Ideal S256x1024 .f32 :=
  k0_pay13
    (k0_pay12
      (k0_pay8
        (k0_pay6 (iblk m c 10 t) (View.ld (iblk m c 0 t) (Rect.unit ![256, 0] ![256, 1024] inb_S512x1024_S256x1024_256_0)))
        (k0_pay7 (iblk m c 10 t) (View.ld (iblk m c 0 t) (Rect.unit ![256, 0] ![256, 1024] inb_S512x1024_S256x1024_256_0)))
        (FloatOps.ofBits (F := Ideal) FTy.f32 1027024659#32) (iblk m c 5 t) (iblk m c 6 t)
        (View.ld (iblk m c 1 t) (Rect.unit ![256, 0] ![256, 1024] inb_S512x1024_S256x1024_256_0)))
      (View.ld (iblk m c 7 t) (Rect.unit ![0, 0] ![1024, 1024] inb_S2048x1024_S1024x1024_0_0))
      (View.ld (iblk m c 2 t) (Rect.unit ![256, 0] ![256, 1024] inb_S512x1024_S256x1024_256_0))
      (View.ld (iblk m c 7 t) (Rect.unit ![1024, 0] ![1024, 1024] inb_S2048x1024_S1024x1024_1024_0)))
    (View.ld (iblk m c 3 t) (Rect.unit ![256, 0] ![256, 1024] inb_S512x1024_S256x1024_256_0))
    (iblk m c 4 t) (iblk m c 8 t) (iblk m c 9 t)

/-- The first sequence's part is the reference's. -/
theorem first_eq (c : Dev nD) (t : Fin cfg0.N) (ht : t.val < 16) (r : Fin 256) (d : Fin 1024) :
    first m c t (ix2 r d) = ref m c (ix2 ⟨t * 512 + ((0 : Fin 2) * 256 + r), by omega⟩ d) := by
  have fin := next_piece m c t ht 0
  unfold first
  generalize iblk m c 0 t = b0 at fin ⊢
  generalize iblk m c 1 t = b1 at fin ⊢
  generalize iblk m c 2 t = b2 at fin ⊢
  generalize iblk m c 3 t = b3 at fin ⊢
  generalize iblk m c 7 t = b7 at fin ⊢
  refine fin _ _ _ _ _ _ ?_ ?_ ?_ ?_ ?_ ?_ r d <;> intros <;> exact congrArg _ (by blk_ext [] : Rect.emb _ _ = _)

/-- The second sequence's part is the reference's. -/
theorem second_eq (c : Dev nD) (t : Fin cfg0.N) (ht : t.val < 16) (r : Fin 256) (d : Fin 1024) :
    second m c t (ix2 r d) = ref m c (ix2 ⟨t * 512 + ((1 : Fin 2) * 256 + r), by omega⟩ d) := by
  have fin := next_piece m c t ht 1
  unfold second
  generalize iblk m c 0 t = b0 at fin ⊢
  generalize iblk m c 1 t = b1 at fin ⊢
  generalize iblk m c 2 t = b2 at fin ⊢
  generalize iblk m c 3 t = b3 at fin ⊢
  generalize iblk m c 7 t = b7 at fin ⊢
  refine fin _ _ _ _ _ _ ?_ ?_ ?_ ?_ ?_ ?_ r d <;> intros <;> exact congrArg _ (by blk_ext [] : Rect.emb _ _ = _)

/-- The first sequence's rows read back are those stored first. -/
theorem back_first (t : Fin cfg0.N) (w w' : Vec Ideal S256x1024 .f32) :
    (ms0_16 t).view.readCov [⟨Rect.unit ![256, 0] ![256, 1024] inb_S512x1024_S256x1024_256_0, w⟩, ⟨Rect.unit ![0, 0] ![256, 1024] inb_S512x1024_S256x1024_0_0, w'⟩]
      (Rect.unit ![0, 0] ![256, 1024] inb_S512x1024_S256x1024_0_0).toLoadRect = w' := by
  exact (View.readCov_skip _ _ _ _ _ (by decide)).trans (View.readCov_cons_toLoadRect _ _ _ _)

/-- The weights' first half of the columns. -/
theorem load_lower (b : Vec Ideal S1024x4096 .bf16) (k : Fin 1024) (d : Fin 2048) :
    View.ld b (Rect.unit ![0, 0] ![1024, 2048] inb_S1024x4096_S1024x2048_0_0) (ix2 k d) = b (ix2 k ⟨0 + d, by omega⟩) :=
  congrArg b (by blk_ext [] : Rect.emb _ _ = _)

/-- The second. -/
theorem load_upper (b : Vec Ideal S1024x4096 .bf16) (k : Fin 1024) (d : Fin 2048) :
    View.ld b (Rect.unit ![0, 2048] ![1024, 2048] inb_S1024x4096_S1024x2048_0_2048) (ix2 k d) = b (ix2 k ⟨2048 + d, by omega⟩) :=
  congrArg b (by blk_ext [] : Rect.emb _ _ = _)

set_option maxHeartbeats 2000000 in
/-- What point `t` leaves in output 0's buffer is the reference's block there. -/
theorem next_point (c : Dev nD) (t : Fin cfg0.N) (y : S512x1024.Idx) :
    (dats m 0 c).after 16 t y = ref m c (((cfg0.win 16).blk t).view.emb y) := by
  have ht : t.val < 16 := lt_of_lt_of_eq t.isLt (by decide)
  have go : ∀ (q : Fin 2) (x0 : Fin 256) (x1 : Fin 1024), (y 0 : ℕ) = q * 256 + x0 → (y 1 : ℕ) = x1 →
      ((cfg0.win 16).blk t).view.emb y = ix2 (⟨t * 512 + (q * 256 + x0), by omega⟩ : Fin 8192) x1 := by
    intro q x0 x1 e0 e1
    blk_ext [idx t]
  rw [after0_16]; unfold Gen.outsAt0; frame_out [View.readCov_cons_toLoadRect]
  canon_tiles x h
  · idx_vars x
    exact (second_eq m c t ht x0 x1).trans (congrArg (ref m c) (go 1 x0 x1 h0 h1)).symm
  · idx_vars x
    exact (first_eq m c t ht x0 x1).trans (congrArg (ref m c) (go 0 x0 x1 (h0.trans (Nat.zero_add _).symm) h1)).symm

/-- The kernel's output array 0 is the reference's result. -/
theorem next_final (c : Dev nD) : (dats m 0 c).arrAt 16 cfg0.N = ref m c := by
  refine (dats m 0 c).arrAt_eq_of_covers 16 _ (by decide +kernel) fun t _ y => ?_
  blk_simp
  exact next_point m c t y

set_option maxHeartbeats 2000000 in
/-- What point `t` leaves in output 1's buffer is the reference's block there. -/
theorem uc_point (c : Dev nD) (t : Fin cfg0.N) (y : S512x2048.Idx) :
    (dats m 0 c).after 17 t y = OutRef.transform (OutRef.groups (refp m c)) (m ((c.tc : Thread nD τ).loc main_arg11)) (((cfg0.win 17).blk t).view.emb y) := by
  have ht : t.val < 16 := lt_of_lt_of_eq t.isLt (by decide)
  have go : ∀ (q : Fin 2) (g : Fin 8) (x0 x1 : Fin 256), (y 0 : ℕ) = q * 256 + x0 → (y 1 : ℕ) = g * 256 + x1 →
      ((cfg0.win 17).blk t).view.emb y = ix2 (⟨t * 512 + (q * 256 + x0), by omega⟩ : Fin 8192) (⟨g * 256 + x1, by omega⟩ : Fin 2048) := by
    intro q g x0 x1 e0 e1
    blk_ext [idx t]
  rw [after0_17]; unfold Gen.outsAt0; frame_out [View.readCov_cons_toLoadRect]
  have fin := group_piece m c t ht (iblk m c 14 t) (m ((c.tc : Thread nD τ).loc main_arg11)) (blk14 m c t)
  have f0 := fun (w : Vec Ideal S256x1024 .f32) (l : Fin 256) (k : Fin 1024) => (congrFun (back_first t w (first m c t)) (ix2 l k)).trans (first_eq m c t ht l k)
  have f1 := second_eq m c t ht
  canon_tiles x h
  · idx_vars x
    exact (OutHalf.uc1_7 _ _ x0 x1).trans ((fin 1 _ _ f1 (load_lower _) 7 x0 x1).trans (congrArg (OutRef.transform (OutRef.groups (refp m c)) (m ((c.tc : Thread nD τ).loc main_arg11))) (go 1 7 x0 x1 h0 h1)).symm)
  · idx_vars x
    exact (OutHalf.uc1_6 _ _ x0 x1).trans ((fin 1 _ _ f1 (load_lower _) 6 x0 x1).trans (congrArg (OutRef.transform (OutRef.groups (refp m c)) (m ((c.tc : Thread nD τ).loc main_arg11))) (go 1 6 x0 x1 h0 h1)).symm)
  · idx_vars x
    exact (OutHalf.uc1_5 _ _ x0 x1).trans ((fin 1 _ _ f1 (load_lower _) 5 x0 x1).trans (congrArg (OutRef.transform (OutRef.groups (refp m c)) (m ((c.tc : Thread nD τ).loc main_arg11))) (go 1 5 x0 x1 h0 h1)).symm)
  · idx_vars x
    exact (OutHalf.uc1_4 _ _ x0 x1).trans ((fin 1 _ _ f1 (load_lower _) 4 x0 x1).trans (congrArg (OutRef.transform (OutRef.groups (refp m c)) (m ((c.tc : Thread nD τ).loc main_arg11))) (go 1 4 x0 x1 h0 h1)).symm)
  · idx_vars x
    exact (OutHalf.uc1_3 _ _ x0 x1).trans ((fin 1 _ _ f1 (load_lower _) 3 x0 x1).trans (congrArg (OutRef.transform (OutRef.groups (refp m c)) (m ((c.tc : Thread nD τ).loc main_arg11))) (go 1 3 x0 x1 h0 h1)).symm)
  · idx_vars x
    exact (OutHalf.uc1_2 _ _ x0 x1).trans ((fin 1 _ _ f1 (load_lower _) 2 x0 x1).trans (congrArg (OutRef.transform (OutRef.groups (refp m c)) (m ((c.tc : Thread nD τ).loc main_arg11))) (go 1 2 x0 x1 h0 h1)).symm)
  · idx_vars x
    exact (OutHalf.uc1_1 _ _ x0 x1).trans ((fin 1 _ _ f1 (load_lower _) 1 x0 x1).trans (congrArg (OutRef.transform (OutRef.groups (refp m c)) (m ((c.tc : Thread nD τ).loc main_arg11))) (go 1 1 x0 x1 h0 h1)).symm)
  · idx_vars x
    exact (OutHalf.uc1_0 _ _ _ _ _ x0 x1).trans ((fin 1 _ _ f1 (load_lower _) 0 x0 x1).trans (congrArg (OutRef.transform (OutRef.groups (refp m c)) (m ((c.tc : Thread nD τ).loc main_arg11))) (go 1 0 x0 x1 h0 (h1.trans (Nat.zero_add _).symm))).symm)
  · idx_vars x
    exact (OutHalf.uc0_7 _ _ x0 x1).trans ((fin 0 _ _ (f0 _) (load_lower _) 7 x0 x1).trans (congrArg (OutRef.transform (OutRef.groups (refp m c)) (m ((c.tc : Thread nD τ).loc main_arg11))) (go 0 7 x0 x1 (h0.trans (Nat.zero_add _).symm) h1)).symm)
  · idx_vars x
    exact (OutHalf.uc0_6 _ _ x0 x1).trans ((fin 0 _ _ (f0 _) (load_lower _) 6 x0 x1).trans (congrArg (OutRef.transform (OutRef.groups (refp m c)) (m ((c.tc : Thread nD τ).loc main_arg11))) (go 0 6 x0 x1 (h0.trans (Nat.zero_add _).symm) h1)).symm)
  · idx_vars x
    exact (OutHalf.uc0_5 _ _ x0 x1).trans ((fin 0 _ _ (f0 _) (load_lower _) 5 x0 x1).trans (congrArg (OutRef.transform (OutRef.groups (refp m c)) (m ((c.tc : Thread nD τ).loc main_arg11))) (go 0 5 x0 x1 (h0.trans (Nat.zero_add _).symm) h1)).symm)
  · idx_vars x
    exact (OutHalf.uc0_4 _ _ x0 x1).trans ((fin 0 _ _ (f0 _) (load_lower _) 4 x0 x1).trans (congrArg (OutRef.transform (OutRef.groups (refp m c)) (m ((c.tc : Thread nD τ).loc main_arg11))) (go 0 4 x0 x1 (h0.trans (Nat.zero_add _).symm) h1)).symm)
  · idx_vars x
    exact (OutHalf.uc0_3 _ _ x0 x1).trans ((fin 0 _ _ (f0 _) (load_lower _) 3 x0 x1).trans (congrArg (OutRef.transform (OutRef.groups (refp m c)) (m ((c.tc : Thread nD τ).loc main_arg11))) (go 0 3 x0 x1 (h0.trans (Nat.zero_add _).symm) h1)).symm)
  · idx_vars x
    exact (OutHalf.uc0_2 _ _ x0 x1).trans ((fin 0 _ _ (f0 _) (load_lower _) 2 x0 x1).trans (congrArg (OutRef.transform (OutRef.groups (refp m c)) (m ((c.tc : Thread nD τ).loc main_arg11))) (go 0 2 x0 x1 (h0.trans (Nat.zero_add _).symm) h1)).symm)
  · idx_vars x
    exact (OutHalf.uc0_1 _ _ x0 x1).trans ((fin 0 _ _ (f0 _) (load_lower _) 1 x0 x1).trans (congrArg (OutRef.transform (OutRef.groups (refp m c)) (m ((c.tc : Thread nD τ).loc main_arg11))) (go 0 1 x0 x1 (h0.trans (Nat.zero_add _).symm) h1)).symm)
  · idx_vars x
    exact (OutHalf.uc0_0 _ _ _ _ _ x0 x1).trans ((fin 0 _ _ (f0 _) (load_lower _) 0 x0 x1).trans (congrArg (OutRef.transform (OutRef.groups (refp m c)) (m ((c.tc : Thread nD τ).loc main_arg11))) (go 0 0 x0 x1 (h0.trans (Nat.zero_add _).symm) (h1.trans (Nat.zero_add _).symm))).symm)

/-- The kernel's output array 1 is the reference's result. -/
theorem uc_final (c : Dev nD) : (dats m 0 c).arrAt 17 cfg0.N = OutRef.transform (OutRef.groups (refp m c)) (m ((c.tc : Thread nD τ).loc main_arg11)) := by
  refine (dats m 0 c).arrAt_eq_of_covers 17 _ (by decide +kernel) fun t _ y => ?_
  blk_simp
  exact uc_point m c t y

set_option maxHeartbeats 2000000 in
/-- What point `t` leaves in output 2's buffer is the reference's block there. -/
theorem us_point (c : Dev nD) (t : Fin cfg0.N) (y : S512x2048.Idx) :
    (dats m 0 c).after 18 t y = OutRef.transform (OutRef.groups (refp m c)) (m ((c.tc : Thread nD τ).loc main_arg12)) (((cfg0.win 18).blk t).view.emb y) := by
  have ht : t.val < 16 := lt_of_lt_of_eq t.isLt (by decide)
  have go : ∀ (q : Fin 2) (g : Fin 8) (x0 x1 : Fin 256), (y 0 : ℕ) = q * 256 + x0 → (y 1 : ℕ) = g * 256 + x1 →
      ((cfg0.win 18).blk t).view.emb y = ix2 (⟨t * 512 + (q * 256 + x0), by omega⟩ : Fin 8192) (⟨g * 256 + x1, by omega⟩ : Fin 2048) := by
    intro q g x0 x1 e0 e1
    blk_ext [idx t]
  rw [after0_18]; unfold Gen.outsAt0; frame_out [View.readCov_cons_toLoadRect]
  have fin := group_piece m c t ht (iblk m c 15 t) (m ((c.tc : Thread nD τ).loc main_arg12)) (blk15 m c t)
  have f0 := fun (w : Vec Ideal S256x1024 .f32) (l : Fin 256) (k : Fin 1024) => (congrFun (back_first t w (first m c t)) (ix2 l k)).trans (first_eq m c t ht l k)
  have f1 := second_eq m c t ht
  canon_tiles x h
  · idx_vars x
    exact (OutHalf.us1_7 _ _ x0 x1).trans ((fin 1 _ _ f1 (load_lower _) 7 x0 x1).trans (congrArg (OutRef.transform (OutRef.groups (refp m c)) (m ((c.tc : Thread nD τ).loc main_arg12))) (go 1 7 x0 x1 h0 h1)).symm)
  · idx_vars x
    exact (OutHalf.us1_6 _ _ x0 x1).trans ((fin 1 _ _ f1 (load_lower _) 6 x0 x1).trans (congrArg (OutRef.transform (OutRef.groups (refp m c)) (m ((c.tc : Thread nD τ).loc main_arg12))) (go 1 6 x0 x1 h0 h1)).symm)
  · idx_vars x
    exact (OutHalf.us1_5 _ _ x0 x1).trans ((fin 1 _ _ f1 (load_lower _) 5 x0 x1).trans (congrArg (OutRef.transform (OutRef.groups (refp m c)) (m ((c.tc : Thread nD τ).loc main_arg12))) (go 1 5 x0 x1 h0 h1)).symm)
  · idx_vars x
    exact (OutHalf.us1_4 _ _ x0 x1).trans ((fin 1 _ _ f1 (load_lower _) 4 x0 x1).trans (congrArg (OutRef.transform (OutRef.groups (refp m c)) (m ((c.tc : Thread nD τ).loc main_arg12))) (go 1 4 x0 x1 h0 h1)).symm)
  · idx_vars x
    exact (OutHalf.us1_3 _ _ x0 x1).trans ((fin 1 _ _ f1 (load_lower _) 3 x0 x1).trans (congrArg (OutRef.transform (OutRef.groups (refp m c)) (m ((c.tc : Thread nD τ).loc main_arg12))) (go 1 3 x0 x1 h0 h1)).symm)
  · idx_vars x
    exact (OutHalf.us1_2 _ _ x0 x1).trans ((fin 1 _ _ f1 (load_lower _) 2 x0 x1).trans (congrArg (OutRef.transform (OutRef.groups (refp m c)) (m ((c.tc : Thread nD τ).loc main_arg12))) (go 1 2 x0 x1 h0 h1)).symm)
  · idx_vars x
    exact (OutHalf.us1_1 _ _ x0 x1).trans ((fin 1 _ _ f1 (load_lower _) 1 x0 x1).trans (congrArg (OutRef.transform (OutRef.groups (refp m c)) (m ((c.tc : Thread nD τ).loc main_arg12))) (go 1 1 x0 x1 h0 h1)).symm)
  · idx_vars x
    exact (OutHalf.us1_0 _ _ x0 x1).trans ((fin 1 _ _ f1 (load_lower _) 0 x0 x1).trans (congrArg (OutRef.transform (OutRef.groups (refp m c)) (m ((c.tc : Thread nD τ).loc main_arg12))) (go 1 0 x0 x1 h0 (h1.trans (Nat.zero_add _).symm))).symm)
  · idx_vars x
    exact (OutHalf.us0_7 _ _ x0 x1).trans ((fin 0 _ _ (f0 _) (load_lower _) 7 x0 x1).trans (congrArg (OutRef.transform (OutRef.groups (refp m c)) (m ((c.tc : Thread nD τ).loc main_arg12))) (go 0 7 x0 x1 (h0.trans (Nat.zero_add _).symm) h1)).symm)
  · idx_vars x
    exact (OutHalf.us0_6 _ _ x0 x1).trans ((fin 0 _ _ (f0 _) (load_lower _) 6 x0 x1).trans (congrArg (OutRef.transform (OutRef.groups (refp m c)) (m ((c.tc : Thread nD τ).loc main_arg12))) (go 0 6 x0 x1 (h0.trans (Nat.zero_add _).symm) h1)).symm)
  · idx_vars x
    exact (OutHalf.us0_5 _ _ x0 x1).trans ((fin 0 _ _ (f0 _) (load_lower _) 5 x0 x1).trans (congrArg (OutRef.transform (OutRef.groups (refp m c)) (m ((c.tc : Thread nD τ).loc main_arg12))) (go 0 5 x0 x1 (h0.trans (Nat.zero_add _).symm) h1)).symm)
  · idx_vars x
    exact (OutHalf.us0_4 _ _ x0 x1).trans ((fin 0 _ _ (f0 _) (load_lower _) 4 x0 x1).trans (congrArg (OutRef.transform (OutRef.groups (refp m c)) (m ((c.tc : Thread nD τ).loc main_arg12))) (go 0 4 x0 x1 (h0.trans (Nat.zero_add _).symm) h1)).symm)
  · idx_vars x
    exact (OutHalf.us0_3 _ _ x0 x1).trans ((fin 0 _ _ (f0 _) (load_lower _) 3 x0 x1).trans (congrArg (OutRef.transform (OutRef.groups (refp m c)) (m ((c.tc : Thread nD τ).loc main_arg12))) (go 0 3 x0 x1 (h0.trans (Nat.zero_add _).symm) h1)).symm)
  · idx_vars x
    exact (OutHalf.us0_2 _ _ x0 x1).trans ((fin 0 _ _ (f0 _) (load_lower _) 2 x0 x1).trans (congrArg (OutRef.transform (OutRef.groups (refp m c)) (m ((c.tc : Thread nD τ).loc main_arg12))) (go 0 2 x0 x1 (h0.trans (Nat.zero_add _).symm) h1)).symm)
  · idx_vars x
    exact (OutHalf.us0_1 _ _ x0 x1).trans ((fin 0 _ _ (f0 _) (load_lower _) 1 x0 x1).trans (congrArg (OutRef.transform (OutRef.groups (refp m c)) (m ((c.tc : Thread nD τ).loc main_arg12))) (go 0 1 x0 x1 (h0.trans (Nat.zero_add _).symm) h1)).symm)
  · idx_vars x
    exact (OutHalf.us0_0 _ _ x0 x1).trans ((fin 0 _ _ (f0 _) (load_lower _) 0 x0 x1).trans (congrArg (OutRef.transform (OutRef.groups (refp m c)) (m ((c.tc : Thread nD τ).loc main_arg12))) (go 0 0 x0 x1 (h0.trans (Nat.zero_add _).symm) (h1.trans (Nat.zero_add _).symm))).symm)

/-- The kernel's output array 2 is the reference's result. -/
theorem us_final (c : Dev nD) : (dats m 0 c).arrAt 18 cfg0.N = OutRef.transform (OutRef.groups (refp m c)) (m ((c.tc : Thread nD τ).loc main_arg12)) := by
  refine (dats m 0 c).arrAt_eq_of_covers 18 _ (by decide +kernel) fun t _ y => ?_
  blk_simp
  exact us_point m c t y

set_option maxHeartbeats 2000000 in
/-- What point `t` leaves in output 3's buffer is the reference's block there. -/
theorem gate_point (c : Dev nD) (t : Fin cfg0.N) (y : S512x2048.Idx) :
    (dats m 0 c).after 19 t y = OutRef.silu (OutRef.upper (refp m c)) (((cfg0.win 19).blk t).view.emb y) := by
  have ht : t.val < 16 := lt_of_lt_of_eq t.isLt (by decide)
  have go : ∀ (q : Fin 2) (x0 : Fin 256) (x1 : Fin 2048), (y 0 : ℕ) = q * 256 + x0 → (y 1 : ℕ) = x1 →
      ((cfg0.win 19).blk t).view.emb y = ix2 (⟨t * 512 + (q * 256 + x0), by omega⟩ : Fin 8192) x1 := by
    intro q x0 x1 e0 e1
    blk_ext [idx t]
  rw [after0_19]; unfold Gen.outsAt0; frame_out [View.readCov_cons_toLoadRect]
  have fin := gate_piece m c t ht
  have f0 := fun (w : Vec Ideal S256x1024 .f32) (l : Fin 256) (k : Fin 1024) => (congrFun (back_first t w (first m c t)) (ix2 l k)).trans (first_eq m c t ht l k)
  have f1 := second_eq m c t ht
  canon_tiles x h
  · idx_vars x
    exact (fin 1 _ _ f1 (load_upper _) x0 x1).trans (congrArg (OutRef.silu (OutRef.upper (refp m c))) (go 1 x0 x1 h0 h1)).symm
  · idx_vars x
    exact (fin 0 _ _ (f0 _) (load_upper _) x0 x1).trans (congrArg (OutRef.silu (OutRef.upper (refp m c))) (go 0 x0 x1 (h0.trans (Nat.zero_add _).symm) h1)).symm

/-- The kernel's output array 3 is the reference's result. -/
theorem gate_final (c : Dev nD) : (dats m 0 c).arrAt 19 cfg0.N = OutRef.silu (OutRef.upper (refp m c)) := by
  refine (dats m 0 c).arrAt_eq_of_covers 19 _ (by decide +kernel) fun t _ y => ?_
  blk_simp
  exact gate_point m c t y

end Cert.EvenOutIdeal.Whole

end
-- ==== Proof.Out.lean ====
module

public import proofs.«01_k».proof.Defs
public import proofs.«01_k».proof.Proof.Gen.EvenOut.Frame
public import proofs.«01_k».proof.Proof.Gen.EvenOutRefIdeal
public import proofs.«01_k».proof.Proof.OutPoint
public import Idealize.ShloMosaic.Lib.Claim

@[expose] public section

set_option maxRecDepth 16384

noncomputable section

/-! # The claims about the even layer's output projection with the odd layer's input projection -/

namespace Cert.Out

open Idealize.ShloMosaic Idealize.SL.Sem

/-- The kernel runs, ends quiescent and leaves its arguments. -/
theorem frame_kernel : quiescent_EvenOut (hEvenOut := Cert.EvenOut.Gen.facts) := fun m ρ _ => Cert.EvenOut.Gen.frame m ρ

/-- So does its idealization. -/
theorem frame_ideal : quiescent_EvenOutIdeal (hEvenOutIdeal := Cert.EvenOutIdeal.Gen.facts) := fun m ρ _ => Cert.EvenOutIdeal.Gen.frame m ρ

/-- The reference runs, ends quiescent and leaves its arguments. -/
theorem frame_ref : quiescent_EvenOutRefIdeal (hEvenOutRefIdeal := Cert.EvenOutRefIdeal.Gen.facts) := fun m g _ =>
  (θ_run Cert.EvenOutRefIdeal.defs _ _).mono (fun r h => ⟨fun c => (h c).2.2.2.2, sem_eq_zero_of_no_sems (by decide) r.2⟩)
    (Cert.EvenOutRefIdeal.Value.run m g)

/-- No operation was replaced. -/
theorem preserves : preserves_EvenOut_EvenOutIdeal := trivial

/-- Both programs' arguments hold the same arrays. -/
def Agree (m : (ℓ : Loc Cert.EvenOutIdeal.nD Cert.EvenOutIdeal.τ Cert.EvenOutIdeal.sig) → Buf (Elt Ideal) ℓ)
    (m' : (ℓ : Loc Cert.EvenOutRefIdeal.nD Cert.EvenOutRefIdeal.τ Cert.EvenOutRefIdeal.sig) → Buf (Elt Ideal) ℓ) : Prop :=
  ∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)
      ∧ m' ((c.tc : Thread Cert.EvenOutRefIdeal.nD Cert.EvenOutRefIdeal.τ).loc Cert.EvenOutRefIdeal.main_arg9) = m ((c.tc : Thread Cert.EvenOutIdeal.nD Cert.EvenOutIdeal.τ).loc Cert.EvenOutIdeal.main_arg9)
      ∧ m' ((c.tc : Thread Cert.EvenOutRefIdeal.nD Cert.EvenOutRefIdeal.τ).loc Cert.EvenOutRefIdeal.main_arg10) = m ((c.tc : Thread Cert.EvenOutIdeal.nD Cert.EvenOutIdeal.τ).loc Cert.EvenOutIdeal.main_arg10)
      ∧ m' ((c.tc : Thread Cert.EvenOutRefIdeal.nD Cert.EvenOutRefIdeal.τ).loc Cert.EvenOutRefIdeal.main_arg11) = m ((c.tc : Thread Cert.EvenOutIdeal.nD Cert.EvenOutIdeal.τ).loc Cert.EvenOutIdeal.main_arg11)
      ∧ m' ((c.tc : Thread Cert.EvenOutRefIdeal.nD Cert.EvenOutRefIdeal.τ).loc Cert.EvenOutRefIdeal.main_arg12) = m ((c.tc : Thread Cert.EvenOutIdeal.nD Cert.EvenOutIdeal.τ).loc Cert.EvenOutIdeal.main_arg12)

/-- The reference's projected columns, of the kernel's arguments. -/
theorem proj_eq
    (m : (ℓ : Loc Cert.EvenOutIdeal.nD Cert.EvenOutIdeal.τ Cert.EvenOutIdeal.sig) → Buf (Elt Ideal) ℓ)
    (m' : (ℓ : Loc Cert.EvenOutRefIdeal.nD Cert.EvenOutRefIdeal.τ Cert.EvenOutRefIdeal.sig) → Buf (Elt Ideal) ℓ)
    (hagree : Agree m m') (c : Dev Cert.EvenOutIdeal.nD) :
    Cert.EvenOutRefIdeal.Value.res_main_v100 (F := Ideal) (StableHlo.launchContents m' c) = Cert.EvenOutIdeal.Whole.refp m c := by
  obtain ⟨a0, a1, a2, a3, a4, a5, a6, a7, a8, a9, a10, a11, a12⟩ := hagree c
  refine (Cert.OutRef.proj_eq m' c).trans ?_
  rw [Cert.OutRef.x1_eq m' c, a0, a1, a2, a3, a4, a5, a6, a7, a8, a9, a10]

/-- Their first half, in eight groups. -/
theorem groups_eq
    (m : (ℓ : Loc Cert.EvenOutIdeal.nD Cert.EvenOutIdeal.τ Cert.EvenOutIdeal.sig) → Buf (Elt Ideal) ℓ)
    (m' : (ℓ : Loc Cert.EvenOutRefIdeal.nD Cert.EvenOutRefIdeal.τ Cert.EvenOutRefIdeal.sig) → Buf (Elt Ideal) ℓ)
    (hagree : Agree m m') (c : Dev Cert.EvenOutIdeal.nD) :
    Cert.EvenOutRefIdeal.Value.res_main_v103 (F := Ideal) (StableHlo.launchContents m' c) = Cert.OutRef.groups (Cert.EvenOutIdeal.Whole.refp m c) := by
  unfold Cert.EvenOutRefIdeal.Value.res_main_v103
  rw [proj_eq m m' hagree c]
  rfl

/-- Their second half. -/
theorem upper_eq
    (m : (ℓ : Loc Cert.EvenOutIdeal.nD Cert.EvenOutIdeal.τ Cert.EvenOutIdeal.sig) → Buf (Elt Ideal) ℓ)
    (m' : (ℓ : Loc Cert.EvenOutRefIdeal.nD Cert.EvenOutRefIdeal.τ Cert.EvenOutRefIdeal.sig) → Buf (Elt Ideal) ℓ)
    (hagree : Agree m m') (c : Dev Cert.EvenOutIdeal.nD) :
    Cert.EvenOutRefIdeal.Value.res_main_v102 (F := Ideal) (StableHlo.launchContents m' c) = Cert.OutRef.upper (Cert.EvenOutIdeal.Whole.refp m c) := by
  unfold Cert.EvenOutRefIdeal.Value.res_main_v102
  rw [proj_eq m m' hagree c]
  rfl

set_option maxHeartbeats 2000000 in
/-- The kernel and the reference end with the same four arrays. -/
theorem algebraic : algebraic_EvenOutIdeal_EvenOutRefIdeal (hEvenOutIdeal := Cert.EvenOutIdeal.Gen.facts)
    (hEvenOutRefIdeal := Cert.EvenOutRefIdeal.Gen.facts) := by
  pair_intro
  · run_from Cert.EvenOutIdeal.Value.run_blocks m g
  · run_from Cert.EvenOutRefIdeal.Value.run m' g'
    · obtain ⟨a0, a1, a2, a3, a4, a5, a6, a7, a8, a9, a10, a11, a12⟩ := hagree c
      refine (Cert.OutRef.x1_eq m' c).trans (Eq.trans ?_ (Cert.EvenOutIdeal.Whole.next_final m c).symm)
      rw [a0, a1, a2, a3, a4, a5, a6, a7, a8, a9]
    · refine Eq.trans ?_ (Cert.EvenOutIdeal.Whole.uc_final m c).symm
      rw [groups_eq m m' hagree c]
      rfl
    · refine Eq.trans ?_ (Cert.EvenOutIdeal.Whole.us_final m c).symm
      rw [groups_eq m m' hagree c]
      rfl
    · refine Eq.trans ?_ (Cert.EvenOutIdeal.Whole.gate_final m c).symm
      rw [upper_eq m m' hagree c]
      rfl

end Cert.Out

end
-- ==== Proof.PromptRef.lean ====
module

public import proofs.«01_k».proof.Proof.AttnMath
public import proofs.«01_k».proof.Proof.Gen.AttnPromptRefIdeal.Run
public import Idealize.ShloMosaic.Lib.Pointwise

@[expose] public section

set_option maxRecDepth 16384

noncomputable section

/-! # The reference's differential attention of the prompt batch, stage by stage and at an element -/

namespace Cert.PromptRef

open Cert.AttnPromptRefIdeal Cert.AttnPromptRefIdeal.Gen Idealize.ShloMosaic Idealize.ShloMosaic.TcCoe Idealize.SL.Sem Idealize.ShloMosaic.StableHlo

/-- The scaled scores of every head and map. -/
def scores (a0 : FVec Ideal S8192x1024 .f32) (a1 : FVec Ideal S8192x1024 .bf16) : FVec Ideal S32x8x2x256x256 .f32 :=
  mulf (Host.dotGeneral dot_S32x256x8x2x64_S32x256x8x2x64_S32x8x2x256x256_4_4_1_1_023_023 none
    (shapeCast _ a0 shapeCasts_S8192x1024_S32x256x8x2x64) (shapeCast _ (extf .f32 a1 bitsLt_bf16_f32) shapeCasts_S8192x1024_S32x256x8x2x64))
    (broadcastInDim S32x8x2x256x256 ![] bcast_S_S32x8x2x256x256 (constant S_ .f32 0x3E000000#32))

/-- Each row's largest score. -/
def rowMax (s : FVec Ideal S32x8x2x256x256 .f32) : FVec Ideal S32x8x2x256 .f32 :=
  Host.reduce FloatOps.maximumf s (constant S_ .f32 0xFF800000#32) reducesTo_S32x8x2x256x256_S32x8x2x256_d4 h_S_

/-- Exponentials of the scores less their row's largest. -/
def weights (s : FVec Ideal S32x8x2x256x256 .f32) (t : FVec Ideal S32x8x2x256 .f32) : FVec Ideal S32x8x2x256x256 .f32 :=
  Host.exp (subf s (broadcastInDim S32x8x2x256x256 ![0, 1, 2, 3, 4] bcast_S32x8x2x256x1_S32x8x2x256x256_0_1_2_3_4
    (broadcastInDim S32x8x2x256x1 ![0, 1, 2, 3] bcast_S32x8x2x256_S32x8x2x256x1_0_1_2_3
      (maximumf (broadcastInDim S32x8x2x256 ![] bcast_S_S32x8x2x256 (constant S_ .f32 0xFF800000#32)) t))))

/-- Each row's weights over their sum. -/
def probs (e : FVec Ideal S32x8x2x256x256 .f32) : FVec Ideal S32x8x2x256x256 .f32 :=
  Host.divf e (broadcastInDim S32x8x2x256x256 ![0, 1, 2, 3, 4] bcast_S32x8x2x256x1_S32x8x2x256x256_0_1_2_3_4
    (broadcastInDim S32x8x2x256x1 ![0, 1, 2, 3] bcast_S32x8x2x256_S32x8x2x256x1_0_1_2_3
      (Host.reduceAdd e (constant S_ .f32 0x00000000#32) reducesTo_S32x8x2x256x256_S32x8x2x256_d4 h_S_)))

/-- The second map's weight `lam`. -/
def lam (a4 a5 a6 a7 : FVec Ideal S1x64 .f32) : FVec Ideal S_ .f32 :=
  addf (subf (Host.exp (Host.reduceAdd (mulf (shapeCast _ a4 shapeCasts_S1x64_S64) (shapeCast _ a5 shapeCasts_S1x64_S64)) (constant S_ .f32 0x00000000#32) reducesTo_S64_S_d0 h_S_))
    (Host.exp (Host.reduceAdd (mulf (shapeCast _ a6 shapeCasts_S1x64_S64) (shapeCast _ a7 shapeCasts_S1x64_S64)) (constant S_ .f32 0x00000000#32) reducesTo_S64_S_d0 h_S_)))
    (constant S_ .f32 0x3E4CCCCD#32)

/-- The values averaged with the first map's probabilities less `lam` times the second's. -/
def avg (l : FVec Ideal S_ .f32) (p : FVec Ideal S32x8x2x256x256 .f32) (a2 : FVec Ideal S8192x1024 .bf16) : FVec Ideal S32x256x8x128 .f32 :=
  transpose S32x256x8x128 [0, 3, 1, 2] (Host.dotGeneral dot_S32x256x8x128_S32x8x256x256_S32x8x128x256_1_3_3_2_02_01 none
    (shapeCast _ (extf .f32 a2 bitsLt_bf16_f32) shapeCasts_S8192x1024_S32x256x8x128)
    (subf (shapeCast _ (extractStridedSlice S32x8x1x256x256 ![0, 0, 0, 0, 0] p slices_S32x8x2x256x256_S32x8x1x256x256_0_0_0_0_0) shapeCasts_S32x8x1x256x256_S32x8x256x256)
      (mulf (broadcastInDim S32x8x256x256 ![] bcast_S_S32x8x256x256 l)
        (shapeCast _ (extractStridedSlice S32x8x1x256x256 ![0, 0, 1, 0, 0] p slices_S32x8x2x256x256_S32x8x1x256x256_0_0_1_0_0) shapeCasts_S32x8x1x256x256_S32x8x256x256))))
    transposes_S32x8x128x256_S32x256x8x128_0_3_1_2

/-- The head-wise normalisation, gain and gate. -/
def finish (o : FVec Ideal S32x256x8x128 .f32) (a8 : FVec Ideal S1x128 .f32) (a3 : FVec Ideal S8192x1024 .bf16) : FVec Ideal S8192x1024 .bf16 :=
  truncf .bf16 (mulf (shapeCast _ (mulf (mulf (mulf o (broadcastInDim S32x256x8x128 ![0, 1, 2, 3] bcast_S32x256x8x1_S32x256x8x128_0_1_2_3
    (Host.rsqrt (addf (Host.divf (broadcastInDim S32x256x8x1 ![0, 1, 2] bcast_S32x256x8_S32x256x8x1_0_1_2
        (Host.reduceAdd (mulf o o) (constant S_ .f32 0x00000000#32) reducesTo_S32x256x8x128_S32x256x8_d3 h_S_))
      (broadcastInDim S32x256x8x1 ![] bcast_S_S32x256x8x1 (constant S_ .f32 0x43000000#32)))
      (broadcastInDim S32x256x8x1 ![] bcast_S_S32x256x8x1 (constant S_ .f32 0x3727C5AC#32))))))
    (broadcastInDim S32x256x8x128 ![0, 1, 2, 3] bcast_S1x1x1x128_S32x256x8x128_0_1_2_3 (broadcastInDim S1x1x1x128 ![3] bcast_S128_S1x1x1x128_3 (shapeCast _ a8 shapeCasts_S1x128_S128))))
    (broadcastInDim S32x256x8x128 ![] bcast_S_S32x256x8x128 (constant S_ .f32 0x3F4CCCCD#32))) shapeCasts_S32x256x8x128_S8192x1024)
    (extf .f32 a3 bitsLt_bf16_f32)) bitsLt_bf16_f32

/-- The reference's attention of given inputs: its stages composed. -/
def attn (a0 : FVec Ideal S8192x1024 .f32) (a1 a2 a3 : FVec Ideal S8192x1024 .bf16) (a4 a5 a6 a7 : FVec Ideal S1x64 .f32) (a8 : FVec Ideal S1x128 .f32) :
    FVec Ideal S8192x1024 .bf16 :=
  finish (avg (lam a4 a5 a6 a7) (probs (weights (scores a0 a1) (rowMax (scores a0 a1)))) a2) a8 a3

/-- The reference's result is its stages composed. -/
theorem result_eq (m : (ℓ : Loc nD τ sig) → Buf (Elt Ideal) ℓ) (c : Dev nD) :
    Value.res_out0 (F := Ideal) m c
      = attn (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Value.res_out0 Value.res_main_v59 attn finish avg lam probs weights rowMax scores
  rfl

/-! ## The stages at an index -/

/-- A row's largest score, folded from minus infinity. -/
theorem rowMax_at (s : FVec Ideal S32x8x2x256x256 .f32) (b : Fin 32) (h : Fin 8) (p : Fin 2) (r : Fin 256) :
    rowMax s (ix4 b h p r) = Finset.univ.fold max (Ideal.ofBits .f32 0xFF800000#32) fun k => s (ix5 b h p r k) :=
  AttnMath.reduce_max_last s _ _ _ b h p r

/-- A score is an eighth of the contraction of a query row with a key row. -/
theorem scores_at (a0 : FVec Ideal S8192x1024 .f32) (a1 : FVec Ideal S8192x1024 .bf16) (b : Fin 32) (h : Fin 8) (p : Fin 2) (r j : Fin 256) :
    scores a0 a1 (ix5 b h p r j) = (∑ x : Fin 64, a0 (ix2 ⟨b * 256 + r, by omega⟩ ⟨h * 128 + p * 64 + x, by omega⟩)
      * a1 (ix2 ⟨b * 256 + j, by omega⟩ ⟨h * 128 + p * 64 + x, by omega⟩)) * Ideal.ofBits .f32 0x3E000000#32 := by
  pointwise [scores]

/-- A weight is the exponential of a score less its row's largest. -/
theorem weights_at (s : FVec Ideal S32x8x2x256x256 .f32) (t : FVec Ideal S32x8x2x256 .f32) (b : Fin 32) (h : Fin 8) (p : Fin 2) (r j : Fin 256) :
    weights s t (ix5 b h p r j) = Ideal.exp (s (ix5 b h p r j) - max (Ideal.ofBits .f32 0xFF800000#32) (t (ix4 b h p r))) := by
  pointwise [weights]

/-- A probability is a weight over its row's sum. -/
theorem probs_at (e : FVec Ideal S32x8x2x256x256 .f32) (b : Fin 32) (h : Fin 8) (p : Fin 2) (r j : Fin 256) :
    probs e (ix5 b h p r j) = Ideal.div (e (ix5 b h p r j)) (∑ k, e (ix5 b h p r k)) := by
  pointwise [probs]

/-- The second map's weight. -/
theorem lam_at (a4 a5 a6 a7 : FVec Ideal S1x64 .f32) (j : S_.Idx) : lam a4 a5 a6 a7 j
    = Ideal.exp (∑ x : Fin 64, a4 (ix2 0 x) * a5 (ix2 0 x)) - Ideal.exp (∑ x : Fin 64, a6 (ix2 0 x) * a7 (ix2 0 x)) + Ideal.ofBits .f32 0x3E4CCCCD#32 := by
  pointwise [lam]

/-- An averaged value: over positions, the value times the difference of the maps' probabilities. -/
theorem avg_at (l : FVec Ideal S_ .f32) (p : FVec Ideal S32x8x2x256x256 .f32) (a2 : FVec Ideal S8192x1024 .bf16)
    (b : Fin 32) (h : Fin 8) (r : Fin 256) (d : Fin 128) : avg l p a2 (ix4 b r h d)
    = ∑ x : Fin 256, a2 (ix2 ⟨b * 256 + x, by omega⟩ ⟨h * 128 + d, by omega⟩) * (p (ix5 b h 0 r x) - l ix0 * p (ix5 b h 1 r x)) := by
  pointwise [avg]

/-- The result's element from the averages of its head and row. -/
theorem finish_at (o : FVec Ideal S32x256x8x128 .f32) (a8 : FVec Ideal S1x128 .f32) (a3 : FVec Ideal S8192x1024 .bf16) (b : Fin 32) (r : Fin 256) (h : Fin 8) (d : Fin 128) :
    finish o a8 a3 (ix2 ⟨b * 256 + r, by omega⟩ ⟨h * 128 + d, by omega⟩)
      = AttnMath.normed (fun x => o (ix4 b r h x)) (a8 (ix2 0 d)) (a3 (ix2 ⟨b * 256 + r, by omega⟩ ⟨h * 128 + d, by omega⟩)) d := by
  unfold AttnMath.normed
  pointwise [finish]

/-! ## The reference at an element, on finite inputs -/

section Finite

variable (a0 : FVec Ideal S8192x1024 .f32) (a1 a2 a3 : FVec Ideal S8192x1024 .bf16) (a4 a5 a6 a7 : FVec Ideal S1x64 .f32) (a8 : FVec Ideal S1x128 .f32)
  (b : Fin 32) (h : Fin 8) (r : Fin 256) (qr : Fin 128 → ℝ) (kr vr : Fin 256 → Fin 128 → ℝ) (lr : ℝ)

/-- A real score. -/
theorem score_real (hq : ∀ d : Fin 128, a0 (ix2 ⟨b * 256 + r, by omega⟩ ⟨h * 128 + d, by omega⟩) = qr d)
    (hk : ∀ (j : Fin 256) (d : Fin 128), a1 (ix2 ⟨b * 256 + j, by omega⟩ ⟨h * 128 + d, by omega⟩) = kr j d) (p : Fin 2) (j : Fin 256) :
    scores a0 a1 (ix5 b h p r j) = (AttnMath.score qr (kr j) (p * 64) (by omega) : EReal) := by
  have col : ∀ x : Fin 64, (⟨h * 128 + p * 64 + x, by omega⟩ : Fin 1024) = ⟨h * 128 + (p * 64 + x), by omega⟩ := fun x => Fin.ext (Nat.add_assoc _ _ _)
  rw [scores_at, AttnMath.eighth, Finset.sum_congr rfl fun x _ => by
    rw [col, hq ⟨p * 64 + x, by omega⟩, hk j ⟨p * 64 + x, by omega⟩, ← EReal.coe_mul], AttnMath.coe_sum, ← EReal.coe_mul]
  rfl

/-- Real scores' weights: exponentials of the scores less one real number. -/
theorem weight_real (s : FVec Ideal S32x8x2x256x256 .f32) (p : Fin 2) (f : Fin 256 → ℝ) (hs : ∀ j, s (ix5 b h p r j) = f j) :
    ∃ M : ℝ, ∀ j, weights s (rowMax s) (ix5 b h p r j) = Ideal.exp ((f j : EReal) - (M : EReal)) := by
  obtain ⟨M, hM⟩ := AttnMath.fold_max_real (n := 255) f
  refine ⟨M, fun j => ?_⟩
  rw [weights_at, rowMax_at, AttnMath.neg_inf, max_eq_right bot_le, hs, ← hM]
  simp only [hs]

/-- The reference at an element, on finite inputs. -/
theorem attn_at (hq : ∀ d : Fin 128, a0 (ix2 ⟨b * 256 + r, by omega⟩ ⟨h * 128 + d, by omega⟩) = qr d)
    (hk : ∀ (j : Fin 256) (d : Fin 128), a1 (ix2 ⟨b * 256 + j, by omega⟩ ⟨h * 128 + d, by omega⟩) = kr j d)
    (hv : ∀ (j : Fin 256) (d : Fin 128), a2 (ix2 ⟨b * 256 + j, by omega⟩ ⟨h * 128 + d, by omega⟩) = vr j d)
    (hl : AttnMath.lamOf (fun x => a4 (ix2 0 x)) (fun x => a5 (ix2 0 x)) (fun x => a6 (ix2 0 x)) (fun x => a7 (ix2 0 x)) = lr) (d : Fin 128) :
    attn a0 a1 a2 a3 a4 a5 a6 a7 a8 (ix2 ⟨b * 256 + r, by omega⟩ ⟨h * 128 + d, by omega⟩)
      = AttnMath.normed (fun x => AttnMath.diffAvg qr kr vr lr x) (a8 (ix2 0 d)) (a3 (ix2 ⟨b * 256 + r, by omega⟩ ⟨h * 128 + d, by omega⟩)) d := by
  obtain ⟨M0, h0⟩ := weight_real b h r (scores a0 a1) 0 _ fun j => score_real a0 a1 b h r qr kr hq hk 0 j
  obtain ⟨M1, h1⟩ := weight_real b h r (scores a0 a1) 1 _ fun j => score_real a0 a1 b h r qr kr hq hk 1 j
  have hlam : lam a4 a5 a6 a7 ix0 = (lr : EReal) := (lam_at a4 a5 a6 a7 ix0).trans hl
  unfold attn
  rw [finish_at]
  congr 1
  funext d
  rw [avg_at, hlam]
  simp only [hv, probs_at]
  exact AttnMath.ref_avg _ _ (fun j => vr j d) M0 M1 lr _ _ h0 h1

end Finite

end Cert.PromptRef

end
-- ==== Proof.PromptHead.lean ====
module

public import proofs.«01_k».proof.Proof.Gen.AttnPromptIdeal.Frame
public import proofs.«01_k».proof.Proof.AttnMath
public import Idealize.ShloMosaic.Lib.Pointwise

@[expose] public section

set_option maxRecDepth 16384

noncomputable section

/-! # One head of one sequence in the prompt batch's attention body

The printed body cuts each of its 32 heads into values at different places. Here a head is written once as one function
of its tiles and read at an element, on finite tiles. -/

namespace Cert.PromptHead

open Cert.AttnPromptIdeal Cert.AttnPromptIdeal.Gen Idealize.ShloMosaic Idealize.ShloMosaic.TcCoe Idealize.SL.Sem

/-- The two maps' scaled queries, one above the other, each padded by zeros in the other map's lanes. -/
def stackQ (q : FVec Ideal S256x128 .f32) : FVec Ideal S512x128 .bf16 :=
  have qs : FVec Ideal S256x128 .bf16 := truncf .bf16 (mulf q
    (broadcast S256x128 (Named.named (F := Ideal) (φ := .f32) κ "qscale" 0x3E38AA3B#32))) bitsLt_bf16_f32
  have low : IVec S256x128 1 := broadcastTo S256x128 (shapeCast S1x128 k0_pay3 shapeCasts_S1x128_S1x128) broadcasts_S1x128_S256x128
  have z : FVec Ideal S256x128 .bf16 := broadcast S256x128 (Scalar.ofBits .bf16 0x0000#16)
  concatenate S512x128 0 [⟨S256x128, select low qs z⟩, ⟨S256x128, select low z qs⟩] concatenates_S256x128_S256x128_S512x128_d0

/-- The scores of every query of both maps against the sequence's keys. -/
def scores (q : FVec Ideal S512x128 .bf16) (k : FVec Ideal S256x128 .bf16) : FVec Ideal S512x256 .f32 :=
  matmul dot_S512x128_S256x128_S512x256_1_1_0_0_n_n none q k (constant S512x256 .f32 0x00000000#32)

/-- The unnormalised weights: two to the power of each score less its row's largest. -/
def weights (s : FVec Ideal S512x256 .f32) : FVec Ideal S512x256 .bf16 :=
  truncf .bf16 (exp2 (subf s (broadcastTo S512x256
    (shapeCast S512x1 (multiReduction .maximumf [1] S512 s 0xFF800000#32 reduces_S512x256_S512 (.inl rfl) rfl)
      shapeCasts_S512_S512x1) broadcasts_S512x1_S512x256))) bitsLt_bf16_f32

/-- The weighted values beside the weights' sums, from the values with columns of ones beside them. -/
def sums (e : FVec Ideal S512x256 .bf16) (v : FVec Ideal S256x128 .bf16) : FVec Ideal S512x256 .f32 :=
  matmul dot_S512x256_S256x256_S512x256_1_0_0_1_n_n none e
    (concatenate S256x256 1 [⟨S256x128, v⟩, ⟨S256x128, k0_pay4 (F := Ideal)⟩] concatenates_S256x128_S256x128_S256x256_d1)
    (constant S512x256 .f32 0x00000000#32)

/-- The first map's average less `lam` times the second's. -/
def differ (lam : FVec Ideal S1x1 .f32) (oa : FVec Ideal S512x256 .f32) : FVec Ideal S256x128 .f32 :=
  have on : FVec Ideal S512x128 .f32 := mulf (extractStridedSlice S512x128 ![0, 0] oa slices_S512x256_o0_0_S512x128)
    (divf (broadcast S512x128 (Scalar.ofBits .f32 0x3F800000#32)) (extractStridedSlice S512x128 ![0, 128] oa slices_S512x256_o0_128_S512x128))
  subf (extractStridedSlice S256x128 ![0, 0] on slices_S512x128_o0_0_S256x128)
    (mulf (broadcastTo S256x128 lam broadcasts_S1x1_S256x128) (extractStridedSlice S256x128 ![256, 0] on slices_S512x128_o256_0_S256x128))

/-- The root-mean-square normalisation, its gain, the constant factor and the gate. -/
def finish (o : FVec Ideal S256x128 .f32) (g : FVec Ideal S1x128 .f32) (sz : FVec Ideal S256x128 .bf16) : FVec Ideal S256x128 .bf16 :=
  have ms : FVec Ideal S256x1 .f32 := divf (shapeCast S256x1 (multiReduction .add [1] S256 (mulf o o) 0x00000000#32 reduces_S256x128_S256 (.inl rfl) rfl)
    shapeCasts_S256_S256x1) (broadcast S256x1 (Scalar.ofBits .f32 0x43000000#32))
  have r : FVec Ideal S256x1 .f32 := rsqrt (addf ms (broadcast S256x1 (Scalar.ofBits .f32 0x3727C5AC#32)))
  truncf .bf16 (mulf (mulf (mulf (mulf o (broadcastTo S256x128 r broadcasts_S256x1_S256x128))
    (broadcastTo S256x128 (shapeCast S1x128 g shapeCasts_S1x128_S1x128) broadcasts_S1x128_S256x128))
    (broadcast S256x128 (Scalar.ofBits .f32 0x3F4CCCCD#32))) (extf .f32 sz bitsLt_bf16_f32)) bitsLt_bf16_f32

/-- A head's differential average, before the normalisation. -/
def avg (lam : FVec Ideal S1x1 .f32) (q : FVec Ideal S256x128 .f32) (k v : FVec Ideal S256x128 .bf16) : FVec Ideal S256x128 .f32 :=
  differ lam (sums (weights (scores (stackQ q) k)) v)

/-- A whole head. -/
def head (lam : FVec Ideal S1x1 .f32) (q : FVec Ideal S256x128 .f32) (k v : FVec Ideal S256x128 .bf16) (g : FVec Ideal S1x128 .f32)
    (sz : FVec Ideal S256x128 .bf16) : FVec Ideal S256x128 .bf16 :=
  finish (avg lam q k v) g sz

/-! ## A head at an element, on finite tiles -/

/-- The named scale is an eighth over the logarithm of two. -/
theorem scale_eq : Named.named (F := Ideal) (φ := .f32) κ "qscale" 0x3E38AA3B#32 = (((1 / 8) * (Real.log 2)⁻¹ : ℝ) : EReal) := rfl

/-- Upper rows of the stack: the scaled query in the first map's lanes, zero in the others. -/
theorem stack_lo (q : FVec Ideal S256x128 .f32) (r : Fin 256) (d : Fin 128) :
    stackQ q (ix2 ⟨r, by omega⟩ d) = if d.val < 64 then q (ix2 r d) * (((1 / 8) * (Real.log 2)⁻¹ : ℝ) : EReal) else 0 := by
  pointwise [stackQ, k0_pay3]
  rw [AttnMath.lane_lt, scale_eq]
  by_cases h : d.val < 64
  · rw [if_pos h, if_pos h]; rfl
  · rw [if_neg h, if_neg h]; rfl

/-- Lower rows of the stack: the scaled query in the second map's lanes, zero in the others. -/
theorem stack_hi (q : FVec Ideal S256x128 .f32) (r : Fin 256) (d : Fin 128) :
    stackQ q (ix2 ⟨256 + r, by omega⟩ d) = if d.val < 64 then 0 else q (ix2 r d) * (((1 / 8) * (Real.log 2)⁻¹ : ℝ) : EReal) := by
  pointwise [stackQ, k0_pay3]
  rw [AttnMath.lane_lt, scale_eq]
  by_cases h : d.val < 64
  · rw [if_pos h, if_pos h]; rfl
  · rw [if_neg h, if_neg h]; rfl

section Finite

variable (q : FVec Ideal S256x128 .f32) (k v : FVec Ideal S256x128 .bf16) (lam : FVec Ideal S1x1 .f32)
  (qr kr vr : Fin 256 → Fin 128 → ℝ) (lr : ℝ)

/-- The scores of the first map's rows. -/
theorem scores_lo (hq : ∀ r d, q (ix2 r d) = qr r d) (hk : ∀ j d, k (ix2 j d) = kr j d) (r j : Fin 256) :
    scores (stackQ q) k (ix2 ⟨r, by omega⟩ j) = ((AttnMath.score (qr r) (kr j) 0 (by omega) / Real.log 2 : ℝ) : EReal) := by
  pointwise [scores]
  rw [AttnMath.sum_low _ (fun d => qr r ⟨d, by omega⟩ * ((1 / 8) * (Real.log 2)⁻¹) * kr j ⟨d, by omega⟩)
    (fun d => by rw [stack_lo, if_pos d.isLt, hq, hk, ← EReal.coe_mul, ← EReal.coe_mul])
    (fun d => by rw [stack_lo, if_neg (by simp), zero_mul])]
  simp only [AttnMath.score, Nat.zero_add, Finset.sum_mul, Finset.sum_div]
  congr 1; refine Finset.sum_congr rfl fun d _ => ?_; ring

/-- The scores of the second map's rows. -/
theorem scores_hi (hq : ∀ r d, q (ix2 r d) = qr r d) (hk : ∀ j d, k (ix2 j d) = kr j d) (r j : Fin 256) :
    scores (stackQ q) k (ix2 ⟨256 + r, by omega⟩ j) = ((AttnMath.score (qr r) (kr j) 64 le_rfl / Real.log 2 : ℝ) : EReal) := by
  pointwise [scores]
  rw [AttnMath.sum_high _ (fun d => qr r ⟨64 + d, by omega⟩ * ((1 / 8) * (Real.log 2)⁻¹) * kr j ⟨64 + d, by omega⟩)
    (fun d => by rw [stack_hi, if_pos d.isLt, zero_mul])
    (fun d => by rw [stack_hi, if_neg (by simp), hq, hk, ← EReal.coe_mul, ← EReal.coe_mul])]
  simp only [AttnMath.score, Finset.sum_mul, Finset.sum_div]
  congr 1; refine Finset.sum_congr rfl fun d _ => ?_; ring

/-- A row whose scores are real numbers over the logarithm of two yields the exponential average of the values. -/
theorem row_avg (S : FVec Ideal S512x256 .f32) (r : Fin 512) (s : Fin 256 → ℝ)
    (hS : ∀ j, S (ix2 r j) = ((s j / Real.log 2 : ℝ) : EReal)) (hv : ∀ j d, v (ix2 j d) = vr j d) (l : Fin 128) :
    sums (weights S) v (ix2 r ⟨l, by omega⟩) * Ideal.div 1 (sums (weights S) v (ix2 r ⟨128 + l, by omega⟩))
      = (AttnMath.expAvg s (fun j => vr j l) : EReal) := by
  obtain ⟨M, hM⟩ := AttnMath.fold_max_real (n := 255) fun j => s j / Real.log 2
  have hw : ∀ j, weights S (ix2 r j) = Ideal.exp2 (((s j / Real.log 2 : ℝ) : EReal) - (M : EReal)) := fun j => by
    pointwise [weights]
    rw [AttnMath.neg_inf, ← hM]
    simp only [hS]
    rfl
  pointwise [sums, k0_pay4]
  simp only [hv]
  exact AttnMath.kernel_avg s (fun j => vr j l) M (fun j => weights S (ix2 r j)) hw

/-- A head's differential average on finite tiles: the first map's exponential average less `lr` times the second's. -/
theorem avg_at (hq : ∀ r d, q (ix2 r d) = qr r d) (hk : ∀ j d, k (ix2 j d) = kr j d) (hv : ∀ j d, v (ix2 j d) = vr j d)
    (hl : lam (ix2 0 0) = lr) (r : Fin 256) (l : Fin 128) :
    avg lam q k v (ix2 r l) = (AttnMath.diffAvg (qr r) kr vr lr l : EReal) := by
  unfold AttnMath.diffAvg
  pointwise [avg, differ]
  rw [row_avg v vr _ _ _ (fun j => scores_lo q k qr kr hq hk r j) hv l,
    row_avg v vr _ _ _ (fun j => scores_hi q k qr kr hq hk r j) hv l, hl, ← EReal.coe_mul, ← EReal.coe_sub]

end Finite

/-- The normalisation, gain and gate read at an element. -/
theorem finish_at (o : FVec Ideal S256x128 .f32) (g : FVec Ideal S1x128 .f32) (sz : FVec Ideal S256x128 .bf16) (r : Fin 256) (l : Fin 128) :
    finish o g sz (ix2 r l) = AttnMath.normed (fun x => o (ix2 r x)) (g (ix2 0 l)) (sz (ix2 r l)) l := by
  unfold AttnMath.normed
  pointwise [finish]

/-- The weight's scalar from the four vectors' tiles. -/
theorem lam_at (v v2 v3 v4 : FVec Ideal S1x64 .f32) :
    k0_pay2 (F := Ideal) v v2 v3 v4 (ix2 0 0)
      = AttnMath.lamOf (fun x => v (ix2 0 x)) (fun x => v2 (ix2 0 x)) (fun x => v3 (ix2 0 x)) (fun x => v4 (ix2 0 x)) := by
  unfold AttnMath.lamOf
  pointwise [k0_pay2]

/-- A head at an element, on finite tiles. -/
theorem head_at (q : FVec Ideal S256x128 .f32) (k v : FVec Ideal S256x128 .bf16) (lam : FVec Ideal S1x1 .f32) (g : FVec Ideal S1x128 .f32)
    (sz : FVec Ideal S256x128 .bf16) (qr kr vr : Fin 256 → Fin 128 → ℝ) (lr : ℝ)
    (hq : ∀ r d, q (ix2 r d) = qr r d) (hk : ∀ j d, k (ix2 j d) = kr j d) (hv : ∀ j d, v (ix2 j d) = vr j d)
    (hl : lam (ix2 0 0) = lr) (r : Fin 256) (l : Fin 128) :
    head lam q k v g sz (ix2 r l)
      = AttnMath.normed (fun x => AttnMath.diffAvg (qr r) kr vr lr x) (g (ix2 0 l)) (sz (ix2 r l)) l := by
  unfold head
  rw [finish_at]
  simp only [avg_at q k v lam qr kr vr lr hq hk hv hl]

end Cert.PromptHead

end
-- ==== Proof.PromptPoint.lean ====
module

public import proofs.«01_k».proof.Proof.PromptRef
public import proofs.«01_k».proof.Proof.PromptHead
public import proofs.«01_k».proof.Proof.Core
public import proofs.«01_k».proof.Proof.Gen.AttnPromptIdeal.Value
public import Idealize.ShloMosaic.Lib.Pipeline.ValueKit

@[expose] public section

set_option maxRecDepth 16384

noncomputable section

/-! # The output array of the prompt batch's attention -/

namespace Cert.AttnPromptIdeal.Whole

open Cert.AttnPromptIdeal Cert.AttnPromptIdeal.Gen Idealize.ShloMosaic Idealize.ShloMosaic.TcCoe Idealize.SL.Sem AttnCore

/-- A head's tile over one sequence's rows and one head's columns of the arrays: each element is the reference's. -/
theorem core (a0 : FVec Ideal S8192x1024 .f32) (a1 a2 a3 : FVec Ideal S8192x1024 .bf16) (a4 a5 a6 a7 : FVec Ideal S1x64 .f32) (a8 : FVec Ideal S1x128 .f32)
    (f0 : Finite a0) (f1 : Finite a1) (f2 : Finite a2) (f4 : Finite a4) (f5 : Finite a5) (f6 : Finite a6) (f7 : Finite a7) (b : Fin 32) (h : Fin 8)
    (q : FVec Ideal S256x128 .f32) (k v : FVec Ideal S256x128 .bf16) (lam : FVec Ideal S1x1 .f32) (g : FVec Ideal S1x128 .f32) (sz : FVec Ideal S256x128 .bf16)
    (hq : ∀ (r : Fin 256) (d : Fin 128), q (ix2 r d) = a0 (ix2 ⟨b * 256 + r, by omega⟩ ⟨h * 128 + d, by omega⟩))
    (hk : ∀ (r : Fin 256) (d : Fin 128), k (ix2 r d) = a1 (ix2 ⟨b * 256 + r, by omega⟩ ⟨h * 128 + d, by omega⟩))
    (hv : ∀ (r : Fin 256) (d : Fin 128), v (ix2 r d) = a2 (ix2 ⟨b * 256 + r, by omega⟩ ⟨h * 128 + d, by omega⟩))
    (hs : ∀ (r : Fin 256) (d : Fin 128), sz (ix2 r d) = a3 (ix2 ⟨b * 256 + r, by omega⟩ ⟨h * 128 + d, by omega⟩))
    (hl : lam (ix2 0 0) = AttnMath.lamOf (fun x => a4 (ix2 0 x)) (fun x => a5 (ix2 0 x)) (fun x => a6 (ix2 0 x)) (fun x => a7 (ix2 0 x)))
    (hg : ∀ d : Fin 128, g (ix2 0 d) = a8 (ix2 0 d)) (r : Fin 256) (d : Fin 128) :
    PromptHead.head lam q k v g sz (ix2 r d)
      = PromptRef.attn a0 a1 a2 a3 a4 a5 a6 a7 a8 (ix2 ⟨b * 256 + r, by omega⟩ ⟨h * 128 + d, by omega⟩) := by
  choose r0 e0 using f0
  choose r1 e1 using f1
  choose r2 e2 using f2
  choose r4 e4 using f4
  choose r5 e5 using f5
  choose r6 e6 using f6
  choose r7 e7 using f7
  obtain ⟨lr, hlr⟩ := AttnMath.lamOf_real (fun x => r4 (ix2 0 x)) (fun x => r5 (ix2 0 x)) (fun x => r6 (ix2 0 x)) (fun x => r7 (ix2 0 x))
  have hlr' : AttnMath.lamOf (fun x => a4 (ix2 0 x)) (fun x => a5 (ix2 0 x)) (fun x => a6 (ix2 0 x)) (fun x => a7 (ix2 0 x)) = (lr : EReal) := by
    simp only [e4, e5, e6, e7]; exact hlr
  rw [PromptHead.head_at q k v lam g sz _ _ _ lr (fun r d => (hq r d).trans (e0 _)) (fun j d => (hk j d).trans (e1 _))
    (fun j d => (hv j d).trans (e2 _)) (hl.trans hlr') r d, hg, hs]
  exact (PromptRef.attn_at a0 a1 a2 a3 a4 a5 a6 a7 a8 b h r _ _ _ lr (fun d => e0 _) (fun j d => e1 _) (fun j d => e2 _) hlr' d).symm

variable (m : (ℓ : Loc nD τ sig) → Buf (Elt Ideal) ℓ)

/-- Block indices at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The reference's attention of the kernel's arguments. -/
abbrev ref (c : Dev nD) : FVec Ideal S8192x1024 .bf16 :=
  PromptRef.attn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The staged weight vectors and gains are the arguments, reshaped there and back. -/
theorem V1 (c : Dev nD) (x : Fin 64) : V m c main_v1 (ix2 0 x) = m ((c.tc : Thread nD τ).loc main_arg4) (ix2 0 x) := by
  entry_read; pointwise
/-- The second vector. -/
theorem V3 (c : Dev nD) (x : Fin 64) : V m c main_v3 (ix2 0 x) = m ((c.tc : Thread nD τ).loc main_arg5) (ix2 0 x) := by
  entry_read; pointwise
/-- The third vector. -/
theorem V5 (c : Dev nD) (x : Fin 64) : V m c main_v5 (ix2 0 x) = m ((c.tc : Thread nD τ).loc main_arg6) (ix2 0 x) := by
  entry_read; pointwise
/-- The fourth vector. -/
theorem V7 (c : Dev nD) (x : Fin 64) : V m c main_v7 (ix2 0 x) = m ((c.tc : Thread nD τ).loc main_arg7) (ix2 0 x) := by
  entry_read; pointwise
/-- The gains. -/
theorem V9 (c : Dev nD) (d : Fin 128) : V m c main_v9 (ix2 0 d) = m ((c.tc : Thread nD τ).loc main_arg8) (ix2 0 d) := by
  entry_read; pointwise

/-- The queries' block. -/
theorem blk0 (c : Dev nD) (t : Fin cfg0.N) (r d : Fin 1024) : iblk m c 0 t (ix2 r d)
    = m ((c.tc : Thread nD τ).loc main_arg0) (ix2 ⟨t * 1024 + r, by have := t.isLt; have : cfg0.N = 8 := rfl; omega⟩ d) := by
  blk_point [iblk, V, idx t]
/-- The keys' block. -/
theorem blk1 (c : Dev nD) (t : Fin cfg0.N) (r d : Fin 1024) : iblk m c 1 t (ix2 r d)
    = m ((c.tc : Thread nD τ).loc main_arg1) (ix2 ⟨t * 1024 + r, by have := t.isLt; have : cfg0.N = 8 := rfl; omega⟩ d) := by
  blk_point [iblk, V, idx t]
/-- The values' block. -/
theorem blk2 (c : Dev nD) (t : Fin cfg0.N) (r d : Fin 1024) : iblk m c 2 t (ix2 r d)
    = m ((c.tc : Thread nD τ).loc main_arg2) (ix2 ⟨t * 1024 + r, by have := t.isLt; have : cfg0.N = 8 := rfl; omega⟩ d) := by
  blk_point [iblk, V, idx t]
/-- The gates' block. -/
theorem blk3 (c : Dev nD) (t : Fin cfg0.N) (r d : Fin 1024) : iblk m c 3 t (ix2 r d)
    = m ((c.tc : Thread nD τ).loc main_arg3) (ix2 ⟨t * 1024 + r, by have := t.isLt; have : cfg0.N = 8 := rfl; omega⟩ d) := by
  blk_point [iblk, V, idx t]
/-- The first weight vector's block. -/
theorem blk4 (c : Dev nD) (t : Fin cfg0.N) (x : Fin 64) : iblk m c 4 t (ix2 0 x) = V m c main_v1 (ix2 0 x) := by
  blk_point [iblk, idx t]
/-- The second weight vector's block. -/
theorem blk5 (c : Dev nD) (t : Fin cfg0.N) (x : Fin 64) : iblk m c 5 t (ix2 0 x) = V m c main_v3 (ix2 0 x) := by
  blk_point [iblk, idx t]
/-- The third weight vector's block. -/
theorem blk6 (c : Dev nD) (t : Fin cfg0.N) (x : Fin 64) : iblk m c 6 t (ix2 0 x) = V m c main_v5 (ix2 0 x) := by
  blk_point [iblk, idx t]
/-- The fourth weight vector's block. -/
theorem blk7 (c : Dev nD) (t : Fin cfg0.N) (x : Fin 64) : iblk m c 7 t (ix2 0 x) = V m c main_v7 (ix2 0 x) := by
  blk_point [iblk, idx t]
/-- The gains' block. -/
theorem blk8 (c : Dev nD) (t : Fin cfg0.N) (d : Fin 128) : iblk m c 8 t (ix2 0 d) = V m c main_v9 (ix2 0 d) := by
  blk_point [iblk, idx t]

/-- A whole weight vector, loaded. -/
theorem ld0 (a : Vec Ideal S1x64 .f32) (x : Fin 64) : View.ld a r0_0 (ix2 0 x) = a (ix2 0 x) := by
  refine congrArg a (?_ : r0_0.emb (ix2 0 x) = ix2 0 x)
  blk_ext []

/-- The weight's scalar over the staged vectors. -/
theorem lam_block (c : Dev nD) (t : Fin cfg0.N) :
    k0_pay2 (F := Ideal) (View.ld (iblk m c 4 t) r0_0) (View.ld (iblk m c 5 t) r0_0) (View.ld (iblk m c 6 t) r0_0) (View.ld (iblk m c 7 t) r0_0) (ix2 0 0)
      = AttnMath.lamOf (fun x => m ((c.tc : Thread nD τ).loc main_arg4) (ix2 0 x)) (fun x => m ((c.tc : Thread nD τ).loc main_arg5) (ix2 0 x))
        (fun x => m ((c.tc : Thread nD τ).loc main_arg6) (ix2 0 x)) (fun x => m ((c.tc : Thread nD τ).loc main_arg7) (ix2 0 x)) := by
  refine (PromptHead.lam_at _ _ _ _).trans ?_
  have e4 := funext fun x => (ld0 (iblk m c 4 t) x).trans ((blk4 m c t x).trans (V1 m c x))
  have e5 := funext fun x => (ld0 (iblk m c 5 t) x).trans ((blk5 m c t x).trans (V3 m c x))
  have e6 := funext fun x => (ld0 (iblk m c 6 t) x).trans ((blk6 m c t x).trans (V5 m c x))
  have e7 := funext fun x => (ld0 (iblk m c 7 t) x).trans ((blk7 m c t x).trans (V7 m c x))
  exact congr (congr (congr (congrArg AttnMath.lamOf e4) e5) e6) e7

/-- At an element of the point's output, the head of its sequence and columns, its tiles being the sequence's rows and
    the head's columns of the point's blocks, is the reference's there. -/
theorem blocks_core (c : Dev nD)
    (f0 : Finite (m ((c.tc : Thread nD τ).loc main_arg0))) (f1 : Finite (m ((c.tc : Thread nD τ).loc main_arg1))) (f2 : Finite (m ((c.tc : Thread nD τ).loc main_arg2)))
    (f4 : Finite (m ((c.tc : Thread nD τ).loc main_arg4))) (f5 : Finite (m ((c.tc : Thread nD τ).loc main_arg5)))
    (f6 : Finite (m ((c.tc : Thread nD τ).loc main_arg6))) (f7 : Finite (m ((c.tc : Thread nD τ).loc main_arg7)))
    (t : Fin cfg0.N) (ht : t.val < 8) (y0 y1 : Fin 1024)
    (q : Vec Ideal S256x128 .f32) (k v : Vec Ideal S256x128 .bf16) (g : Vec Ideal S1x128 .f32) (sz : Vec Ideal S256x128 .bf16)
    (hq : ∀ (r : Fin 256) (d : Fin 128), q (ix2 r d) = iblk m c 0 t (ix2 ⟨y0 / 256 * 256 + r, by omega⟩ ⟨y1 / 128 * 128 + d, by omega⟩))
    (hk : ∀ (r : Fin 256) (d : Fin 128), k (ix2 r d) = iblk m c 1 t (ix2 ⟨y0 / 256 * 256 + r, by omega⟩ ⟨y1 / 128 * 128 + d, by omega⟩))
    (hv : ∀ (r : Fin 256) (d : Fin 128), v (ix2 r d) = iblk m c 2 t (ix2 ⟨y0 / 256 * 256 + r, by omega⟩ ⟨y1 / 128 * 128 + d, by omega⟩))
    (hg : ∀ d : Fin 128, g (ix2 0 d) = iblk m c 8 t (ix2 0 d))
    (hs : ∀ (r : Fin 256) (d : Fin 128), sz (ix2 r d) = iblk m c 3 t (ix2 ⟨y0 / 256 * 256 + r, by omega⟩ ⟨y1 / 128 * 128 + d, by omega⟩))
    (x0 : Fin 256) (x1 : Fin 128) (e0 : (x0 : ℕ) = y0 % 256) (e1 : (x1 : ℕ) = y1 % 128) :
    PromptHead.head (k0_pay2 (F := Ideal) (View.ld (iblk m c 4 t) r0_0) (View.ld (iblk m c 5 t) r0_0) (View.ld (iblk m c 6 t) r0_0) (View.ld (iblk m c 7 t) r0_0))
        q k v g sz (ix2 x0 x1)
      = ref m c (ix2 ⟨t * 1024 + y0, by omega⟩ y1) := by
  have row : ∀ r : Fin 256, (⟨t * 1024 + (y0 / 256 * 256 + r), by omega⟩ : Fin 8192) = ⟨(t * 4 + y0 / 256) * 256 + r, by omega⟩ :=
    fun r => Fin.ext (by show t.val * 1024 + (y0.val / 256 * 256 + r.val) = (t.val * 4 + y0.val / 256) * 256 + r.val; omega)
  have here : (ix2 (⟨(t * 4 + y0 / 256) * 256 + x0, by omega⟩ : Fin 8192) (⟨y1 / 128 * 128 + x1, by omega⟩ : Fin 1024)) = ix2 ⟨t * 1024 + y0, by omega⟩ y1 :=
    congrArg₂ ix2 (Fin.ext (by show (t.val * 4 + y0.val / 256) * 256 + x0.val = t.val * 1024 + y0.val; omega)) (Fin.ext (by show y1.val / 128 * 128 + x1.val = y1.val; omega))
  refine (core _ _ _ _ _ _ _ _ _ f0 f1 f2 f4 f5 f6 f7 ⟨t * 4 + y0 / 256, by omega⟩ ⟨y1 / 128, by omega⟩ q k v _ g sz
    (fun r d => ?_) (fun r d => ?_) (fun r d => ?_) (fun r d => ?_) (lam_block m c t) (fun d => (hg d).trans ((blk8 m c t d).trans (V9 m c d)))
    x0 x1).trans (congrArg (ref m c) here)
  · rw [hq, blk0, row]
  · rw [hk, blk1, row]
  · rw [hv, blk2, row]
  · rw [hs, blk3, row]

set_option maxHeartbeats 4000000 in
/-- What point `t` leaves in the output's buffer is the reference's block there, on finite inputs. -/
theorem point (c : Dev nD)
    (f0 : Finite (m ((c.tc : Thread nD τ).loc main_arg0))) (f1 : Finite (m ((c.tc : Thread nD τ).loc main_arg1))) (f2 : Finite (m ((c.tc : Thread nD τ).loc main_arg2)))
    (f4 : Finite (m ((c.tc : Thread nD τ).loc main_arg4))) (f5 : Finite (m ((c.tc : Thread nD τ).loc main_arg5)))
    (f6 : Finite (m ((c.tc : Thread nD τ).loc main_arg6))) (f7 : Finite (m ((c.tc : Thread nD τ).loc main_arg7))) (t : Fin cfg0.N) (y : S1024x1024.Idx) :
    out0_9 (iblk m c 0 t) (iblk m c 1 t) (iblk m c 2 t) (iblk m c 3 t) (iblk m c 4 t) (iblk m c 5 t) (iblk m c 6 t) (iblk m c 7 t) (iblk m c 8 t) y
      = ref m c (((cfg0.win 9).blk t).view.emb y) := by
  have ht : t.val < 8 := lt_of_lt_of_eq t.isLt (by decide)
  idx_vars y
  have go : ((cfg0.win 9).blk t).view.emb (ix2 y0 y1) = ix2 (⟨t * 1024 + y0, by omega⟩ : Fin 8192) y1 := by
    blk_ext [idx t]
  rw [go]
  have fin := blocks_core m c f0 f1 f2 f4 f5 f6 f7 t ht y0 y1
  unfold_out out0_9
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  generalize iblk m c 5 t = b5 at fin ⊢
  generalize iblk m c 6 t = b6 at fin ⊢
  generalize iblk m c 7 t = b7 at fin ⊢
  generalize iblk m c 8 t = b8 at fin ⊢
  canon_tiles x h
  all_goals
    idx_vars x
    refine fin _ _ _ _ _ ?_ ?_ ?_ ?_ ?_ x0 x1 (by omega) (by omega) <;> intros <;> exact congrArg _ (by blk_ext [] : Rect.emb _ _ = _)

/-- The kernel's output array is the reference's attention, on finite inputs. -/
theorem final (c : Dev nD)
    (f0 : Finite (m ((c.tc : Thread nD τ).loc main_arg0))) (f1 : Finite (m ((c.tc : Thread nD τ).loc main_arg1))) (f2 : Finite (m ((c.tc : Thread nD τ).loc main_arg2)))
    (f4 : Finite (m ((c.tc : Thread nD τ).loc main_arg4))) (f5 : Finite (m ((c.tc : Thread nD τ).loc main_arg5)))
    (f6 : Finite (m ((c.tc : Thread nD τ).loc main_arg6))) (f7 : Finite (m ((c.tc : Thread nD τ).loc main_arg7))) :
    (dats m 0 c).arrAt 9 cfg0.N = ref m c := by
  refine (dats m 0 c).arrAt_eq_of_covers 9 _ (by decide +kernel) fun t _ y => ?_
  blk_simp
  rw [after0_9]
  exact point m c f0 f1 f2 f4 f5 f6 f7 t y

end Cert.AttnPromptIdeal.Whole

end
-- ==== Proof.Prompt.lean ====
module

public import proofs.«01_k».proof.Defs
public import proofs.«01_k».proof.Pre_finite_prompt
public import proofs.«01_k».proof.Proof.Gen.AttnPrompt.Frame
public import proofs.«01_k».proof.Proof.Gen.AttnPromptRefIdeal
public import proofs.«01_k».proof.Proof.PromptPoint
public import proofs.«01_k».proof.Proof.Finite
public import Idealize.ShloMosaic.Lib.Claim

@[expose] public section

set_option maxRecDepth 16384

noncomputable section

/-! # The claims about the attention of the prompt batch -/

namespace Cert.Prompt

open Idealize.ShloMosaic Idealize.SL.Sem

/-- The side conditions of the precondition's operations. -/
theorem pre_facts : Cert.Pre_finite_prompt.Facts where
  bcast_S_S8192x1024 := by decide
  reducesTo_S8192x1024_S_d0_1 := by decide
  h_S_ := by decide
  bitsLt_bf16_f32 := by decide
  bcast_S_S1x64 := by decide
  reducesTo_S1x64_S_d0_1 := by decide

open Cert.Pre_finite_prompt in
/-- The predicate holding, every array it names holds real numbers. -/
theorem finite_of_pre [Facts] (a0 : FVec Ideal S8192x1024 .f32) (a1 a2 a3 : FVec Ideal S8192x1024 .bf16)
    (a4 a5 a6 a7 : FVec Ideal S1x64 .f32) (a8 : FVec Ideal S1x128 .f32) (e : fn (F := Ideal) a0 a1 a2 a3 a4 a5 a6 a7 a8 = fun _ => 1#1) :
    AttnCore.Finite a0 ∧ AttnCore.Finite a1 ∧ AttnCore.Finite a2
      ∧ AttnCore.Finite a4 ∧ AttnCore.Finite a5 ∧ AttnCore.Finite a6 ∧ AttnCore.Finite a7 := by
  have e0 := congrFun e (fun a => a.elim0)
  unfold fn fn_part1 fn_part2 at e0
  simp only [andi, IntOp.andi_eq_one] at e0
  obtain ⟨⟨⟨⟨⟨⟨h0, h1⟩, h2⟩, h4⟩, h5⟩, h6⟩, h7⟩ := e0
  have all := @Cert.Pre_finite_inputs.finite_of_all
  exact ⟨all _ _ _ _ _ _ h0, all _ _ _ _ _ _ h1, all _ _ _ _ _ _ h2, all _ _ _ _ _ _ h4, all _ _ _ _ _ _ h5, all _ _ _ _ _ _ h6, all _ _ _ _ _ _ h7⟩

/-- The kernel runs, ends quiescent and leaves its arguments. -/
theorem frame_kernel : quiescent_AttnPrompt (hAttnPrompt := Cert.AttnPrompt.Gen.facts) := fun m ρ _ => Cert.AttnPrompt.Gen.frame m ρ

/-- So does its idealization. -/
theorem frame_ideal : quiescent_AttnPromptIdeal (hAttnPromptIdeal := Cert.AttnPromptIdeal.Gen.facts) := fun m ρ _ => Cert.AttnPromptIdeal.Gen.frame m ρ

/-- In particular on finite inputs. -/
theorem frame_ideal_finite : quiescent_AttnPromptIdeal_pre_finite_prompt (hAttnPromptIdeal := Cert.AttnPromptIdeal.Gen.facts)
    (hPre_finite_prompt := pre_facts) := fun m ρ _ => Cert.AttnPromptIdeal.Gen.frame m ρ

/-- The reference runs, ends quiescent and leaves its arguments. -/
theorem frame_ref : quiescent_AttnPromptRefIdeal (hAttnPromptRefIdeal := Cert.AttnPromptRefIdeal.Gen.facts) := fun m g _ =>
  (θ_run Cert.AttnPromptRefIdeal.defs _ _).mono (fun r h => ⟨fun c => (h c).2, sem_eq_zero_of_no_sems (by decide) r.2⟩)
    (Cert.AttnPromptRefIdeal.Value.run m g)

/-- In particular on finite inputs. -/
theorem frame_ref_finite : quiescent_AttnPromptRefIdeal_pre_finite_prompt (hAttnPromptRefIdeal := Cert.AttnPromptRefIdeal.Gen.facts)
    (hPre_finite_prompt := pre_facts) := fun m g _ => frame_ref m g trivial

/-- The constant named `qscale` is the named real number, at exact arithmetic. -/
theorem preserves : preserves_AttnPrompt_AttnPromptIdeal := IdealRules.named_const.statement _ _ _ _ _ rfl

/-- On finite inputs the kernel and the reference end with the same array. -/
theorem algebraic : algebraic_AttnPromptIdeal_AttnPromptRefIdeal_pre_finite_prompt (hAttnPromptIdeal := Cert.AttnPromptIdeal.Gen.facts)
    (hAttnPromptRefIdeal := Cert.AttnPromptRefIdeal.Gen.facts) (hPre_finite_prompt := pre_facts) := by
  pair_intro
  · run_from Cert.AttnPromptIdeal.Value.run_blocks m g
  · run_from Cert.AttnPromptRefIdeal.Value.run m' g'
    obtain ⟨f0, f1, f2, f4, f5, f6, f7⟩ := @finite_of_pre pre_facts _ _ _ _ _ _ _ _ _ (hpre c)
    obtain ⟨a0, a1, a2, a3, a4, a5, a6, a7, a8⟩ := hagree c
    refine (Cert.PromptRef.result_eq m' c).trans (Eq.trans ?_ (Cert.AttnPromptIdeal.Whole.final m c f0 f1 f2 f4 f5 f6 f7).symm)
    rw [a0, a1, a2, a3, a4, a5, a6, a7, a8]

end Cert.Prompt

end
-- ==== Proof.SampleRef.lean ====
module

public import proofs.«01_k».proof.Proof.RowMath
public import proofs.«01_k».proof.Proof.Gen.OddSampleRefIdeal.Run
public import Idealize.ShloMosaic.Lib.Pointwise

@[expose] public section

set_option maxRecDepth 16384

noncomputable section

/-! # The odd layer's output projection in the reference, stage by stage, sample batch -/

namespace Cert.SampleRef

open Cert.OddSampleRefIdeal Cert.OddSampleRefIdeal.Gen Idealize.ShloMosaic Idealize.ShloMosaic.TcCoe Idealize.SL.Sem Idealize.ShloMosaic.StableHlo

/-- The real part of the transform along each sequence. -/
def mixed (a0 a1 : FVec Ideal S4096x2048 .bf16) (a5 a6 : FVec Ideal S1024x1024 .bf16) : FVec Ideal S4x1024x2048 .f32 :=
  (subf (transpose S4x1024x2048 [0, 2, 1] (Host.dotGeneral dot_S4x1024x2048_S1024x1024_S4x2048x1024_1_1_02_0_n_n none (shapeCast _ (extf .f32 a0 bitsLt_bf16_f32) shapeCasts_S4096x2048_S4x1024x2048) (extf .f32 a5 bitsLt_bf16_f32)) transposes_S4x2048x1024_S4x1024x2048_0_2_1) (transpose S4x1024x2048 [0, 2, 1] (Host.dotGeneral dot_S4x1024x2048_S1024x1024_S4x2048x1024_1_1_02_0_n_n none (shapeCast _ (extf .f32 a1 bitsLt_bf16_f32) shapeCasts_S4096x2048_S4x1024x2048) (extf .f32 a6 bitsLt_bf16_f32)) transposes_S4x2048x1024_S4x1024x2048_0_2_1))

/-- The channels mixed, biased and gated. -/
def gated (y : FVec Ideal S4x1024x2048 .f32) (a2 : FVec Ideal S4096x2048 .bf16) (a7 : FVec Ideal S1x2048x2048 .f32) (a8 : FVec Ideal S1x2048 .f32) : FVec Ideal S4096x2048 .f32 :=
  (mulf (addf (Host.dotGeneral dot_S4096x2048_S2048x2048_S4096x2048_1_0_0_1_n_n none (shapeCast _ y shapeCasts_S4x1024x2048_S4096x2048) (shapeCast _ a7 shapeCasts_S1x2048x2048_S2048x2048)) (broadcastInDim S4096x2048 ![0, 1] bcast_S1x2048_S4096x2048_0_1 (broadcastInDim S1x2048 ![1] bcast_S2048_S1x2048_1 (shapeCast _ a8 shapeCasts_S1x2048_S2048)))) (extf .f32 a2 bitsLt_bf16_f32))

/-- The projection added to the scaled residual, each sequence's own gate before it. -/
def resid (y : FVec Ideal S4096x2048 .f32) (a3 : FVec Ideal S4096x1024 .f32) (a4 : FVec Ideal S48x1x1024 .f32) (a9 : FVec Ideal S1x2048x1024 .f32) : FVec Ideal S4x1024x1024 .f32 :=
  (addf (mulf (broadcastInDim S4x1024x1024 ![] bcast_S_S4x1024x1024 (constant S_ .f32 0x3FB504F3#32)) (shapeCast _ a3 shapeCasts_S4096x1024_S4x1024x1024)) (mulf (broadcastInDim S4x1024x1024 ![0, 1, 2] bcast_S4x1x1024_S4x1024x1024_0_1_2 (broadcastInDim S4x1x1024 ![0, 2] bcast_S4x1024_S4x1x1024_0_2 (shapeCast _ (extractStridedSlice S1x4x1x1024 ![1, 1, 2, 0] (shapeCast _ a4 shapeCasts_S48x1x1024_S2x8x3x1024) slices_S2x8x3x1024_S1x4x1x1024_1_1_2_0) shapeCasts_S1x4x1x1024_S4x1024))) (shapeCast _ (Host.dotGeneral dot_S4096x2048_S2048x1024_S4096x1024_1_0_0_1_n_n none y (shapeCast _ a9 shapeCasts_S1x2048x1024_S2048x1024)) shapeCasts_S4096x1024_S4x1024x1024)))

/-- Rows centred, divided by the root of their variance, with gain and offset. -/
def norm (z : FVec Ideal S4x1024x1024 .f32) (a10 a11 : FVec Ideal S2x1024 .f32) : FVec Ideal S4096x1024 .f32 :=
  shapeCast _ (addf (mulf (mulf (subf z (broadcastInDim S4x1024x1024 ![0, 1, 2] bcast_S4x1024x1_S4x1024x1024_0_1_2 (Host.divf (broadcastInDim S4x1024x1 ![0, 1] bcast_S4x1024_S4x1024x1_0_1 (Host.reduceAdd z (constant S_ .f32 0x00000000#32) reducesTo_S4x1024x1024_S4x1024_d2 h_S_)) (broadcastInDim S4x1024x1 ![] bcast_S_S4x1024x1 (constant S_ .f32 0x44800000#32))))) (broadcastInDim S4x1024x1024 ![0, 1, 2] bcast_S4x1024x1_S4x1024x1024_0_1_2 (Host.rsqrt (addf (Host.divf (broadcastInDim S4x1024x1 ![0, 1] bcast_S4x1024_S4x1024x1_0_1 (Host.reduceAdd (mulf (subf z (broadcastInDim S4x1024x1024 ![0, 1, 2] bcast_S4x1024x1_S4x1024x1024_0_1_2 (Host.divf (broadcastInDim S4x1024x1 ![0, 1] bcast_S4x1024_S4x1024x1_0_1 (Host.reduceAdd z (constant S_ .f32 0x00000000#32) reducesTo_S4x1024x1024_S4x1024_d2 h_S_)) (broadcastInDim S4x1024x1 ![] bcast_S_S4x1024x1 (constant S_ .f32 0x44800000#32))))) (subf z (broadcastInDim S4x1024x1024 ![0, 1, 2] bcast_S4x1024x1_S4x1024x1024_0_1_2 (Host.divf (broadcastInDim S4x1024x1 ![0, 1] bcast_S4x1024_S4x1024x1_0_1 (Host.reduceAdd z (constant S_ .f32 0x00000000#32) reducesTo_S4x1024x1024_S4x1024_d2 h_S_)) (broadcastInDim S4x1024x1 ![] bcast_S_S4x1024x1 (constant S_ .f32 0x44800000#32)))))) (constant S_ .f32 0x00000000#32) reducesTo_S4x1024x1024_S4x1024_d2 h_S_)) (broadcastInDim S4x1024x1 ![] bcast_S_S4x1024x1 (constant S_ .f32 0x44800000#32))) (broadcastInDim S4x1024x1 ![] bcast_S_S4x1024x1 (constant S_ .f32 0x3727C5AC#32)))))) (broadcastInDim S4x1024x1024 ![0, 1, 2] bcast_S1x1x1024_S4x1024x1024_0_1_2 (broadcastInDim S1x1x1024 ![2] bcast_S1024_S1x1x1024_2 (shapeCast _ (extractStridedSlice S1x1024 ![1, 0] a10 slices_S2x1024_S1x1024_1_0) shapeCasts_S1x1024_S1024)))) (broadcastInDim S4x1024x1024 ![0, 1, 2] bcast_S1x1x1024_S4x1024x1024_0_1_2 (broadcastInDim S1x1x1024 ![2] bcast_S1024_S1x1x1024_2 (shapeCast _ (extractStridedSlice S1x1024 ![1, 0] a11 slices_S2x1024_S1x1024_1_0) shapeCasts_S1x1024_S1024)))) shapeCasts_S4x1024x1024_S4096x1024

/-- The reference's result of given inputs: its stages composed. -/
def out (a0 a1 a2 : FVec Ideal S4096x2048 .bf16) (a3 : FVec Ideal S4096x1024 .f32) (a4 : FVec Ideal S48x1x1024 .f32) (a5 a6 : FVec Ideal S1024x1024 .bf16)
    (a7 : FVec Ideal S1x2048x2048 .f32) (a8 : FVec Ideal S1x2048 .f32) (a9 : FVec Ideal S1x2048x1024 .f32) (a10 a11 : FVec Ideal S2x1024 .f32) : FVec Ideal S4096x1024 .f32 :=
  norm (resid (gated (mixed a0 a1 a5 a6) a2 a7 a8) a3 a4 a9) a10 a11

/-- The reference's result is its stages composed. -/
theorem result_eq (m : (ℓ : Loc nD τ sig) → Buf (Elt Ideal) ℓ) (c : Dev nD) :
    Value.res_out0 (F := Ideal) m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Value.res_out0 Value.res_main_v61 out norm resid gated mixed
  rfl

/-- The transform's real part at an element. -/
theorem mixed_at (a0 a1 : FVec Ideal S4096x2048 .bf16) (a5 a6 : FVec Ideal S1024x1024 .bf16) (b : Fin 4) (l : Fin 1024) (c : Fin 2048) :
    mixed a0 a1 a5 a6 (ix3 b l c) = (∑ k : Fin 1024, a5 (ix2 l k) * a0 (ix2 ⟨b * 1024 + k, by omega⟩ c)) - ∑ k : Fin 1024, a6 (ix2 l k) * a1 (ix2 ⟨b * 1024 + k, by omega⟩ c) := by
  have h : mixed a0 a1 a5 a6 (ix3 b l c) = (∑ k : Fin 1024, a0 (ix2 ⟨b * 1024 + k, by omega⟩ c) * a5 (ix2 l k)) - ∑ k : Fin 1024, a1 (ix2 ⟨b * 1024 + k, by omega⟩ c) * a6 (ix2 l k) := by
    pointwise [mixed]
  exact h.trans (congrArg₂ (fun p q : EReal => p - q) (Finset.sum_congr rfl fun k _ => mul_comm (G := EReal) _ _) (Finset.sum_congr rfl fun k _ => mul_comm (G := EReal) _ _))

/-- A gated channel. -/
theorem gated_at (y : FVec Ideal S4x1024x2048 .f32) (a2 : FVec Ideal S4096x2048 .bf16) (a7 : FVec Ideal S1x2048x2048 .f32) (a8 : FVec Ideal S1x2048 .f32)
    (b : Fin 4) (l : Fin 1024) (c : Fin 2048) : gated y a2 a7 a8 (ix2 ⟨b * 1024 + l, by omega⟩ c)
    = ((∑ k : Fin 2048, y (ix3 b l k) * a7 (ix3 0 k c)) + a8 (ix2 0 c)) * a2 (ix2 ⟨b * 1024 + l, by omega⟩ c) := by
  pointwise [gated]

/-- An element of the residual sum. -/
theorem resid_at (y : FVec Ideal S4096x2048 .f32) (a3 : FVec Ideal S4096x1024 .f32) (a4 : FVec Ideal S48x1x1024 .f32) (a9 : FVec Ideal S1x2048x1024 .f32) (b : Fin 4) (l : Fin 1024) (d : Fin 1024) :
    resid y a3 a4 a9 (ix3 b l d) = Ideal.ofBits .f32 0x3FB504F3#32 * a3 (ix2 ⟨b * 1024 + l, by omega⟩ d) + a4 (ix3 ⟨24 + (1 + b) * 3 + 2, by omega⟩ 0 d) * ∑ k : Fin 2048, y (ix2 ⟨b * 1024 + l, by omega⟩ k) * a9 (ix3 0 k d) := by
  pointwise [resid]

/-- An element of the result. -/
theorem norm_at (z : FVec Ideal S4x1024x1024 .f32) (a10 a11 : FVec Ideal S2x1024 .f32) (b : Fin 4) (l : Fin 1024) (d : Fin 1024) :
    norm z a10 a11 (ix2 ⟨b * 1024 + l, by omega⟩ d) = RowMath.lnorm (fun k => z (ix3 b l k)) d * a10 (ix2 1 d) + a11 (ix2 1 d) := by
  unfold RowMath.lnorm RowMath.mean
  pointwise [norm]

/-- The reference at a sequence's row, as the rows' formulas. -/
theorem out_at (a0 a1 a2 : FVec Ideal S4096x2048 .bf16) (a3 : FVec Ideal S4096x1024 .f32) (a4 : FVec Ideal S48x1x1024 .f32) (a5 a6 : FVec Ideal S1024x1024 .bf16)
    (a7 : FVec Ideal S1x2048x2048 .f32) (a8 : FVec Ideal S1x2048 .f32) (a9 : FVec Ideal S1x2048x1024 .f32) (a10 a11 : FVec Ideal S2x1024 .f32)
    (b : Fin 4) (l : Fin 1024) (d : Fin 1024) : out a0 a1 a2 a3 a4 a5 a6 a7 a8 a9 a10 a11 (ix2 ⟨b * 1024 + l, by omega⟩ d)
    = RowMath.lnorm (RowMath.resid (RowMath.gated (fun k => a5 (ix2 l k)) (fun k => a6 (ix2 l k)) (fun k c => a0 (ix2 ⟨b * 1024 + k, by omega⟩ c))
        (fun k c => a1 (ix2 ⟨b * 1024 + k, by omega⟩ c)) (fun k c => a7 (ix3 0 k c)) (fun c => a8 (ix2 0 c)) (fun c => a2 (ix2 ⟨b * 1024 + l, by omega⟩ c)))
        (fun k c => a9 (ix3 0 k c)) (fun c => a3 (ix2 ⟨b * 1024 + l, by omega⟩ c)) (fun c => a4 (ix3 ⟨24 + (1 + b) * 3 + 2, by omega⟩ 0 c))) d * a10 (ix2 1 d) + a11 (ix2 1 d) := by
  unfold out
  rw [norm_at]
  simp only [resid_at, gated_at, mixed_at]
  rfl

end Cert.SampleRef

end
-- ==== Proof.SampleHalf.lean ====
module

public import proofs.«01_k».proof.Proof.RowMath
public import proofs.«01_k».proof.Proof.Gen.OddSampleIdeal.Frame
public import Idealize.ShloMosaic.Lib.Pointwise

@[expose] public section

set_option maxRecDepth 16384

noncomputable section

/-! # Half a block of the odd layer's output projection in the kernel, sample batch -/

namespace Cert.SampleHalf

open Cert.OddSampleIdeal Cert.OddSampleIdeal.Gen Idealize.ShloMosaic Idealize.ShloMosaic.TcCoe Idealize.SL.Sem

/-- The transform's real part, its channels mixed. -/
def mix (cl : FVec Ideal S256x1024 .bf16) (u : FVec Ideal S1024x2048 .bf16) (sl : FVec Ideal S256x1024 .bf16) (s : FVec Ideal S1024x2048 .bf16)
    (w : FVec Ideal S2048x2048 .bf16) : FVec Ideal S256x2048 .f32 := k0_pay7 (F := Ideal) cl u sl s w

/-- The gated channels projected, added to the residual and centred and scaled. -/
def tail (y : FVec Ideal S256x2048 .f32) (b : FVec Ideal S1x2048 .f32) (sz : FVec Ideal S256x2048 .bf16) (x : FVec Ideal S256x1024 .f32)
    (g : FVec Ideal S1x1x1024 .f32) (w2 : FVec Ideal S2048x1024 .bf16) : FVec Ideal S256x1024 .f32 := k0_pay10 (F := Ideal) y b sz x g w2

/-- Half a block's rows of the output, of the whole sequence's transforms. -/
def half (cl sl : FVec Ideal S256x1024 .bf16) (u s : FVec Ideal S1024x2048 .bf16) (sz : FVec Ideal S256x2048 .bf16) (x : FVec Ideal S256x1024 .f32) (g : FVec Ideal S1x1x1024 .f32)
    (w : FVec Ideal S2048x2048 .bf16) (b : FVec Ideal S1x2048 .f32) (w2 : FVec Ideal S2048x1024 .bf16) (lg lb : FVec Ideal S1x1024 .f32) : FVec Ideal S256x1024 .f32 :=
  k0_pay1 (F := Ideal) (k0_pay8 lg) (k0_pay9 lb) (tail (mix cl u sl s w) b sz x g w2)

/-- The first half's store is `half` of its tiles. -/
theorem first (cl sl : FVec Ideal S256x1024 .bf16) (u s : FVec Ideal S1024x2048 .bf16) (sz : FVec Ideal S256x2048 .bf16) (x : FVec Ideal S256x1024 .f32) (g : FVec Ideal S1x1x1024 .f32)
    (w : FVec Ideal S2048x2048 .bf16) (b : FVec Ideal S1x2048 .f32) (w2 : FVec Ideal S2048x1024 .bf16) (lg lb : FVec Ideal S1x1024 .f32) :
    k0_pay6 (F := Ideal) x (k0_pay2 g) (k0_pay3 cl u sl s w b sz w2) (k0_pay4 lg) (k0_pay5 lb) = half cl sl u s sz x g w b w2 lg lb := rfl

/-- So is the second's. -/
theorem second (cl sl : FVec Ideal S256x1024 .bf16) (u s : FVec Ideal S1024x2048 .bf16) (sz : FVec Ideal S256x2048 .bf16) (x : FVec Ideal S256x1024 .f32) (g : FVec Ideal S1x1x1024 .f32)
    (w : FVec Ideal S2048x2048 .bf16) (b : FVec Ideal S1x2048 .f32) (w2 : FVec Ideal S2048x1024 .bf16) (lg lb : FVec Ideal S1x1024 .f32) :
    k0_pay1 (F := Ideal) (k0_pay8 lg) (k0_pay9 lb) (k0_pay10 (k0_pay7 cl u sl s w) b sz x g w2) = half cl sl u s sz x g w b w2 lg lb := rfl

/-- The mixed channels at an element. -/
theorem mix_at (cl : FVec Ideal S256x1024 .bf16) (u : FVec Ideal S1024x2048 .bf16) (sl : FVec Ideal S256x1024 .bf16) (s : FVec Ideal S1024x2048 .bf16)
    (w : FVec Ideal S2048x2048 .bf16) (r : Fin 256) (c : Fin 2048) : mix cl u sl s w (ix2 r c)
    = ∑ k : Fin 2048, ((∑ j : Fin 1024, cl (ix2 r j) * u (ix2 j k)) - ∑ j : Fin 1024, sl (ix2 r j) * s (ix2 j k)) * w (ix2 k c) := by
  pointwise [mix, k0_pay7]

/-- The scaled rows at an element. -/
theorem tail_at (y : FVec Ideal S256x2048 .f32) (b : FVec Ideal S1x2048 .f32) (sz : FVec Ideal S256x2048 .bf16) (x : FVec Ideal S256x1024 .f32)
    (g : FVec Ideal S1x1x1024 .f32) (w2 : FVec Ideal S2048x1024 .bf16) (r : Fin 256) (d : Fin 1024) : tail y b sz x g w2 (ix2 r d)
    = RowMath.lnorm (RowMath.resid (fun c => (y (ix2 r c) + b (ix2 0 c)) * sz (ix2 r c)) (fun k c => w2 (ix2 k c)) (fun c => x (ix2 r c)) (fun c => g (ix3 0 0 c))) d := by
  unfold RowMath.lnorm RowMath.mean RowMath.resid RowMath.lin
  pointwise [tail, k0_pay10]

/-- A half's output at an element, of tiles given by their elements. -/
theorem half_at (cl sl : FVec Ideal S256x1024 .bf16) (u s : FVec Ideal S1024x2048 .bf16) (sz : FVec Ideal S256x2048 .bf16) (x : FVec Ideal S256x1024 .f32) (g : FVec Ideal S1x1x1024 .f32)
    (w : FVec Ideal S2048x2048 .bf16) (b : FVec Ideal S1x2048 .f32) (w2 : FVec Ideal S2048x1024 .bf16) (lg lb : FVec Ideal S1x1024 .f32) (r : Fin 256) (d : Fin 1024) :
    half cl sl u s sz x g w b w2 lg lb (ix2 r d)
    = RowMath.lnorm (RowMath.resid (RowMath.gated (fun k => cl (ix2 r k)) (fun k => sl (ix2 r k)) (fun k c => u (ix2 k c)) (fun k c => s (ix2 k c))
        (fun k c => w (ix2 k c)) (fun c => b (ix2 0 c)) (fun c => sz (ix2 r c))) (fun k c => w2 (ix2 k c)) (fun c => x (ix2 r c)) (fun c => g (ix3 0 0 c))) d
      * lg (ix2 0 d) + lb (ix2 0 d) := by
  have h : ∀ t : FVec Ideal S256x1024 .f32, k0_pay1 (F := Ideal) (k0_pay8 lg) (k0_pay9 lb) t (ix2 r d) = t (ix2 r d) * lg (ix2 0 d) + lb (ix2 0 d) := fun t => by
    pointwise [k0_pay1, k0_pay8, k0_pay9]
  unfold half
  rw [h, tail_at]
  simp only [mix_at]
  rfl

end Cert.SampleHalf

end
-- ==== Proof.SamplePoint.lean ====
module

public import proofs.«01_k».proof.Proof.SampleRef
public import proofs.«01_k».proof.Proof.SampleHalf
public import proofs.«01_k».proof.Proof.Gen.OddSampleIdeal.Value
public import Idealize.ShloMosaic.Lib.Pipeline.ValueKit

@[expose] public section

set_option maxRecDepth 16384

noncomputable section

/-! # The output array of the odd layer's output projection, sample batch -/

namespace Cert.OddSampleIdeal.Whole

open Cert.OddSampleIdeal Cert.OddSampleIdeal.Gen Idealize.ShloMosaic Idealize.ShloMosaic.TcCoe Idealize.SL.Sem

variable (m : (ℓ : Loc nD τ sig) → Buf (Elt Ideal) ℓ)

/-- Block indices at point `t`. -/
theorem idx : ∀ t : Fin cfg0.N, win0_0.index t = ![t.val % 2, 0] ∧ win0_1.index t = ![t.val % 2, 0] ∧ win0_2.index t = ![t.val / 2, 0]
    ∧ win0_3.index t = ![t.val / 2, 0] ∧ win0_4.index t = ![t.val, 0] ∧ win0_5.index t = ![t.val, 0]
    ∧ win0_6.index t = ![24 + (1 + t.val / 2) * 3 + 2, 0, 0] ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- The reference's result of the kernel's arguments. -/
abbrev ref (c : Dev nD) : FVec Ideal S4096x1024 .f32 :=
  SampleRef.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- The staged channel weights. -/
theorem V1 (c : Dev nD) (k : Fin 2048) (d : Fin 2048) : V m c main_v1 (ix2 k d) = m ((c.tc : Thread nD τ).loc main_arg7) (ix3 0 k d) := by
  entry_read; pointwise
/-- The staged bias. -/
theorem V9 (c : Dev nD) (d : Fin 2048) : V m c main_v9 (ix2 0 d) = m ((c.tc : Thread nD τ).loc main_arg8) (ix2 0 d) := by
  entry_read; pointwise
/-- The staged projection weights. -/
theorem V4 (c : Dev nD) (k : Fin 2048) (d : Fin 1024) : V m c main_v4 (ix2 k d) = m ((c.tc : Thread nD τ).loc main_arg9) (ix3 0 k d) := by
  entry_read; pointwise
/-- The staged gain. -/
theorem V10 (c : Dev nD) (d : Fin 1024) : V m c main_v10 (ix2 0 d) = m ((c.tc : Thread nD τ).loc main_arg10) (ix2 1 d) := by
  entry_read; pointwise
/-- The staged offset. -/
theorem V11 (c : Dev nD) (d : Fin 1024) : V m c main_v11 (ix2 0 d) = m ((c.tc : Thread nD τ).loc main_arg11) (ix2 1 d) := by
  entry_read; pointwise

/-- The cosines. -/
theorem blk0 (c : Dev nD) (t : Fin cfg0.N) (l : Fin 512) (k : Fin 1024) : iblk m c 0 t (ix2 l k)
    = m ((c.tc : Thread nD τ).loc main_arg5) (ix2 ⟨t % 2 * 512 + l, by omega⟩ k) := by
  blk_point [iblk, V, idx t]
/-- The sines. -/
theorem blk1 (c : Dev nD) (t : Fin cfg0.N) (l : Fin 512) (k : Fin 1024) : iblk m c 1 t (ix2 l k)
    = m ((c.tc : Thread nD τ).loc main_arg6) (ix2 ⟨t % 2 * 512 + l, by omega⟩ k) := by
  blk_point [iblk, V, idx t]
/-- The cosine transforms' block. -/
theorem blk2 (c : Dev nD) (t : Fin cfg0.N) (r : Fin 1024) (d : Fin 2048) : iblk m c 2 t (ix2 r d)
    = m ((c.tc : Thread nD τ).loc main_arg0) (ix2 ⟨t / 2 * 1024 + r, by have := t.isLt; have : cfg0.N = 8 := rfl; omega⟩ d) := by
  blk_point [iblk, V, idx t]
/-- The sine transforms' block. -/
theorem blk3 (c : Dev nD) (t : Fin cfg0.N) (r : Fin 1024) (d : Fin 2048) : iblk m c 3 t (ix2 r d)
    = m ((c.tc : Thread nD τ).loc main_arg1) (ix2 ⟨t / 2 * 1024 + r, by have := t.isLt; have : cfg0.N = 8 := rfl; omega⟩ d) := by
  blk_point [iblk, V, idx t]
/-- The gates' block. -/
theorem blk4 (c : Dev nD) (t : Fin cfg0.N) (r : Fin 512) (d : Fin 2048) : iblk m c 4 t (ix2 r d)
    = m ((c.tc : Thread nD τ).loc main_arg2) (ix2 ⟨t * 512 + r, by have := t.isLt; have : cfg0.N = 8 := rfl; omega⟩ d) := by
  blk_point [iblk, V, idx t]
/-- The residual's block. -/
theorem blk5 (c : Dev nD) (t : Fin cfg0.N) (r : Fin 512) (d : Fin 1024) : iblk m c 5 t (ix2 r d)
    = m ((c.tc : Thread nD τ).loc main_arg3) (ix2 ⟨t * 512 + r, by have := t.isLt; have : cfg0.N = 8 := rfl; omega⟩ d) := by
  blk_point [iblk, V, idx t]
/-- The modulation's gate. -/
theorem blk6 (c : Dev nD) (t : Fin cfg0.N) (d : Fin 1024) : iblk m c 6 t (ix3 0 0 d)
    = m ((c.tc : Thread nD τ).loc main_arg4) (ix3 ⟨24 + (1 + t / 2) * 3 + 2, by have := t.isLt; have : cfg0.N = 8 := rfl; omega⟩ 0 d) := by
  blk_point [iblk, V, idx t]
/-- The channel weights' block. -/
theorem blk7 (c : Dev nD) (t : Fin cfg0.N) (k d : Fin 2048) : iblk m c 7 t (ix2 k d) = V m c main_v1 (ix2 k d) := by
  blk_point [iblk, idx t]
/-- The bias's block. -/
theorem blk8 (c : Dev nD) (t : Fin cfg0.N) (d : Fin 2048) : iblk m c 8 t (ix2 0 d) = V m c main_v9 (ix2 0 d) := by
  blk_point [iblk, idx t]
/-- The projection weights' block. -/
theorem blk9 (c : Dev nD) (t : Fin cfg0.N) (k : Fin 2048) (d : Fin 1024) : iblk m c 9 t (ix2 k d) = V m c main_v4 (ix2 k d) := by
  blk_point [iblk, idx t]
/-- The gain's block. -/
theorem blk10 (c : Dev nD) (t : Fin cfg0.N) (d : Fin 1024) : iblk m c 10 t (ix2 0 d) = V m c main_v10 (ix2 0 d) := by
  blk_point [iblk, idx t]
/-- The offset's block. -/
theorem blk11 (c : Dev nD) (t : Fin cfg0.N) (d : Fin 1024) : iblk m c 11 t (ix2 0 d) = V m c main_v11 (ix2 0 d) := by
  blk_point [iblk, idx t]

/-- Half a block's tiles being its rows in the point's blocks, its output is the reference's there. -/
theorem core (c : Dev nD) (t : Fin cfg0.N) (ht : t.val < 8) (q : Fin 2)
    (cl sl : Vec Ideal S256x1024 .bf16) (u s : Vec Ideal S1024x2048 .bf16) (sz : Vec Ideal S256x2048 .bf16) (x : Vec Ideal S256x1024 .f32) (g : Vec Ideal S1x1x1024 .f32)
    (w : Vec Ideal S2048x2048 .bf16) (b : Vec Ideal S1x2048 .f32) (w2 : Vec Ideal S2048x1024 .bf16) (lg lb : Vec Ideal S1x1024 .f32)
    (hcl : ∀ (l : Fin 256) (k : Fin 1024), cl (ix2 l k) = iblk m c 0 t (ix2 ⟨q * 256 + l, by omega⟩ k))
    (hsl : ∀ (l : Fin 256) (k : Fin 1024), sl (ix2 l k) = iblk m c 1 t (ix2 ⟨q * 256 + l, by omega⟩ k))
    (hu : ∀ (l : Fin 1024) (k : Fin 2048), u (ix2 l k) = iblk m c 2 t (ix2 l k))
    (hs : ∀ (l : Fin 1024) (k : Fin 2048), s (ix2 l k) = iblk m c 3 t (ix2 l k))
    (hz : ∀ (l : Fin 256) (k : Fin 2048), sz (ix2 l k) = iblk m c 4 t (ix2 ⟨q * 256 + l, by omega⟩ k))
    (hx : ∀ (l : Fin 256) (k : Fin 1024), x (ix2 l k) = iblk m c 5 t (ix2 ⟨q * 256 + l, by omega⟩ k))
    (hg : ∀ k : Fin 1024, g (ix3 0 0 k) = iblk m c 6 t (ix3 0 0 k))
    (hw : ∀ k d : Fin 2048, w (ix2 k d) = iblk m c 7 t (ix2 k d)) (hb : ∀ d : Fin 2048, b (ix2 0 d) = iblk m c 8 t (ix2 0 d))
    (hw2 : ∀ (k : Fin 2048) (d : Fin 1024), w2 (ix2 k d) = iblk m c 9 t (ix2 k d))
    (hlg : ∀ d : Fin 1024, lg (ix2 0 d) = iblk m c 10 t (ix2 0 d)) (hlb : ∀ d : Fin 1024, lb (ix2 0 d) = iblk m c 11 t (ix2 0 d))
    (r : Fin 256) (d : Fin 1024) :
    SampleHalf.half cl sl u s sz x g w b w2 lg lb (ix2 r d) = ref m c (ix2 ⟨t * 512 + (q * 256 + r), by omega⟩ d) := by
  have hrow : ∀ l : Fin 256, (⟨t * 512 + (q * 256 + l), by omega⟩ : Fin 4096)
      = ⟨(⟨t / 2, by omega⟩ : Fin 4) * 1024 + (⟨t % 2 * 512 + (q * 256 + l), by omega⟩ : Fin 1024), by dsimp only; omega⟩ := fun l =>
    Fin.ext (show t.val * 512 + (q.val * 256 + l.val) = t.val / 2 * 1024 + (t.val % 2 * 512 + (q.val * 256 + l.val)) by omega)
  refine (SampleHalf.half_at _ _ _ _ _ _ _ _ _ _ _ _ r d).trans ?_
  rw [hrow r]
  refine Eq.trans ?_ (SampleRef.out_at _ _ _ _ _ _ _ _ _ _ _ _ ⟨t / 2, by omega⟩ ⟨t % 2 * 512 + (q * 256 + r), by omega⟩ d).symm
  have e7 := fun k d => (blk7 m c t k d).trans (V1 m c k d)
  have e8 := fun d => (blk8 m c t d).trans (V9 m c d)
  have e9 := fun k d => (blk9 m c t k d).trans (V4 m c k d)
  have e10 := fun d => (blk10 m c t d).trans (V10 m c d)
  have e11 := fun d => (blk11 m c t d).trans (V11 m c d)
  simp only [hcl, hsl, hu, hs, hz, hx, hg, hw, hb, hw2, hlg, hlb, blk0, blk1, blk2, blk3, blk4, blk5, blk6, e7, e8, e9, e10, e11, hrow]

set_option maxHeartbeats 2000000 in
/-- What point `t` leaves in the output's buffer is the reference's block there. -/
theorem point (c : Dev nD) (t : Fin cfg0.N) (y : S512x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = ref m c (((cfg0.win 12).blk t).view.emb y) := by
  have ht : t.val < 8 := lt_of_lt_of_eq t.isLt (by decide)
  have go : ∀ (q : Fin 2) (x0 : Fin 256) (x1 : Fin 1024), (y 0 : ℕ) = q * 256 + x0 → (y 1 : ℕ) = x1 →
      ((cfg0.win 12).blk t).view.emb y = ix2 (⟨t * 512 + (q * 256 + x0), by omega⟩ : Fin 4096) x1 := by
    intro q x0 x1 e0 e1
    blk_ext [idx t]
  have fin := fun q => core m c t ht q
  unfold out0_12
  generalize iblk m c 0 t = b0 at fin ⊢
  generalize iblk m c 1 t = b1 at fin ⊢
  generalize iblk m c 2 t = b2 at fin ⊢
  generalize iblk m c 3 t = b3 at fin ⊢
  generalize iblk m c 4 t = b4 at fin ⊢
  generalize iblk m c 5 t = b5 at fin ⊢
  generalize iblk m c 6 t = b6 at fin ⊢
  generalize iblk m c 7 t = b7 at fin ⊢
  generalize iblk m c 8 t = b8 at fin ⊢
  generalize iblk m c 9 t = b9 at fin ⊢
  generalize iblk m c 10 t = b10 at fin ⊢
  generalize iblk m c 11 t = b11 at fin ⊢
  canon_tiles x h
  · idx_vars x
    refine (congrFun (SampleHalf.second _ _ _ _ _ _ _ _ _ _ _ _) (ix2 x0 x1)).trans ((fin 1 _ _ _ _ _ _ _ _ _ _ _ _
      ?_ ?_ ?_ ?_ ?_ ?_ ?_ ?_ ?_ ?_ ?_ ?_ x0 x1).trans (congrArg (ref m c) (go 1 x0 x1 h0 h1)).symm) <;> intros <;> exact congrArg _ (by blk_ext [] : Rect.emb _ _ = _)
  · idx_vars x
    refine (congrFun (SampleHalf.first _ _ _ _ _ _ _ _ _ _ _ _) (ix2 x0 x1)).trans ((fin 0 _ _ _ _ _ _ _ _ _ _ _ _
      ?_ ?_ ?_ ?_ ?_ ?_ ?_ ?_ ?_ ?_ ?_ ?_ x0 x1).trans (congrArg (ref m c) (go 0 x0 x1 (h0.trans (Nat.zero_add _).symm) h1)).symm) <;> intros <;> exact congrArg _ (by blk_ext [] : Rect.emb _ _ = _)

/-- The kernel's output array is the reference's result. -/
theorem final (c : Dev nD) : (dats m 0 c).arrAt 12 cfg0.N = ref m c := by
  refine (dats m 0 c).arrAt_eq_of_covers 12 _ (by decide +kernel) fun t _ y => ?_
  blk_simp
  rw [after0_12]
  exact point m c t y

end Cert.OddSampleIdeal.Whole

end
-- ==== Proof.Sample.lean ====
module

public import proofs.«01_k».proof.Defs
public import proofs.«01_k».proof.Proof.Gen.OddSample.Frame
public import proofs.«01_k».proof.Proof.Gen.OddSampleRefIdeal
public import proofs.«01_k».proof.Proof.SamplePoint
public import Idealize.ShloMosaic.Lib.Claim

@[expose] public section

set_option maxRecDepth 16384

noncomputable section

/-! # The claims about the odd layer's output projection, sample batch -/

namespace Cert.Sample

open Idealize.ShloMosaic Idealize.SL.Sem

/-- The kernel runs, ends quiescent and leaves its arguments. -/
theorem frame_kernel : quiescent_OddSample (hOddSample := Cert.OddSample.Gen.facts) := fun m ρ _ => Cert.OddSample.Gen.frame m ρ

/-- So does its idealization. -/
theorem frame_ideal : quiescent_OddSampleIdeal (hOddSampleIdeal := Cert.OddSampleIdeal.Gen.facts) := fun m ρ _ => Cert.OddSampleIdeal.Gen.frame m ρ

/-- The reference runs, ends quiescent and leaves its arguments. -/
theorem frame_ref : quiescent_OddSampleRefIdeal (hOddSampleRefIdeal := Cert.OddSampleRefIdeal.Gen.facts) := fun m g _ =>
  (θ_run Cert.OddSampleRefIdeal.defs _ _).mono (fun r h => ⟨fun c => (h c).2, sem_eq_zero_of_no_sems (by decide) r.2⟩)
    (Cert.OddSampleRefIdeal.Value.run m g)

/-- No operation was replaced. -/
theorem preserves : preserves_OddSample_OddSampleIdeal := trivial

/-- The kernel and the reference end with the same array. -/
theorem algebraic : algebraic_OddSampleIdeal_OddSampleRefIdeal (hOddSampleIdeal := Cert.OddSampleIdeal.Gen.facts)
    (hOddSampleRefIdeal := Cert.OddSampleRefIdeal.Gen.facts) := by
  pair_intro
  · run_from Cert.OddSampleIdeal.Value.run_blocks m g
  · run_from Cert.OddSampleRefIdeal.Value.run m' g'
    obtain ⟨a0, a1, a2, a3, a4, a5, a6, a7, a8, a9, a10, a11⟩ := hagree c
    refine (Cert.SampleRef.result_eq m' c).trans (Eq.trans ?_ (Cert.OddSampleIdeal.Whole.final m c).symm)
    rw [a0, a1, a2, a3, a4, a5, a6, a7, a8, a9, a10, a11]

end Cert.Sample

end
-- ==== Proof.lean ====
module

public import proofs.«01_k».proof.Defs
public import proofs.«01_k».proof.Proof.Attention
public import proofs.«01_k».proof.Proof.Even
public import proofs.«01_k».proof.Proof.Odd
public import proofs.«01_k».proof.Proof.Out
public import proofs.«01_k».proof.Proof.Prompt
public import proofs.«01_k».proof.Proof.Sample

@[expose] public section

noncomputable section

namespace Cert.Proof

/-- Every claim of the certificate, each from its own theorem. -/
theorem claim : Cert.Claim := ⟨Cert.Attn.Gen.facts, Cert.AttnIdeal.Gen.facts, Cert.AttnRefIdeal.Gen.facts,
  Cert.EvenIn.Gen.facts, Cert.EvenInIdeal.Gen.facts, Cert.EvenInRefIdeal.Gen.facts,
  Cert.OddOut.Gen.facts, Cert.OddOutIdeal.Gen.facts, Cert.OddOutRefIdeal.Gen.facts,
  Cert.EvenOut.Gen.facts, Cert.EvenOutIdeal.Gen.facts, Cert.EvenOutRefIdeal.Gen.facts,
  Cert.OddSample.Gen.facts, Cert.OddSampleIdeal.Gen.facts, Cert.OddSampleRefIdeal.Gen.facts,
  Cert.AttnPrompt.Gen.facts, Cert.AttnPromptIdeal.Gen.facts, Cert.AttnPromptRefIdeal.Gen.facts, Cert.Pre_finite_inputs.facts, Prompt.pre_facts,
  Attention.frame_kernel, Attention.frame_ideal, Attention.frame_ideal_finite, Attention.frame_ref, Attention.frame_ref_finite,
  Even.frame_kernel, Even.frame_ideal, Even.frame_ref, Odd.frame_kernel, Odd.frame_ideal, Odd.frame_ref,
  Out.frame_kernel, Out.frame_ideal, Out.frame_ref, Sample.frame_kernel, Sample.frame_ideal, Sample.frame_ref,
  Prompt.frame_kernel, Prompt.frame_ideal, Prompt.frame_ideal_finite, Prompt.frame_ref, Prompt.frame_ref_finite,
  Attention.preserves, Attention.algebraic, Even.preserves, Even.algebraic, Odd.preserves, Odd.algebraic,
  Out.preserves, Out.algebraic, Sample.preserves, Sample.algebraic, Prompt.preserves, Prompt.algebraic⟩

end Cert.Proof

end
